-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_scores [hPre_finite_scores : Cert.Pre_finite_scores.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_scores.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite_scores.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_scores [hPre_finite_scores : Cert.Pre_finite_scores.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_scores.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite_scores.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_scores [hKernel8Ideal : Cert.Kernel8Ideal.Facts] [hPre_finite_scores : Cert.Pre_finite_scores.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_scores m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_scores [hReference8Ideal : Cert.Reference8Ideal.Facts] [hPre_finite_scores : Cert.Pre_finite_scores.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_scores m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "per_ln2" .f32 0x3FB8AA3B#32 (((Real.log 2)⁻¹ : ℝ) : EReal)

def algebraic_Kernel8Ideal_Reference8Ideal_pre_finite_scores [hKernel8Ideal : Cert.Kernel8Ideal.Facts] [hReference8Ideal : Cert.Reference8Ideal.Facts] [hPre_finite_scores : Cert.Pre_finite_scores.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_scores m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v13_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v13_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15_0)) (v1 : (c : Dev Cert.Kernel9Ideal.nD) → Buf (Elt Ideal) ((c.tc : Thread Cert.Kernel9Ideal.nD Cert.Kernel9Ideal.τ).loc Cert.Kernel9Ideal.main_v15_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15_0) = v0 c
          ∧ r.2.mem ((c.tc : Thread Cert.Kernel9Ideal.nD Cert.Kernel9Ideal.τ).loc Cert.Kernel9Ideal.main_v15_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v24) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v25_0)) (v1 : (c : Dev Cert.Kernel12Ideal.nD) → Buf (Elt Ideal) ((c.tc : Thread Cert.Kernel12Ideal.nD Cert.Kernel12Ideal.τ).loc Cert.Kernel12Ideal.main_v25_1)) (v2 : (c : Dev Cert.Kernel12Ideal.nD) → Buf (Elt Ideal) ((c.tc : Thread Cert.Kernel12Ideal.nD Cert.Kernel12Ideal.τ).loc Cert.Kernel12Ideal.main_v25_2)) (v3 : (c : Dev Cert.Kernel12Ideal.nD) → Buf (Elt Ideal) ((c.tc : Thread Cert.Kernel12Ideal.nD Cert.Kernel12Ideal.τ).loc Cert.Kernel12Ideal.main_v25_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v25_0) = v0 c
          ∧ r.2.mem ((c.tc : Thread Cert.Kernel12Ideal.nD Cert.Kernel12Ideal.τ).loc Cert.Kernel12Ideal.main_v25_1) = v1 c
          ∧ r.2.mem ((c.tc : Thread Cert.Kernel12Ideal.nD Cert.Kernel12Ideal.τ).loc Cert.Kernel12Ideal.main_v25_2) = v2 c
          ∧ r.2.mem ((c.tc : Thread Cert.Kernel12Ideal.nD Cert.Kernel12Ideal.τ).loc Cert.Kernel12Ideal.main_v25_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v54) = v0 c
          ∧ r.2.mem ((c.tc : Thread Cert.Reference12Ideal.nD Cert.Reference12Ideal.τ).loc Cert.Reference12Ideal.main_v55) = v1 c
          ∧ r.2.mem ((c.tc : Thread Cert.Reference12Ideal.nD Cert.Reference12Ideal.τ).loc Cert.Reference12Ideal.main_v56) = v2 c
          ∧ r.2.mem ((c.tc : Thread Cert.Reference12Ideal.nD Cert.Reference12Ideal.τ).loc Cert.Reference12Ideal.main_v57) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_scores (hKernel8Ideal := hKernel8Ideal) (hPre_finite_scores := hPre_finite_scores)
    ∧ quiescent_Reference8Ideal (hReference8Ideal := hReference8Ideal)
    ∧ quiescent_Reference8Ideal_pre_finite_scores (hReference8Ideal := hReference8Ideal) (hPre_finite_scores := hPre_finite_scores)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_scores (hKernel8Ideal := hKernel8Ideal) (hReference8Ideal := hReference8Ideal) (hPre_finite_scores := hPre_finite_scores)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x1024 : S_.BroadcastsInDim S8192x1024 (![] : Fin 0 → Fin S8192x1024.rank)

variable [Facts]

def fn {F : FTy → Type} [FloatOps F] (main_arg0 : FVec F S8192x8x192 .f32) (main_arg1 : FVec F S8192x8x192 .f32) (main_arg2 : FVec F S8192x8x128 .f32) (main_arg3 : FVec F S8192x1024 .f32) : IVec S8192x8x192 1 × IVec S8192x8x192 1 × IVec S8192x8x128 1 × IVec S8192x1024 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_scores.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)

variable [Facts]

def fn {F : FTy → Type} [FloatOps F] (main_arg0 : FVec F S8192x8x192 .f32) (main_arg1 : FVec F S8192x8x192 .f32) (main_arg2 : FVec F S8192x8x128 .f32) : IVec S8192x8x192 1 × IVec S8192x8x192 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  (main_v2, main_v5)
-- ==== Kernel.lean ====
abbrev S8192x8x192 : Shape := ⟨3, ![8192, 8, 192]⟩
abbrev S8192x8x128 : Shape := ⟨3, ![8192, 8, 128]⟩
abbrev S8192x1024 : Shape := ⟨2, ![8192, 1024]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x128 : Shape := ⟨3, ![8, 8192, 128]⟩
abbrev S8x8x1024x192 : Shape := ⟨4, ![8, 8, 1024, 192]⟩
abbrev S8x8x192x1024 : Shape := ⟨4, ![8, 8, 192, 1024]⟩
abbrev S8x2x1x4096 : Shape := ⟨4, ![8, 2, 1, 4096]⟩
abbrev S8x2x192x4096 : Shape := ⟨4, ![8, 2, 192, 4096]⟩
abbrev S1x8192x192 : Shape := ⟨3, ![1, 8192, 192]⟩
abbrev S1x1024x192 : Shape := ⟨3, ![1, 1024, 192]⟩
abbrev S1x1x192x1024 : Shape := ⟨4, ![1, 1, 192, 1024]⟩
abbrev S1x1024x128 : Shape := ⟨3, ![1, 1024, 128]⟩
abbrev S8192x128 : Shape := ⟨2, ![8192, 128]⟩
abbrev S1x2x1x4096 : Shape := ⟨4, ![1, 2, 1, 4096]⟩
abbrev S1x2x192x4096 : Shape := ⟨4, ![1, 2, 192, 4096]⟩
abbrev S1024x192 : Shape := ⟨2, ![1024, 192]⟩
abbrev S192x1024 : Shape := ⟨2, ![192, 1024]⟩
abbrev S1024x128 : Shape := ⟨2, ![1024, 128]⟩
abbrev S1x4096x192 : Shape := ⟨3, ![1, 4096, 192]⟩
abbrev S4096x192 : Shape := ⟨2, ![4096, 192]⟩
abbrev S4096x128 : Shape := ⟨2, ![4096, 128]⟩
abbrev S1024x4096 : Shape := ⟨2, ![1024, 4096]⟩
abbrev S1x1x1x4096 : Shape := ⟨4, ![1, 1, 1, 4096]⟩
abbrev S1x4096 : Shape := ⟨2, ![1, 4096]⟩
abbrev S192x4096 : Shape := ⟨2, ![192, 4096]⟩
abbrev S1x1x192x4096 : Shape := ⟨4, ![1, 1, 192, 4096]⟩

abbrev nBuf : Space → Nat
  | .hbm => 51
  | .vmem => 20
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x128x8192, .f32⟩
  | .hbm, ⟨27, _⟩ => ⟨S8192x8x128, .f32⟩
  | .hbm, ⟨28, _⟩ => ⟨S8192x8x128, .f32⟩
  | .hbm, ⟨29, _⟩ => ⟨S8x8192, .f32⟩
  | .hbm, ⟨30, _⟩ => ⟨S8x8192x192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x8192x192, .f32⟩
  | .hbm, ⟨37, _⟩ => ⟨S8x8192x192, .f32⟩
  | .hbm, ⟨38, _⟩ => ⟨S8x8192x192, .bf16⟩
  | .hbm, ⟨39, _⟩ => ⟨S8x8192x192, .f32⟩
  | .hbm, ⟨40, _⟩ => ⟨S8x8192x192, .bf16⟩
  | .hbm, ⟨41, _⟩ => ⟨S8x8192x128, .f32⟩
  | .hbm, ⟨42, _⟩ => ⟨S8x8192x128, .bf16⟩
  | .hbm, ⟨43, _⟩ => ⟨S8x8x1024x192, .bf16⟩
  | .hbm, ⟨44, _⟩ => ⟨S8x8x192x1024, .bf16⟩
  | .hbm, ⟨45, _⟩ => ⟨S8192x1024, .bf16⟩
  | .hbm, ⟨46, _⟩ => ⟨S8x2x1x4096, .f32⟩
  | .hbm, ⟨47, _⟩ => ⟨S8x2x1x4096, .f32⟩
  | .hbm, ⟨48, _⟩ => ⟨S8x2x192x4096, .f32⟩
  | .hbm, ⟨49, _⟩ => ⟨S8x8192x192, .f32⟩
  | .hbm, ⟨50, _⟩ => ⟨S8x8192x128, .f32⟩
  | .local _ .vmem, ⟨0, _⟩ => ⟨S1x8192x192, .bf16⟩
  | .local _ .vmem, ⟨1, _⟩ => ⟨S1x8192x192, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x1x192x1024, .bf16⟩
  | .local _ .vmem, ⟨5, _⟩ => ⟨S1x1x192x1024, .bf16⟩
  | .local _ .vmem, ⟨6, _⟩ => ⟨S1x1024x128, .bf16⟩
  | .local _ .vmem, ⟨7, _⟩ => ⟨S1x1024x128, .bf16⟩
  | .local _ .vmem, ⟨8, _⟩ => ⟨S8192x128, .bf16⟩
  | .local _ .vmem, ⟨9, _⟩ => ⟨S8192x128, .bf16⟩
  | .local _ .vmem, ⟨10, _⟩ => ⟨S1x2x1x4096, .f32⟩
  | .local _ .vmem, ⟨11, _⟩ => ⟨S1x2x1x4096, .f32⟩
  | .local _ .vmem, ⟨12, _⟩ => ⟨S1x2x1x4096, .f32⟩
  | .local _ .vmem, ⟨13, _⟩ => ⟨S1x2x1x4096, .f32⟩
  | .local _ .vmem, ⟨14, _⟩ => ⟨S1x2x192x4096, .f32⟩
  | .local _ .vmem, ⟨15, _⟩ => ⟨S1x2x192x4096, .f32⟩
  | .local _ .vmem, ⟨16, _⟩ => ⟨S1x1024x192, .f32⟩
  | .local _ .vmem, ⟨17, _⟩ => ⟨S1x1024x192, .f32⟩
  | .local _ .vmem, ⟨18, _⟩ => ⟨S1x1024x128, .f32⟩
  | .local _ .vmem, ⟨19, _⟩ => ⟨S1x1024x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_10 : BitVec 32 := 0#32
  let c2_i32 : BitVec 32 := 2#32
  let v9 : BitVec 32 := Scalar.addi c0_i32_10 c2_i32
  let c1_i32 : BitVec 32 := 1#32
  ⟨c0_i32_10, v9, c1_i32⟩
def k0_mult1 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c4096_i32 : BitVec 32 := 4096#32
  let v17 : BitVec 32 := Scalar.muli arg12 c4096_i32
  v17
def k0_off1 (k0_t1 : Fin k0_t1_loop.trips) : Fin 3 → Nat :=
  let c0_18 : Index := 0#32
  let c0_i32_10 : BitVec 32 := 0#32
  let c1_i32 : BitVec 32 := 1#32
  let arg12 : BitVec 32 := Scf.iv c0_i32_10 c1_i32 k0_t1
  let c4096_i32 : BitVec 32 := 4096#32
  let v17 : BitVec 32 := Scalar.muli arg12 c4096_i32
  let v18 : BitVec 32 := v17
  let v19 : Index := Scalar.indexCast v18
  let c0_19 : Index := 0#32
  ![0, v19.toNat, 0]
def k0_off2 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c4096_i32 : BitVec 32 := 4096#32
  let v17 : BitVec 32 := Scalar.muli arg12 c4096_i32
  let v18 : BitVec 32 := v17
  let v22 : Index := Scalar.indexCast v18
  let c0_20 : Index := 0#32
  ![v22.toNat, 0]
def k0_off3 (k0_t1 : Fin k0_t1_loop.trips) : Fin 4 → Nat :=
  let c0_22 : Index := 0#32
  let c0_i32_10 : BitVec 32 := 0#32
  let c1_i32 : BitVec 32 := 1#32
  let arg12 : BitVec 32 := Scf.iv c0_i32_10 c1_i32 k0_t1
  let v26 : Index := Scalar.indexCast arg12
  let c0_23 : Index := 0#32
  let c0_24 : Index := 0#32
  ![0, v26.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v48 : BitVec 32 := Scalar.extui v0
  let c0_i32_34 : BitVec 32 := 0#32
  let v49 : BitVec 1 := Scalar.cmpi .ne v48 c0_i32_34
  v49

def k0_off4 (k0_t1 : Fin k0_t1_loop.trips) : Fin 4 → Nat :=
  let c0_i32_33 : BitVec 32 := 0#32
  let v53 : Index := Scalar.indexCast c0_i32_33
  let c0_i32_10 : BitVec 32 := 0#32
  let c1_i32 : BitVec 32 := 1#32
  let arg12 : BitVec 32 := Scf.iv c0_i32_10 c1_i32 k0_t1
  let v54 : Index := Scalar.indexCast arg12
  let c0_37 : Index := 0#32
  let c0_38 : Index := 0#32
  ![0, v54.toNat, 0, 0]
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v50 : BitVec 1 := Scalar.xori v0 v_true
  let v51 : BitVec 32 := Scalar.extui v50
  let c0_i32_36 : BitVec 32 := 0#32
  let v52 : BitVec 1 := Scalar.cmpi .ne v51 c0_i32_36
  v52

def k0_off5 (k0_t1 : Fin k0_t1_loop.trips) : Fin 4 → Nat :=
  let c0_i32_35 : BitVec 32 := 0#32
  let v53 : Index := Scalar.indexCast c0_i32_35
  let c0_i32_10 : BitVec 32 := 0#32
  let c1_i32 : BitVec 32 := 1#32
  let arg12 : BitVec 32 := Scf.iv c0_i32_10 c1_i32 k0_t1
  let v54 : Index := Scalar.indexCast arg12
  let c0_37 : Index := 0#32
  let c0_38 : Index := 0#32
  ![0, v54.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x192x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x8x192 : Shape := ⟨3, ![8192, 8, 192]⟩
abbrev S8192x8x128 : Shape := ⟨3, ![8192, 8, 128]⟩
abbrev S8192x1024 : Shape := ⟨2, ![8192, 1024]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S2x4096x8x192 : Shape := ⟨4, ![2, 4096, 8, 192]⟩
abbrev S8x2x192x4096 : Shape := ⟨4, ![8, 2, 192, 4096]⟩
abbrev S8x8192x128 : Shape := ⟨3, ![8, 8192, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .i1⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x128x8192, .f32⟩
  | .hbm, ⟨47, _⟩ => ⟨S8192x8x128, .f32⟩
  | .hbm, ⟨48, _⟩ => ⟨S8192x1024, .f32⟩
  | .hbm, ⟨49, _⟩ => ⟨S8192x8x128, .f32⟩
  | .hbm, ⟨50, _⟩ => ⟨S8x128x8192, .f32⟩
  | .hbm, ⟨51, _⟩ => ⟨S8x8192x8192, .f32⟩
  | .hbm, ⟨52, _⟩ => ⟨S8x128x8192, .f32⟩
  | .hbm, ⟨53, _⟩ => ⟨S8192x8x128, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192x8192, .f32⟩
  | .hbm, ⟨70, _⟩ => ⟨S8x8192x8192, .f32⟩
  | .hbm, ⟨71, _⟩ => ⟨S8x8192x192, .f32⟩
  | .hbm, ⟨72, _⟩ => ⟨S8192x8x192, .f32⟩
  | .hbm, ⟨73, _⟩ => ⟨S8x8192x192, .f32⟩
  | .hbm, ⟨74, _⟩ => ⟨S8192x8x192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192x8x192, .f32⟩
  | .hbm, ⟨81, _⟩ => ⟨S8192x8x192, .f32⟩
  | .hbm, ⟨82, _⟩ => ⟨S2x4096x8x192, .f32⟩
  | .hbm, ⟨83, _⟩ => ⟨S8x2x192x4096, .f32⟩
  | .hbm, ⟨84, _⟩ => ⟨S8x8192x192, .f32⟩
  | .hbm, ⟨85, _⟩ => ⟨S8x8192x128, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel2.lean ====
abbrev S8192x2048 : Shape := ⟨2, ![8192, 2048]⟩
abbrev S2048x6720 : Shape := ⟨2, ![2048, 6720]⟩
abbrev S8192x6720 : Shape := ⟨2, ![8192, 6720]⟩
abbrev S8192x1536 : Shape := ⟨2, ![8192, 1536]⟩
abbrev S8192x8x192 : Shape := ⟨3, ![8192, 8, 192]⟩
abbrev S8192x1024 : Shape := ⟨2, ![8192, 1024]⟩
abbrev S8192x8x128 : Shape := ⟨3, ![8192, 8, 128]⟩
abbrev S8192x8x64 : Shape := ⟨3, ![8192, 8, 64]⟩
abbrev S8192x512 : Shape := ⟨2, ![8192, 512]⟩
abbrev S8192x64 : Shape := ⟨2, ![8192, 64]⟩
abbrev S_ : Shape := ⟨0, ![]⟩
abbrev S8192x192 : Shape := ⟨2, ![8192, 192]⟩
abbrev S8192x6912 : Shape := ⟨2, ![8192, 6912]⟩
abbrev S2048x1536 : Shape := ⟨2, ![2048, 1536]⟩
abbrev S2048x8x192 : Shape := ⟨3, ![2048, 8, 192]⟩
abbrev S2048x2048 : Shape := ⟨2, ![2048, 2048]⟩
abbrev S2048x1024 : Shape := ⟨2, ![2048, 1024]⟩
abbrev S2048x8x128 : Shape := ⟨3, ![2048, 8, 128]⟩
abbrev S2048x8x64 : Shape := ⟨3, ![2048, 8, 64]⟩
abbrev S2048x512 : Shape := ⟨2, ![2048, 512]⟩
abbrev S2048x64 : Shape := ⟨2, ![2048, 64]⟩
abbrev S2048x192 : Shape := ⟨2, ![2048, 192]⟩
abbrev S2048x6912 : Shape := ⟨2, ![2048, 6912]⟩
abbrev S1024x6912 : Shape := ⟨2, ![1024, 6912]⟩
abbrev S256x6912 : Shape := ⟨2, ![256, 6912]⟩
abbrev S1024x256 : Shape := ⟨2, ![1024, 256]⟩

abbrev nBuf : Space → Nat
  | .hbm => 34
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6720, .f32⟩
  | .hbm, ⟨2, _⟩ => ⟨S8192x6720, .f32⟩
  | .hbm, ⟨3, _⟩ => ⟨S8192x1536, .f32⟩
  | .hbm, ⟨4, _⟩ => ⟨S8192x8x192, .f32⟩
  | .hbm, ⟨5, _⟩ => ⟨S8192x2048, .f32⟩
  | .hbm, ⟨6, _⟩ => ⟨S8192x1024, .f32⟩
  | .hbm, ⟨7, _⟩ => ⟨S8192x1536, .f32⟩
  | .hbm, ⟨8, _⟩ => ⟨S8192x8x128, .f32⟩
  | .hbm, ⟨9, _⟩ => ⟨S8192x1024, .f32⟩
  | .hbm, ⟨10, _⟩ => ⟨S8192x8x64, .f32⟩
  | .hbm, ⟨11, _⟩ => ⟨S8192x512, .f32⟩
  | .hbm, ⟨12, _⟩ => ⟨S8192x512, .f32⟩
  | .hbm, ⟨13, _⟩ => ⟨S8192x64, .f32⟩
  | .hbm, ⟨14, _⟩ => ⟨S_, .f32⟩
  | .hbm, ⟨15, _⟩ => ⟨S8192x192, .f32⟩
  | .hbm, ⟨16, _⟩ => ⟨S8192x6912, .f32⟩
  | .hbm, ⟨17, _⟩ => ⟨S8192x6912, .bf16⟩
  | .hbm, ⟨18, _⟩ => ⟨S2048x1536, .f32⟩
  | .hbm, ⟨19, _⟩ => ⟨S2048x8x192, .f32⟩
  | .hbm, ⟨20, _⟩ => ⟨S2048x2048, .f32⟩
  | .hbm, ⟨21, _⟩ => ⟨S2048x1024, .f32⟩
  | .hbm, ⟨22, _⟩ => ⟨S2048x1536, .f32⟩
  | .hbm, ⟨23, _⟩ => ⟨S2048x8x128, .f32⟩
  | .hbm, ⟨24, _⟩ => ⟨S2048x1024, .f32⟩
  | .hbm, ⟨25, _⟩ => ⟨S2048x8x64, .f32⟩
  | .hbm, ⟨26, _⟩ => ⟨S2048x512, .f32⟩
  | .hbm, ⟨27, _⟩ => ⟨S2048x512, .f32⟩
  | .hbm, ⟨28, _⟩ => ⟨S2048x64, .f32⟩
  | .hbm, ⟨29, _⟩ => ⟨S_, .f32⟩
  | .hbm, ⟨30, _⟩ => ⟨S2048x192, .f32⟩
  | .hbm, ⟨31, _⟩ => ⟨S2048x6912, .f32⟩
  | .hbm, ⟨32, _⟩ => ⟨S2048x6912, .bf16⟩
  | .hbm, ⟨33, _⟩ => ⟨S8192x2048, .f32⟩
  | .local _ .vmem, ⟨0, _⟩ => ⟨S1024x6912, .bf16⟩
  | .local _ .vmem, ⟨1, _⟩ => ⟨S1024x6912, .bf16⟩
  | .local _ .vmem, ⟨2, _⟩ => ⟨S256x6912, .bf16⟩
  | .local _ .vmem, ⟨3, _⟩ => ⟨S256x6912, .bf16⟩
  | .local _ .vmem, ⟨4, _⟩ => ⟨S1024x256, .f32⟩
  | .local _ .vmem, ⟨5, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S2048x6720 : Shape := ⟨2, ![2048, 6720]⟩
abbrev S8192x6720 : Shape := ⟨2, ![8192, 6720]⟩
abbrev S6720x2048 : Shape := ⟨2, ![6720, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6720, .f32⟩
  | .hbm, ⟨2, _⟩ => ⟨S8192x6720, .f32⟩
  | .hbm, ⟨3, _⟩ => ⟨S8192x6720, .f32⟩
  | .hbm, ⟨4, _⟩ => ⟨S6720x2048, .f32⟩
  | .hbm, ⟨5, _⟩ => ⟨S2048x6720, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x2048 : Shape := ⟨2, ![8192, 2048]⟩
abbrev S2048x6720 : Shape := ⟨2, ![2048, 6720]⟩
abbrev S8192x6720 : Shape := ⟨2, ![8192, 6720]⟩
abbrev S8192x1536 : Shape := ⟨2, ![8192, 1536]⟩
abbrev S8192x8x192 : Shape := ⟨3, ![8192, 8, 192]⟩
abbrev S8192x1024 : Shape := ⟨2, ![8192, 1024]⟩
abbrev S8192x8x128 : Shape := ⟨3, ![8192, 8, 128]⟩
abbrev S8192x8x64 : Shape := ⟨3, ![8192, 8, 64]⟩
abbrev S8192x512 : Shape := ⟨2, ![8192, 512]⟩
abbrev S8192x64 : Shape := ⟨2, ![8192, 64]⟩
abbrev S_ : Shape := ⟨0, ![]⟩
abbrev S8192x192 : Shape := ⟨2, ![8192, 192]⟩
abbrev S8192x6912 : Shape := ⟨2, ![8192, 6912]⟩
abbrev S2048x6912 : Shape := ⟨2, ![2048, 6912]⟩
abbrev S2048x512 : Shape := ⟨2, ![2048, 512]⟩
abbrev S2048x2304 : Shape := ⟨2, ![2048, 2304]⟩
abbrev S512x2304 : Shape := ⟨2, ![512, 2304]⟩

abbrev nBuf : Space → Nat
  | .hbm => 20
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x6720, .f32⟩
  | .hbm, ⟨2, _⟩ => ⟨S8192x6720, .f32⟩
  | .hbm, ⟨3, _⟩ => ⟨S8192x2048, .bf16⟩
  | .hbm, ⟨4, _⟩ => ⟨S8192x1536, .f32⟩
  | .hbm, ⟨5, _⟩ => ⟨S8192x8x192, .f32⟩
  | .hbm, ⟨6, _⟩ => ⟨S8192x2048, .f32⟩
  | .hbm, ⟨7, _⟩ => ⟨S8192x1024, .f32⟩
  | .hbm, ⟨8, _⟩ => ⟨S8192x1536, .f32⟩
  | .hbm, ⟨9, _⟩ => ⟨S8192x8x128, .f32⟩
  | .hbm, ⟨10, _⟩ => ⟨S8192x1024, .f32⟩
  | .hbm, ⟨11, _⟩ => ⟨S8192x8x64, .f32⟩
  | .hbm, ⟨12, _⟩ => ⟨S8192x512, .f32⟩
  | .hbm, ⟨13, _⟩ => ⟨S8192x512, .f32⟩
  | .hbm, ⟨14, _⟩ => ⟨S8192x64, .f32⟩
  | .hbm, ⟨15, _⟩ => ⟨S_, .f32⟩
  | .hbm, ⟨16, _⟩ => ⟨S8192x192, .f32⟩
  | .hbm, ⟨17, _⟩ => ⟨S8192x6912, .f32⟩
  | .hbm, ⟨18, _⟩ => ⟨S8192x6912, .bf16⟩
  | .hbm, ⟨19, _⟩ => ⟨S2048x6912, .bf16⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S512x2304, .bf16⟩
  | .local _ .vmem, ⟨5, _⟩ => ⟨S512x2304, .bf16⟩
  | .local _ .vmem, ⟨6, _⟩ => ⟨S512x2304, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x6720 : Shape := ⟨2, ![2048, 6720]⟩
abbrev S8192x6720 : Shape := ⟨2, ![8192, 6720]⟩
abbrev S6720x2048 : Shape := ⟨2, ![6720, 2048]⟩
abbrev S2048x1536 : Shape := ⟨2, ![2048, 1536]⟩
abbrev S2048x2048 : Shape := ⟨2, ![2048, 2048]⟩
abbrev S2048x512 : Shape := ⟨2, ![2048, 512]⟩
abbrev S2048x64 : Shape := ⟨2, ![2048, 64]⟩
abbrev S2048x1024 : Shape := ⟨2, ![2048, 1024]⟩
abbrev S2048x8x192 : Shape := ⟨3, ![2048, 8, 192]⟩
abbrev S2048x8x128 : Shape := ⟨3, ![2048, 8, 128]⟩
abbrev S2048x8x64 : Shape := ⟨3, ![2048, 8, 64]⟩
abbrev S_ : Shape := ⟨0, ![]⟩
abbrev S2048x192 : Shape := ⟨2, ![2048, 192]⟩
abbrev S2048x6912 : Shape := ⟨2, ![2048, 6912]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6720, .f32⟩
  | .hbm, ⟨2, _⟩ => ⟨S8192x6720, .f32⟩
  | .hbm, ⟨3, _⟩ => ⟨S8192x6720, .f32⟩
  | .hbm, ⟨4, _⟩ => ⟨S6720x2048, .f32⟩
  | .hbm, ⟨5, _⟩ => ⟨S2048x6720, .f32⟩
  | .hbm, ⟨6, _⟩ => ⟨S8192x2048, .f32⟩
  | .hbm, ⟨7, _⟩ => ⟨S2048x1536, .f32⟩
  | .hbm, ⟨8, _⟩ => ⟨S2048x2048, .f32⟩
  | .hbm, ⟨9, _⟩ => ⟨S2048x1536, .f32⟩
  | .hbm, ⟨10, _⟩ => ⟨S2048x512, .f32⟩
  | .hbm, ⟨11, _⟩ => ⟨S2048x64, .f32⟩
  | .hbm, ⟨12, _⟩ => ⟨S2048x1024, .f32⟩
  | .hbm, ⟨13, _⟩ => ⟨S2048x8x192, .f32⟩
  | .hbm, ⟨14, _⟩ => ⟨S2048x8x128, .f32⟩
  | .hbm, ⟨15, _⟩ => ⟨S2048x8x64, .f32⟩
  | .hbm, ⟨16, _⟩ => ⟨S2048x1024, .f32⟩
  | .hbm, ⟨17, _⟩ => ⟨S2048x512, .f32⟩
  | .hbm, ⟨18, _⟩ => ⟨S_, .f32⟩
  | .hbm, ⟨19, _⟩ => ⟨S2048x192, .f32⟩
  | .hbm, ⟨20, _⟩ => ⟨S2048x6912, .f32⟩
  | .hbm, ⟨21, _⟩ => ⟨S2048x6912, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | .hbm, ⟨4, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .f32⟩
  | .hbm, ⟨4, _⟩ => ⟨S2048x256, .f32⟩
  | .hbm, ⟨5, _⟩ => ⟨S256x2048, .f32⟩
  | .hbm, ⟨6, _⟩ => ⟨S8192x256, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x8x192 : Shape := ⟨3, ![8192, 8, 192]⟩
abbrev S8192x8x128 : Shape := ⟨3, ![8192, 8, 128]⟩
abbrev S8x8192x192 : Shape := ⟨3, ![8, 8192, 192]⟩
abbrev S_ : Shape := ⟨0, ![]⟩
abbrev S8x8192x128 : Shape := ⟨3, ![8, 8192, 128]⟩
abbrev S8x1x8192x128 : Shape := ⟨4, ![8, 1, 8192, 128]⟩
abbrev S8x1x128x8192 : Shape := ⟨4, ![8, 1, 128, 8192]⟩
abbrev S8192x1024 : Shape := ⟨2, ![8192, 1024]⟩
abbrev S8x2x1x4096 : Shape := ⟨4, ![8, 2, 1, 4096]⟩
abbrev S1x512x192 : Shape := ⟨3, ![1, 512, 192]⟩
abbrev S1x8192x192 : Shape := ⟨3, ![1, 8192, 192]⟩
abbrev S1x1x128x8192 : Shape := ⟨4, ![1, 1, 128, 8192]⟩
abbrev S512x128 : Shape := ⟨2, ![512, 128]⟩
abbrev S1x1x1x512 : Shape := ⟨4, ![1, 1, 1, 512]⟩
abbrev S512x192 : Shape := ⟨2, ![512, 192]⟩
abbrev S1x512 : Shape := ⟨2, ![1, 512]⟩
abbrev S128x512 : Shape := ⟨2, ![128, 512]⟩
abbrev S8192x192 : Shape := ⟨2, ![8192, 192]⟩
abbrev S8192x512 : Shape := ⟨2, ![8192, 512]⟩
abbrev S512 : Shape := ⟨1, ![512]⟩
abbrev S128x8192 : Shape := ⟨2, ![128, 8192]⟩

abbrev nBuf : Space → Nat
  | .hbm => 20
  | .vmem => 10
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x192, .f32⟩
  | .hbm, ⟨10, _⟩ => ⟨S8x8192x192, .f32⟩
  | .hbm, ⟨11, _⟩ => ⟨S8x8192x192, .bf16⟩
  | .hbm, ⟨12, _⟩ => ⟨S8x8192x192, .f32⟩
  | .hbm, ⟨13, _⟩ => ⟨S8x8192x192, .bf16⟩
  | .hbm, ⟨14, _⟩ => ⟨S8x8192x128, .f32⟩
  | .hbm, ⟨15, _⟩ => ⟨S8x8192x128, .bf16⟩
  | .hbm, ⟨16, _⟩ => ⟨S8x1x8192x128, .bf16⟩
  | .hbm, ⟨17, _⟩ => ⟨S8x1x128x8192, .bf16⟩
  | .hbm, ⟨18, _⟩ => ⟨S8192x1024, .f32⟩
  | .hbm, ⟨19, _⟩ => ⟨S8x2x1x4096, .f32⟩
  | .local _ .vmem, ⟨0, _⟩ => ⟨S1x512x192, .bf16⟩
  | .local _ .vmem, ⟨1, _⟩ => ⟨S1x512x192, .bf16⟩
  | .local _ .vmem, ⟨2, _⟩ => ⟨S1x8192x192, .bf16⟩
  | .local _ .vmem, ⟨3, _⟩ => ⟨S1x8192x192, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  let c8192_i32 : BitVec 32 := 8192#32
  let v5 : BitVec 32 := Scalar.muli c0_i32 c8192_i32
  v5
def k0_off1 : Fin 3 → Nat :=
  let c0_4 : Index := 0#32
  let c0_i32 : BitVec 32 := 0#32
  let c8192_i32 : BitVec 32 := 8192#32
  let v5 : BitVec 32 := Scalar.muli c0_i32 c8192_i32
  let v6 : BitVec 32 := v5
  let v7 : Index := Scalar.indexCast v6
  let c0_5 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel8Ideal.lean ====
variable {F : FTy → Type} [FloatOps F] [Named F]
def κ : String → Option EReal := fun
  | "per_ln2" => some (((Real.log 2)⁻¹ : ℝ) : EReal)
  | _ => none
-- ==== Reference8Ideal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8x2x1x4096 : Shape := ⟨4, ![8, 2, 1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x128x8192, .f32⟩
  | .hbm, ⟨41, _⟩ => ⟨S8192x8x128, .f32⟩
  | .hbm, ⟨42, _⟩ => ⟨S8192x1024, .f32⟩
  | .hbm, ⟨43, _⟩ => ⟨S8x2x1x4096, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S2048x6720 : Shape := ⟨2, ![2048, 6720]⟩
abbrev S1x2048 : Shape := ⟨2, ![1, 2048]⟩
abbrev S2048x1536 : Shape := ⟨2, ![2048, 1536]⟩
abbrev S2048x8x192 : Shape := ⟨3, ![2048, 8, 192]⟩
abbrev S2048x2048 : Shape := ⟨2, ![2048, 2048]⟩
abbrev S2048x1024 : Shape := ⟨2, ![2048, 1024]⟩
abbrev S2048x8x128 : Shape := ⟨3, ![2048, 8, 128]⟩
abbrev S2048x8x64 : Shape := ⟨3, ![2048, 8, 64]⟩
abbrev S2048x512 : Shape := ⟨2, ![2048, 512]⟩
abbrev S2048x64 : Shape := ⟨2, ![2048, 64]⟩
abbrev S_ : Shape := ⟨0, ![]⟩
abbrev S2048x192 : Shape := ⟨2, ![2048, 192]⟩
abbrev S2048x6912 : Shape := ⟨2, ![2048, 6912]⟩
abbrev S8192x6912 : Shape := ⟨2, ![8192, 6912]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 21
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6720, .f32⟩
  | .hbm, ⟨3, _⟩ => ⟨S1x2048, .f32⟩
  | .hbm, ⟨4, _⟩ => ⟨S2048x1536, .f32⟩
  | .hbm, ⟨5, _⟩ => ⟨S2048x8x192, .f32⟩
  | .hbm, ⟨6, _⟩ => ⟨S2048x2048, .f32⟩
  | .hbm, ⟨7, _⟩ => ⟨S2048x1024, .f32⟩
  | .hbm, ⟨8, _⟩ => ⟨S2048x1536, .f32⟩
  | .hbm, ⟨9, _⟩ => ⟨S2048x8x128, .f32⟩
  | .hbm, ⟨10, _⟩ => ⟨S2048x1024, .f32⟩
  | .hbm, ⟨11, _⟩ => ⟨S2048x8x64, .f32⟩
  | .hbm, ⟨12, _⟩ => ⟨S2048x512, .f32⟩
  | .hbm, ⟨13, _⟩ => ⟨S2048x512, .f32⟩
  | .hbm, ⟨14, _⟩ => ⟨S2048x64, .f32⟩
  | .hbm, ⟨15, _⟩ => ⟨S_, .f32⟩
  | .hbm, ⟨16, _⟩ => ⟨S2048x192, .f32⟩
  | .hbm, ⟨17, _⟩ => ⟨S2048x6912, .f32⟩
  | .hbm, ⟨18, _⟩ => ⟨S2048x6912, .bf16⟩
  | .hbm, ⟨19, _⟩ => ⟨S8192x6912, .bf16⟩
  | .hbm, ⟨20, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .bf16⟩
  | .local _ .vmem, ⟨6, _⟩ => ⟨S1024x768, .bf16⟩
  | .local _ .vmem, ⟨7, _⟩ => ⟨S1024x2048, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S8192x2048 : Shape := ⟨2, ![8192, 2048]⟩
abbrev S2048 : Shape := ⟨1, ![2048]⟩
abbrev S2048x6720 : Shape := ⟨2, ![2048, 6720]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6720 : Shape := ⟨2, ![8192, 6720]⟩
abbrev S8192x1536 : Shape := ⟨2, ![8192, 1536]⟩
abbrev S8192x512 : Shape := ⟨2, ![8192, 512]⟩
abbrev S8192x64 : Shape := ⟨2, ![8192, 64]⟩
abbrev S8192x1024 : Shape := ⟨2, ![8192, 1024]⟩
abbrev S8192x8x192 : Shape := ⟨3, ![8192, 8, 192]⟩
abbrev S8192x8x128 : Shape := ⟨3, ![8192, 8, 128]⟩
abbrev S8192x8x64 : Shape := ⟨3, ![8192, 8, 64]⟩
abbrev S8192x192 : Shape := ⟨2, ![8192, 192]⟩
abbrev S8192x6912 : Shape := ⟨2, ![8192, 6912]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6720, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6720, .f32⟩
  | .hbm, ⟨20, _⟩ => ⟨S8192x1536, .f32⟩
  | .hbm, ⟨21, _⟩ => ⟨S8192x2048, .f32⟩
  | .hbm, ⟨22, _⟩ => ⟨S8192x1536, .f32⟩
  | .hbm, ⟨23, _⟩ => ⟨S8192x512, .f32⟩
  | .hbm, ⟨24, _⟩ => ⟨S8192x64, .f32⟩
  | .hbm, ⟨25, _⟩ => ⟨S8192x1024, .f32⟩
  | .hbm, ⟨26, _⟩ => ⟨S8192x8x192, .f32⟩
  | .hbm, ⟨27, _⟩ => ⟨S8192x8x128, .f32⟩
  | .hbm, ⟨28, _⟩ => ⟨S8192x8x64, .f32⟩
  | .hbm, ⟨29, _⟩ => ⟨S8192x1024, .f32⟩
  | .hbm, ⟨30, _⟩ => ⟨S8192x512, .f32⟩
  | .hbm, ⟨31, _⟩ => ⟨S_, .f32⟩
  | .hbm, ⟨32, _⟩ => ⟨S8192x192, .f32⟩
  | .hbm, ⟨33, _⟩ => ⟨S8192x6912, .f32⟩
  | .hbm, ⟨34, _⟩ => ⟨S8192x6912, .bf16⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S2048x2048, .bf16⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c2048_i32 : BitVec 32 := 2048#32
  let v14 : BitVec 32 := Scalar.muli arg1 c2048_i32
  v14
def k0_off1 (i : grid0.Coords) : Fin 2 → Nat :=
  let c0_9 : Index := 0#32
  let arg1 : BitVec 32 := BitVec.ofNat 32 (i 1).val
  let c2048_i32 : BitVec 32 := 2048#32
  let v14 : BitVec 32 := Scalar.muli arg1 c2048_i32
  let v15 : BitVec 32 := v14
  let v16 : Index := Scalar.indexCast v15
  ![0, v16.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | .hbm, ⟨34, _⟩ => ⟨S8192x2048, .bf16⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel12.lean ====
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 40
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S8192x2048, .f32⟩
  | .hbm, ⟨33, _⟩ => ⟨S8192x2048, .bf16⟩
  | .hbm, ⟨34, _⟩ => ⟨S2048x2048, .bf16⟩
  | .hbm, ⟨35, _⟩ => ⟨S1x2048, .f32⟩
  | .hbm, ⟨36, _⟩ => ⟨S8192x2048, .f32⟩
  | .hbm, ⟨37, _⟩ => ⟨S1x2048, .f32⟩
  | .hbm, ⟨38, _⟩ => ⟨S8192x2048, .bf16⟩
  | .hbm, ⟨39, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_26 : BitVec 32 := 0#32
  let v60 : BitVec 1 := Scalar.cmpi .ne v59 c0_i32_26
  v60

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let v_true : BitVec 1 := 1#1
  let v61 : BitVec 1 := Scalar.xori v58 v_true
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .bf16⟩
  | .hbm, ⟨75, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel13.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Body.lean ====
/-
  THE BODY OF THE ATTENTION'S GRADIENT, with what it leaves named. At a grid point (head, run of keys) the body goes
  twice round its loop over the runs of queries, carrying the gradients by the keys and by the values, and puts one
  row of the gradient by the queries down per trip: as it is at the head's first run of keys, added to what stands
  there at the later ones. This file says what the three outputs hold after the body as functions of the blocks it
  reads (`dqtOut`, `dkOut`, `dvOut`) and proves the body's triple with them, for any reading of the floats.
-/
module

public import proofs.«01_k».proof.Proof.Gen.KernelIdeal.Frame
public import proofs.«01_k».proof.Proof.Gen.KernelIdeal.Loops
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type} [FloatOps F] [Named F]

local notation "𝕄" => MT nD τ sig Unit (Elt F) ℕ (UR sig nD τ) ℕ

/-! ## What the body computes, of the blocks it reads -/

section Values

variable (x0 : Vec F S1x8192x192 .bf16) (x1 : Vec F S1x1024x192 .bf16) (x2 : Vec F S1x1x192x1024 .bf16)
  (x3 : Vec F S1x1024x128 .bf16) (x4 : Vec F S8192x128 .bf16) (x5 x6 : Vec F S1x2x1x4096 .f32)

/-- Run `k` of the head's queries. -/
def qRows (k : Fin k0_t1_loop.trips) : Vec F S1x4096x192 .bf16 :=
  View.ld x0 (Rect.unit (s := S1x8192x192) (k0_off1 k) S1x4096x192.size (k0_off1_inb k))

/-- Run `k` of the output's gradient. -/
def doRows (k : Fin k0_t1_loop.trips) : Vec F S4096x128 .bf16 :=
  View.ld x4 (Rect.unit (s := S8192x128) (k0_off2 k) S4096x128.size (k0_off2_inb k))

/-- Run `k` of a row statistic. -/
def statRow (x : Vec F S1x2x1x4096 .f32) (k : Fin k0_t1_loop.trips) : Vec F S1x1x1x4096 .f32 :=
  View.ld x (Rect.unit (s := S1x2x1x4096) (k0_off3 k) S1x1x1x4096.size (k0_off3_inb k))

/-- What trip `k` makes of the two carried gradients, by the keys and by the values. -/
def carry (acc : FVec F S1024x192 .f32 × FVec F S1024x128 .f32) (k : Fin k0_t1_loop.trips) :
    FVec F S1024x192 .f32 × FVec F S1024x128 .f32 :=
  (k0_pay13 (k0_pay1 x1) (k0_pay3 x3) acc.1 (qRows x0 k) (doRows x4 k) (statRow x5 k) (statRow x6 k),
    k0_pay12 (k0_pay1 x1) acc.2 (qRows x0 k) (doRows x4 k) (statRow x5 k))

/-- Trip `k`'s part of the gradient by the queries, channels by queries. -/
def dqtPart (k : Fin k0_t1_loop.trips) : FVec F S192x4096 .f32 :=
  k0_pay14 (k0_pay1 x1) (k0_pay2 x2) (k0_pay3 x3) (qRows x0 k) (doRows x4 k) (statRow x5 k) (statRow x6 k)

/-- The first trip. -/
def trip0 : Fin k0_t1_loop.trips := ⟨0, by decide⟩
/-- The second trip. -/
def trip1 : Fin k0_t1_loop.trips := ⟨1, by decide⟩

/-- The trip that handles row `n` of the gradient by the queries. -/
def tripOf (n : ℕ) : Fin k0_t1_loop.trips := if n = 0 then trip0 else trip1

/-- The carried gradients after both trips. -/
def carried : FVec F S1024x192 .f32 × FVec F S1024x128 .f32 :=
  carry x0 x1 x3 x4 x5 x6 (carry x0 x1 x3 x4 x5 x6 (k0_pay4, k0_pay5) trip0) trip1

/-- The block of the gradient by the keys. -/
def dkOut : Vec F S1x1024x192 .f32 := k0_pay6 (carried x0 x1 x3 x4 x5 x6).1

/-- The block of the gradient by the values. -/
def dvOut : Vec F S1x1024x128 .f32 := k0_pay7 (carried x0 x1 x3 x4 x5 x6).2

/-- This run of keys' part of the gradient by the queries, both rows. -/
def dqtBlk : FVec F S1x2x192x4096 .f32 :=
  fun y => dqtPart x0 x1 x2 x3 x4 x5 x6 (tripOf (y 1).val) (ix2 (y 2) (y 3))

/-- The gradient by the queries after the body: this run's part at the head's first run of keys, added to what was
    there at a later one. -/
def dqtOut (i : grid0.Coords) (x7 : FVec F S1x2x192x4096 .f32) : FVec F S1x2x192x4096 .f32 :=
  if (i 1).val = 0 then dqtBlk x0 x1 x2 x3 x4 x5 x6 else addf x7 (dqtBlk x0 x1 x2 x3 x4 x5 x6)

end Values

/-! ## The two conditions -/

theorem cond1_iff (i : grid0.Coords) : k0_cond1 i = 1#1 ↔ (i 1).val = 0 := by
  have h : ∀ b : Fin 8, (Scalar.cmpi .ne (Scalar.extui (Scalar.cmpi .eq (BitVec.ofNat 32 b.val) 0#32) : BitVec 32) 0#32 = 1#1)
      ↔ b.val = 0 := by decide
  exact h (i 1)

theorem cond2_iff (i : grid0.Coords) : k0_cond2 i = 1#1 ↔ ¬(i 1).val = 0 := by
  have h : ∀ b : Fin 8, (Scalar.cmpi .ne (Scalar.extui (Scalar.xori (Scalar.cmpi .eq (BitVec.ofNat 32 b.val) 0#32) 1#1) : BitVec 32) 0#32 = 1#1)
      ↔ ¬b.val = 0 := by decide
  exact h (i 1)

/-! ## The rows of the gradient by the queries -/

/-- A row put down as it is, at an index. -/
theorem pay15_apply (v2 : FVec F S1024x192 .bf16) (v4 : FVec F S192x1024 .bf16) (v6 : FVec F S1024x128 .bf16)
    (v20 : Vec F S1x4096x192 .bf16) (v23 : Vec F S4096x128 .bf16) (v27 v34 : Vec F S1x1x1x4096 .f32) (a : Fin 192) (b : Fin 4096) :
    k0_pay15 v2 v4 v6 v20 v23 v27 v34 (ix4 0 0 a b) = k0_pay14 v2 v4 v6 v20 v23 v27 v34 (ix2 a b) :=
  shapeCast_apply _ _ _ _ (by rw [Shape.rowMajor_val_two, Shape.rowMajor_val_four]; simp)

/-- A row added to what was there, at an index. -/
theorem pay16_apply (v2 : FVec F S1024x192 .bf16) (v4 : FVec F S192x1024 .bf16) (v6 : FVec F S1024x128 .bf16)
    (v20 : Vec F S1x4096x192 .bf16) (v23 : Vec F S4096x128 .bf16) (v27 v34 : Vec F S1x1x1x4096 .f32)
    (v55 : Vec F S1x1x192x4096 .f32) (a : Fin 192) (b : Fin 4096) :
    k0_pay16 v2 v4 v6 v20 v23 v27 v34 v55 (ix4 0 0 a b)
      = FloatOps.addf (v55 (ix4 0 0 a b)) (k0_pay14 v2 v4 v6 v20 v23 v27 v34 (ix2 a b)) := by
  unfold k0_pay16
  refine (shapeCast_apply _ _ _ (ix2 a b) (by rw [Shape.rowMajor_val_two, Shape.rowMajor_val_four]; simp)).trans ?_
  show FloatOps.addf (shapeCast S192x4096 v55 _ (ix2 a b)) _ = _
  rw [shapeCast_apply v55 _ (ix2 a b) (ix4 0 0 a b) (by rw [Shape.rowMajor_val_two, Shape.rowMajor_val_four]; simp)]

/-- Two rows written one after the other, read at an index of the block. -/
theorem read_rows (v : View sig .tc .vmem S1x2x192x4096 .f32) (f : v.ty.Contents (Elt F)) {off1 off0 : Fin 4 → ℕ}
    (h1 : off1 = ![0, 1, 0, 0]) (h0 : off0 = ![0, 0, 0, 0])
    (inb1 : ∀ a, off1 a + S1x1x192x4096.size a ≤ S1x2x192x4096.size a)
    (inb0 : ∀ a, off0 a + S1x1x192x4096.size a ≤ S1x2x192x4096.size a)
    (w1 w0 : S1x1x192x4096.Idx → Elt F .f32) (r : Fin 2) (a : Fin 192) (b : Fin 4096) :
    v.read (Elt F) (v.writes (Elt F) f [⟨Rect.unit (s := S1x2x192x4096) off1 S1x1x192x4096.size inb1, w1⟩,
        ⟨Rect.unit (s := S1x2x192x4096) off0 S1x1x192x4096.size inb0, w0⟩]) (ix4 0 r a b)
      = (if r.val = 0 then w0 else w1) (ix4 0 0 a b) := by
  have hr := r.isLt
  by_cases h : r.val = 0
  · rw [if_pos h, View.read_writes_cons_unit_of_not_mem v f inb1 w1 _ _ h1 1 (.inl (by show r.val < 1; omega)),
      View.read_writes_cons_unit_of_mem v f inb0 w0 [] _ (ix4 0 0 a b) h0 (fun d => by
        match d with
        | ⟨0, _⟩ => rfl
        | ⟨1, _⟩ => exact h
        | ⟨2, _⟩ => exact (Nat.zero_add _).symm
        | ⟨3, _⟩ => exact (Nat.zero_add _).symm)]
  · rw [if_neg h, View.read_writes_cons_unit_of_mem v f inb1 w1 _ _ (ix4 0 0 a b) h1 (fun d => by
        match d with
        | ⟨0, _⟩ => rfl
        | ⟨1, _⟩ => show r.val = 1 + 0; omega
        | ⟨2, _⟩ => exact (Nat.zero_add _).symm
        | ⟨3, _⟩ => exact (Nat.zero_add _).symm)]

/-- One write of a whole block, read back. -/
theorem read_whole {s : Shape} {e : EltTy} (v : View sig .tc .vmem s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w := by
  funext y
  exact View.read_writes_cons_unit_of_mem v f inb w [] y y h (fun a => (Nat.zero_add _).symm)

/-! ## One trip, with what it leaves named -/

section Trip

variable (c : Dev nD) (i : grid0.Coords) (arg2 : Memref sig .tc .vmem S1x8192x192 .bf16) (harg2 : arg2.IsWhole) (arg3 : Memref sig .tc .vmem S1x1024x192 .bf16) (harg3 : arg3.IsWhole) (arg4 : Memref sig .tc .vmem S1x1x192x1024 .bf16) (harg4 : arg4.IsWhole) (arg5 : Memref sig .tc .vmem S1x1024x128 .bf16) (harg5 : arg5.IsWhole)
    (arg6 : Memref sig .tc .vmem S8192x128 .bf16) (harg6 : arg6.IsWhole) (arg7 : Memref sig .tc .vmem S1x2x1x4096 .f32) (harg7 : arg7.IsWhole) (arg8 : Memref sig .tc .vmem S1x2x1x4096 .f32) (harg8 : arg8.IsWhole)
    (arg9 : Memref sig .tc .vmem S1x2x192x4096 .f32) (harg9 : arg9.IsWhole) (arg10 : Memref sig .tc .vmem S1x1024x192 .f32) (harg10 : arg10.IsWhole) (arg11 : Memref sig .tc .vmem S1x1024x128 .f32) (harg11 : arg11.IsWhole)
    (v0 : BitVec 1) (x0 : Vec F S1x8192x192 .bf16) (x1 : Vec F S1x1024x192 .bf16) (x2 : Vec F S1x1x192x1024 .bf16)
    (x3 : Vec F S1x1024x128 .bf16) (x4 : Vec F S8192x128 .bf16) (x5 x6 : Vec F S1x2x1x4096 .f32)

theorem tripR_eq (k : Fin k0_t1_loop.trips) (acc : FVec F S1024x192 .f32 × FVec F S1024x128 .f32) (f : BufTy.Contents (Elt F) arg9.view.ty) :
    tripR_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) k acc f
      = carry x0 x1 x3 x4 x5 x6 acc k := by
  have e : tripR_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) k acc f
      = carry (arg2.view.read (Elt F) (harg2.unread x0)) x1 x3 (arg6.view.read (Elt F) (harg6.unread x4)) (arg7.view.read (Elt F) (harg7.unread x5)) (arg8.view.read (Elt F) (harg8.unread x6)) acc k := by
    unfold tripR_k0_t1 trip_k0_t1; rfl
  rw [e, harg2.read_unread, harg6.read_unread, harg7.read_unread, harg8.read_unread]

theorem tripL_first (h : (i 1).val = 0) (k : Fin k0_t1_loop.trips) (acc : FVec F S1024x192 .f32 × FVec F S1024x128 .f32) (f : BufTy.Contents (Elt F) arg9.view.ty) :
    tripL_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) k acc f
      = [⟨Rect.unit (s := S1x2x192x4096) (k0_off4 k) S1x1x192x4096.size (k0_off4_inb i k ((cond1_iff i).2 h)),
          k0_pay15 (k0_pay1 x1) (k0_pay2 x2) (k0_pay3 x3) (qRows x0 k) (doRows x4 k) (statRow x5 k) (statRow x6 k)⟩] := by
  unfold tripL_k0_t1
  rw [dif_pos ((cond1_iff i).2 h), dif_neg (fun h2 => (cond2_iff i).1 h2 h)]
  have e : (trip_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) k).2.2.1 acc f ((cond1_iff i).2 h) (fun h2 => (cond2_iff i).1 h2 h)
      = [⟨Rect.unit (s := S1x2x192x4096) (k0_off4 k) S1x1x192x4096.size (k0_off4_inb i k ((cond1_iff i).2 h)),
          k0_pay15 (k0_pay1 x1) (k0_pay2 x2) (k0_pay3 x3) (qRows (arg2.view.read (Elt F) (harg2.unread x0)) k) (doRows (arg6.view.read (Elt F) (harg6.unread x4)) k) (statRow (arg7.view.read (Elt F) (harg7.unread x5)) k) (statRow (arg8.view.read (Elt F) (harg8.unread x6)) k)⟩] := by
    unfold trip_k0_t1; rfl
  rw [e, harg2.read_unread, harg6.read_unread, harg7.read_unread, harg8.read_unread]

theorem tripL_later (h : ¬(i 1).val = 0) (k : Fin k0_t1_loop.trips) (acc : FVec F S1024x192 .f32 × FVec F S1024x128 .f32) (f : BufTy.Contents (Elt F) arg9.view.ty) :
    tripL_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) k acc f
      = [⟨Rect.unit (s := S1x2x192x4096) (k0_off5 k) S1x1x192x4096.size (k0_off5_inb i k ((cond2_iff i).2 h)),
          k0_pay16 (k0_pay1 x1) (k0_pay2 x2) (k0_pay3 x3) (qRows x0 k) (doRows x4 k) (statRow x5 k) (statRow x6 k)
            (View.ld (arg9.view.read (Elt F) f) (Rect.unit (s := S1x2x192x4096) (k0_off5 k) S1x1x192x4096.size (k0_off5_inb i k ((cond2_iff i).2 h))))⟩] := by
  unfold tripL_k0_t1
  rw [dif_neg (fun h1 => h ((cond1_iff i).1 h1)), dif_pos ((cond2_iff i).2 h)]
  have e : (trip_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) k).2.1 acc f (fun h1 => h ((cond1_iff i).1 h1)) ((cond2_iff i).2 h)
      = [⟨Rect.unit (s := S1x2x192x4096) (k0_off5 k) S1x1x192x4096.size (k0_off5_inb i k ((cond2_iff i).2 h)),
          k0_pay16 (k0_pay1 x1) (k0_pay2 x2) (k0_pay3 x3) (qRows (arg2.view.read (Elt F) (harg2.unread x0)) k) (doRows (arg6.view.read (Elt F) (harg6.unread x4)) k) (statRow (arg7.view.read (Elt F) (harg7.unread x5)) k) (statRow (arg8.view.read (Elt F) (harg8.unread x6)) k)
            (View.ld (arg9.view.read (Elt F) f) (Rect.unit (s := S1x2x192x4096) (k0_off5 k) S1x1x192x4096.size (k0_off5_inb i k ((cond2_iff i).2 h))))⟩] := by
    unfold trip_k0_t1; rfl
  rw [e, harg2.read_unread, harg6.read_unread, harg7.read_unread, harg8.read_unread]

/-! ## Both trips -/

/-- The carried gradients when the loop ends. -/
theorem loop_carried (G : BufTy.Contents (Elt F) arg9.view.ty) :
    (st_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) G (k0_pay4, k0_pay5) k0_t1_loop.trips).1
      = carried x0 x1 x3 x4 x5 x6 := by
  rw [show k0_t1_loop.trips = trip1.val + 1 from rfl, st_k0_t1_succ]
  dsimp only
  rw [tripR_eq, show trip1.val = trip0.val + 1 from rfl, st_k0_t1_succ]
  dsimp only
  rw [tripR_eq]
  rfl

/-- What the gradient by the queries holds when the loop ends. -/
theorem loop_rows (x7 : FVec F S1x2x192x4096 .f32) :
    arg9.view.read (Elt F) (arg9.view.writes (Elt F) (harg9.unread x7)
      (st_k0_t1 (F := F) Variants.none c none i arg2 harg2 arg3 harg3 arg4 harg4 arg5 harg5 arg6 harg6 arg7 harg7 arg8 harg8 arg9 harg9 arg10 harg10 arg11 harg11 v0 x1 x2 x3 (harg2.unread x0) (harg6.unread x4) (harg7.unread x5) (harg8.unread x6) (harg9.unread x7) (k0_pay4, k0_pay5) k0_t1_loop.trips).2)
      = dqtOut x0 x1 x2 x3 x4 x5 x6 i x7 := by
  rw [show k0_t1_loop.trips = trip1.val + 1 from rfl, st_k0_t1_succ]
  dsimp only
  rw [show trip1.val = trip0.val + 1 from rfl, st_k0_t1_succ]
  dsimp only
  by_cases h : (i 1).val = 0
  · rw [tripL_first (h := h), tripL_first (h := h)]
    funext y
    obtain ⟨z, r, a, b, rfl⟩ : ∃ (z : Fin 1) (r : Fin 2) (a : Fin 192) (b : Fin 4096), y = ix4 z r a b := ⟨_, _, _, _, eq_ix4 y⟩
    obtain rfl : z = 0 := Subsingleton.elim _ _
    refine (read_rows arg9.view _ (by decide) (by decide) _ _ _ _ r a b).trans ?_
    unfold dqtOut dqtBlk
    rw [if_pos h]
    show _ = dqtPart x0 x1 x2 x3 x4 x5 x6 (tripOf r.val) (ix2 a b)
    unfold tripOf
    by_cases hr : r.val = 0
    · rw [if_pos hr, if_pos hr]; exact pay15_apply _ _ _ _ _ _ _ a b
    · rw [if_neg hr, if_neg hr]; exact pay15_apply _ _ _ _ _ _ _ a b
  · rw [tripL_later (h := h), tripL_later (h := h)]
    funext y
    obtain ⟨z, r, a, b, rfl⟩ : ∃ (z : Fin 1) (r : Fin 2) (a : Fin 192) (b : Fin 4096), y = ix4 z r a b := ⟨_, _, _, _, eq_ix4 y⟩
    obtain rfl : z = 0 := Subsingleton.elim _ _
    refine (read_rows arg9.view _ (by decide) (by decide) _ _ _ _ r a b).trans ?_
    unfold dqtOut
    rw [if_neg h]
    show _ = FloatOps.addf (x7 (ix4 0 r a b)) (dqtPart x0 x1 x2 x3 x4 x5 x6 (tripOf r.val) (ix2 a b))
    unfold tripOf
    have hx : arg9.view.read (Elt F) (harg9.unread x7) = x7 := harg9.read_unread (Val := Elt F) x7
    have i0 : (Rect.unit (s := S1x2x192x4096) (k0_off5 trip0) S1x1x192x4096.size (k0_off5_inb i trip0 ((cond2_iff i).2 h))).idx (ix4 0 0 a b) = ix4 0 0 a b := by
      funext d
      refine Fin.ext ?_
      match d with
      | ⟨0, _⟩ => rfl
      | ⟨1, _⟩ => rfl
      | ⟨2, _⟩ => show 0 + 1 * a.val = a.val; omega
      | ⟨3, _⟩ => show 0 + 1 * b.val = b.val; omega
    have i1 : (Rect.unit (s := S1x2x192x4096) (k0_off5 trip1) S1x1x192x4096.size (k0_off5_inb i trip1 ((cond2_iff i).2 h))).idx (ix4 0 0 a b) = ix4 0 1 a b := by
      funext d
      refine Fin.ext ?_
      match d with
      | ⟨0, _⟩ => rfl
      | ⟨1, _⟩ => rfl
      | ⟨2, _⟩ => show 0 + 1 * a.val = a.val; omega
      | ⟨3, _⟩ => show 0 + 1 * b.val = b.val; omega
    by_cases hr : r.val = 0
    · obtain rfl : r = 0 := Fin.ext hr
      rw [if_pos hr, if_pos hr]
      refine (pay16_apply _ _ _ _ _ _ _ _ a b).trans ?_
      unfold View.ld
      rw [i0]
      exact congrArg (fun z => FloatOps.addf z _) (congrFun hx _)
    · obtain rfl : r = 1 := Fin.ext (by have := r.isLt; show r.val = 1; omega)
      rw [if_neg hr, if_neg hr]
      refine (pay16_apply _ _ _ _ _ _ _ _ a b).trans ?_
      unfold View.ld
      rw [i1]
      refine congrArg (fun z => FloatOps.addf z _) ?_
      refine (View.read_writes_cons_unit_of_not_mem arg9.view _ _ _ _ _ (show k0_off5 trip0 = ![0, 0, 0, 0] by decide) 1 (.inr (by show 0 + 1 ≤ 1; decide))).trans ?_
      exact congrFun hx _

end Trip

/-! ## The body -/

set_option maxHeartbeats 1000000 in
/-- The body's triple on whole staging memrefs: the inputs at their contents, the gradient by the queries at what it
    held, the other two outputs at anything; the inputs come back as they were and the outputs at `dqtOut`, `dkOut`,
    `dvOut` of them. -/
theorem body_run (c : Dev nD) (i : grid0.Coords) (arg2 : Memref sig .tc .vmem S1x8192x192 .bf16) (harg2 : arg2.IsWhole) (arg3 : Memref sig .tc .vmem S1x1024x192 .bf16) (harg3 : arg3.IsWhole) (arg4 : Memref sig .tc .vmem S1x1x192x1024 .bf16) (harg4 : arg4.IsWhole) (arg5 : Memref sig .tc .vmem S1x1024x128 .bf16) (harg5 : arg5.IsWhole)
    (arg6 : Memref sig .tc .vmem S8192x128 .bf16) (harg6 : arg6.IsWhole) (arg7 : Memref sig .tc .vmem S1x2x1x4096 .f32) (harg7 : arg7.IsWhole) (arg8 : Memref sig .tc .vmem S1x2x1x4096 .f32) (harg8 : arg8.IsWhole)
    (arg9 : Memref sig .tc .vmem S1x2x192x4096 .f32) (harg9 : arg9.IsWhole) (arg10 : Memref sig .tc .vmem S1x1024x192 .f32) (harg10 : arg10.IsWhole) (arg11 : Memref sig .tc .vmem S1x1024x128 .f32) (harg11 : arg11.IsWhole)
    (x0 : Vec F S1x8192x192 .bf16) (x1 : Vec F S1x1024x192 .bf16) (x2 : Vec F S1x1x192x1024 .bf16)
    (x3 : Vec F S1x1024x128 .bf16) (x4 : Vec F S8192x128 .bf16) (x5 x6 : Vec F S1x2x1x4096 .f32) (x7 : FVec F S1x2x192x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqtOut x0 x1 x2 x3 x4 x5 x6 i x7) ∗ owns (c : Thread nD τ) arg10 fullShare (dkOut x0 x1 x3 x4 x5 x6) ∗ owns (c : Thread nD τ) arg11 fullShare (dvOut x0 x1 x3 x4 x5 x6)) -∗ K ⟨⟩))
          ⊢ wp frame (wpE (defs₀ (F := F)) Variants.none c none) E (cc0_attention_backward i arg2 harg2 arg3 harg3 arg4 harg4 arg5 harg5 arg6 harg6 arg7 harg7 arg8 harg8 arg9 harg9 arg10 harg10 arg11 harg11) K := by
    intro E K
    simp only [cc0_attention_backward_eq_skeleton]; unfold cc0_attention_backward_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    have e1 : View.readAt (Elt F) arg3.view (Rect.unit (s := S1x1024x192) ![0, 0, 0] S1x1024x192.size inb_S1x1024x192_S1x1024x192_0_0_0).toLoadRect (harg3.unread x1) = x1 := by
      rw [View.readAt_eq_ld, harg3.read_unread]; exact View.ld_unit_zero (by decide) _ _
    have e2 : View.readAt (Elt F) arg4.view (Rect.unit (s := S1x1x192x1024) ![0, 0, 0, 0] S1x1x192x1024.size inb_S1x1x192x1024_S1x1x192x1024_0_0_0_0).toLoadRect (harg4.unread x2) = x2 := by
      rw [View.readAt_eq_ld, harg4.read_unread]; exact View.ld_unit_zero (by decide) _ _
    have e3 : View.readAt (Elt F) arg5.view (Rect.unit (s := S1x1024x128) ![0, 0, 0] S1x1024x128.size inb_S1x1024x128_S1x1024x128_0_0_0).toLoadRect (harg5.unread x3) = x3 := by
      rw [View.readAt_eq_ld, harg5.read_unread]; exact View.ld_unit_zero (by decide) _ _
    isplitl [H7]
    · iexists _; isplitr; swap; · iexact H7
      ipureintro
      sl_unfold_words
      rw [e1, e2, e3]
      exact loop_rows c i arg2 harg2 arg3 harg3 arg4 harg4 arg5 harg5 arg6 harg6 arg7 harg7 arg8 harg8 arg9 harg9 arg10 harg10 arg11 harg11 _ x0 x1 x2 x3 x4 x5 x6 x7
    isplitl [H8]
    · iexists _; isplitr; swap; · iexact H8
      ipureintro
      sl_unfold_words
      rw [e1, e2, e3]
      refine (read_whole _ _ (by decide) _ _).trans ?_
      exact congrArg (fun p => k0_pay6 p.1) (loop_carried c i arg2 harg2 arg3 harg3 arg4 harg4 arg5 harg5 arg6 harg6 arg7 harg7 arg8 harg8 arg9 harg9 arg10 harg10 arg11 harg11 _ x0 x1 x2 x3 x4 x5 x6 _)
    iexists _; isplitr; swap; · iexact H9
    ipureintro
    sl_unfold_words
    rw [e1, e2, e3]
    refine (read_whole _ _ (by decide) _ _).trans ?_
    exact congrArg (fun p => k0_pay7 p.2) (loop_carried c i arg2 harg2 arg3 harg3 arg4 harg4 arg5 harg5 arg6 harg6 arg7 harg7 arg8 harg8 arg9 harg9 arg10 harg10 arg11 harg11 _ x0 x1 x2 x3 x4 x5 x6 _)

end Cert.KernelIdeal.Attention

end
-- ==== Proof.Launch.lean ====
/-
  THE RUN OF THE ATTENTION'S GRADIENT. The proof data say what every window's staging buffer holds after each grid
  point: an input its block, the gradients by the keys and by the values this point's block, the gradient by the
  queries the running sum over the head's runs of keys so far. The body's triple (Body.lean) meets the pipeline's
  obligation with them, so the launch runs to its end, the argument arrays unchanged and the counters at zero.
-/
module

public import proofs.«01_k».proof.Proof.Body
public import Idealize.ShloMosaic.Lib.Pipeline.Frame
public import Idealize.ShloMosaic.Lib.Claim

@[expose] public section

set_option maxRecDepth 16384

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid points -/

theorem coords_head (t : Fin cfg0.N) : (grid0.coords t 0).val = t.val / 8 := by
  have h : ∀ t : Fin grid0.N, (grid0.coords t 0).val = t.val / 8 := by decide +kernel
  exact h t

theorem coords_keys (t : Fin cfg0.N) : (grid0.coords t 1).val = t.val % 8 := by
  have h : ∀ t : Fin grid0.N, (grid0.coords t 1).val = t.val % 8 := by decide +kernel
  exact h t

/-! ## What the outputs hold -/

/-- This point's part of the gradient by the queries. -/
abbrev dqtBlkAt (c : Dev nD) (t : Fin cfg0.N) : FVec F S1x2x192x4096 .f32 :=
  dqtBlk (iblk m c 0 t) (iblk m c 1 t) (iblk m c 2 t) (iblk m c 3 t) (iblk m c 4 t) (iblk m c 5 t) (iblk m c 6 t)

/-- The gradient by the queries after point `n`: the running sum over the head's runs of keys. -/
def dqtAt (c : Dev nD) : (n : ℕ) → n < cfg0.N → FVec F S1x2x192x4096 .f32
  | 0, h => dqtBlkAt m c ⟨0, h⟩
  | n + 1, h => if (n + 1) % 8 = 0 then dqtBlkAt m c ⟨n + 1, h⟩
      else addf (dqtAt c n (Nat.lt_of_succ_lt h)) (dqtBlkAt m c ⟨n + 1, h⟩)

/-- At a head's first run of keys the sum starts. -/
theorem dqtAt_first (c : Dev nD) (t : Fin cfg0.N) (h : t.val % 8 = 0) : dqtAt m c t.val t.isLt = dqtBlkAt m c t := by
  obtain ⟨n, hn⟩ := t
  cases n with
  | zero => rfl
  | succ n => exact if_pos h

/-- At a later one the sum grows by the point's part. -/
theorem dqtAt_later (c : Dev nD) (t : Fin cfg0.N) (h : ¬t.val % 8 = 0) :
    dqtAt m c t.val t.isLt
      = addf (dqtAt m c (t.val - 1) (Nat.lt_of_le_of_lt (Nat.sub_le _ _) t.isLt)) (dqtBlkAt m c t) := by
  obtain ⟨n, hn⟩ := t
  cases n with
  | zero => exact absurd rfl h
  | succ n => exact if_neg h

/-! ## The proof data -/

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqtAt m c t.val t.isLt
    | ⟨8, _⟩ => dkOut (iblk m c 0 t) (iblk m c 1 t) (iblk m c 3 t) (iblk m c 4 t) (iblk m c 5 t) (iblk m c 6 t)
    | ⟨9, _⟩ => dvOut (iblk m c 0 t) (iblk m c 1 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqtAt m c t.val t.isLt := by dsimp only [dats]
theorem after_8 (c : Dev nD) (t : Fin cfg0.N) : (dats m 0 c).after 8 t
    = dkOut (iblk m c 0 t) (iblk m c 1 t) (iblk m c 3 t) (iblk m c 4 t) (iblk m c 5 t) (iblk m c 6 t) := by dsimp only [dats]
theorem after_9 (c : Dev nD) (t : Fin cfg0.N) : (dats m 0 c).after 9 t
    = dvOut (iblk m c 0 t) (iblk m c 1 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The gradient by the queries is written at every point: at the first run of keys or added to at a later one. -/
theorem live_7 (i : cfg0.grid.Coords) : cfg0.idle 7 i = false := by
  show (!(k0_cond1 i == 1#1) && !(k0_cond2 i == 1#1)) = false
  by_cases h : (i 1).val = 0
  · rw [(cond1_iff i).mpr h]; rfl
  · rw [(cond2_iff i).mpr h]; simp

/-- What the body makes of what it finds in the gradient by the queries is the running sum. -/
theorem dqtOut_before (c : Dev nD) (t : Fin cfg0.N) (d) :
    dqtOut (iblk m c 0 t) (iblk m c 1 t) (iblk m c 2 t) (iblk m c 3 t) (iblk m c 4 t) (iblk m c 5 t) (iblk m c 6 t)
      (grid0.coords t) ((dats m 0 c).before 7 t d) = dqtAt m c t.val t.isLt := by
  unfold dqtOut
  rw [coords_keys t]
  by_cases h : t.val % 8 = 0
  · rw [if_pos h, dqtAt_first m c t h]
  · have ht : t.val ≠ 0 := fun h0 => h (by rw [h0])
    have hfl : (cfg0.win 7).flush ⟨t.val - 1, Nat.lt_of_le_of_lt (Nat.sub_le _ _) t.isLt⟩ = false := by
      rw [Bool.eq_false_iff]
      intro h7
      have := (flush0_7 _).mp h7
      dsimp only at this
      omega
    rw [if_neg h, (dats m 0 c).before_out_kept 7 rfl t ht hfl live_7 (fun _ _ => rfl) d, after_7, dqtAt_later m c t h]

/-! ## The body's obligation -/

/-- Window 0's staging buffer at point `t`. -/
abbrev buf_0 (t : Fin cfg0.N) : Memref sig .tc .vmem S1x8192x192 .bf16 := win0_0.stage (cfg0.slots t 0)
/-- Window 1's staging buffer at point `t`. -/
abbrev buf_1 (t : Fin cfg0.N) : Memref sig .tc .vmem S1x1024x192 .bf16 := win0_1.stage (cfg0.slots t 1)
/-- Window 2's staging buffer at point `t`. -/
abbrev buf_2 (t : Fin cfg0.N) : Memref sig .tc .vmem S1x1x192x1024 .bf16 := win0_2.stage (cfg0.slots t 2)
/-- Window 3's staging buffer at point `t`. -/
abbrev buf_3 (t : Fin cfg0.N) : Memref sig .tc .vmem S1x1024x128 .bf16 := win0_3.stage (cfg0.slots t 3)
/-- Window 4's staging buffer at point `t`. -/
abbrev buf_4 (t : Fin cfg0.N) : Memref sig .tc .vmem S8192x128 .bf16 := win0_4.stage (cfg0.slots t 4)
/-- Window 5's staging buffer at point `t`. -/
abbrev buf_5 (t : Fin cfg0.N) : Memref sig .tc .vmem S1x2x1x4096 .f32 := win0_5.stage (cfg0.slots t 5)
/-- Window 6's staging buffer at point `t`. -/
abbrev buf_6 (t : Fin cfg0.N) : Memref sig .tc .vmem S1x2x1x4096 .f32 := win0_6.stage (cfg0.slots t 6)
/-- Window 7's staging buffer at point `t`. -/
abbrev buf_7 (t : Fin cfg0.N) : Memref sig .tc .vmem S1x2x192x4096 .f32 := win0_7.stage (cfg0.slots t 7)
/-- Window 8's staging buffer at point `t`. -/
abbrev buf_8 (t : Fin cfg0.N) : Memref sig .tc .vmem S1x1024x192 .f32 := win0_8.stage (cfg0.slots t 8)
/-- Window 9's staging buffer at point `t`. -/
abbrev buf_9 (t : Fin cfg0.N) : Memref sig .tc .vmem S1x1024x128 .f32 := win0_9.stage (cfg0.slots t 9)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare ((dats m 0 c).before 6 t d))
    ∗ (∃ d, owns (c : Thread nD τ) (buf_7 t) fullShare ((dats m 0 c).before 7 t d))
    ∗ (∃ d, owns (c : Thread nD τ) (buf_8 t) fullShare ((dats m 0 c).before 8 t d))
    ∗ (∃ d, owns (c : Thread nD τ) (buf_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (buf_0 t) fullShare ((dats m 0 c).after 0 t) from by
      unfold Dat.leavesExact; rw [show cfg0.idle 0 (grid0.coords t) = false from rfl], after_0]
  rw [show (dats m 0 c).leavesExact 1 t = owns (c : Thread nD τ) (buf_1 t) fullShare ((dats m 0 c).after 1 t) from by
      unfold Dat.leavesExact; rw [show cfg0.idle 1 (grid0.coords t) = false from rfl], after_1]
  rw [show (dats m 0 c).leavesExact 2 t = owns (c : Thread nD τ) (buf_2 t) fullShare ((dats m 0 c).after 2 t) from by
      unfold Dat.leavesExact; rw [show cfg0.idle 2 (grid0.coords t) = false from rfl], after_2]
  rw [show (dats m 0 c).leavesExact 3 t = owns (c : Thread nD τ) (buf_3 t) fullShare ((dats m 0 c).after 3 t) from by
      unfold Dat.leavesExact; rw [show cfg0.idle 3 (grid0.coords t) = false from rfl], after_3]
  rw [show (dats m 0 c).leavesExact 4 t = owns (c : Thread nD τ) (buf_4 t) fullShare ((dats m 0 c).after 4 t) from by
      unfold Dat.leavesExact; rw [show cfg0.idle 4 (grid0.coords t) = false from rfl], after_4]
  rw [show (dats m 0 c).leavesExact 5 t = owns (c : Thread nD τ) (buf_5 t) fullShare ((dats m 0 c).after 5 t) from by
      unfold Dat.leavesExact; rw [show cfg0.idle 5 (grid0.coords t) = false from rfl], after_5]
  rw [show (dats m 0 c).leavesExact 6 t = owns (c : Thread nD τ) (buf_6 t) fullShare ((dats m 0 c).after 6 t) from by
      unfold Dat.leavesExact; rw [show cfg0.idle 6 (grid0.coords t) = false from rfl], after_6]
  rw [show (dats m 0 c).leavesExact 7 t = owns (c : Thread nD τ) (buf_7 t) fullShare ((dats m 0 c).after 7 t) from by
      unfold Dat.leavesExact; rw [live_7 (grid0.coords t)], after_7]
  rw [show (dats m 0 c).leavesExact 8 t = owns (c : Thread nD τ) (buf_8 t) fullShare ((dats m 0 c).after 8 t) from by
      unfold Dat.leavesExact; rw [show cfg0.idle 8 (grid0.coords t) = false from rfl], after_8]
  rw [show (dats m 0 c).leavesExact 9 t = owns (c : Thread nD τ) (buf_9 t) fullShare ((dats m 0 c).after 9 t) from by
      unfold Dat.leavesExact; rw [show cfg0.idle 9 (grid0.coords t) = false from rfl], after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← dqtOut_before m c t d7]
  iapply ((body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body the pipeline calls at point `t` is the one stated. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the launch theorem's implicit arguments are found by unifying its conclusion with this one, which takes unfolding
-- plain definitions in a metavariable's type
set_option backward.isDefEq.respectTransparency.types false in
/-- The launch ends, every window's array at what its blocks make of it, every other array as it was, and the
    counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end as they were and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.KernelIdeal.Attention

end
-- ==== Proof.Reals.lean ====
/-
  ATTENTION'S GRADIENT IN THE REALS. The arguments as real functions and, from them, the scores, the softmax weights
  and the three gradients as plain sums; the two algebraic facts the proof turns on: a power of two of a score less
  the row's log-sum, both in units of log 2, is the softmax weight (`pow_score`), and the softmax's derivative as it
  is usually written is weight times (dp - the row's sum of weight times dp) (`softmax_grad`).
-/
module

public import Idealize.ShloMosaic.PureOps.Ideal.Laws
public import Idealize.ShloMosaic.Lib.ValueIdxCore

@[expose] public section

noncomputable section

namespace Cert.Attention

open Idealize.ShloMosaic

/-- A finite sum of reals, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of the scores: the real number its float word stands for, close to one over the root of 192. -/
def scale : ℝ := 9686330 / 134217728

theorem scale_pos : 0 < scale := by unfold scale; norm_num

theorem scale_word : Ideal.ofBits .f32 0x3D93CD3A#32 = (scale : EReal) := by
  unfold scale
  simp [Ideal.ofBits, Ideal.ieee, -EReal.coe_mul]; norm_num

theorem log_two_pos : 0 < Real.log 2 := Real.log_pos (by norm_num)

/-- Column `d` of head `h` in a row of all the heads' outputs. -/
def col (h : Fin 8) (d : Fin 128) : Fin 1024 := ⟨128 * h.val + d.val, by have := h.isLt; have := d.isLt; omega⟩

/-- The arguments as real functions, and each row's greatest score. -/
structure Args where
  q : Fin 8192 → Fin 8 → Fin 192 → ℝ
  k : Fin 8192 → Fin 8 → Fin 192 → ℝ
  v : Fin 8192 → Fin 8 → Fin 128 → ℝ
  ct : Fin 8192 → Fin 1024 → ℝ
  top : Fin 8 → Fin 8192 → ℝ

namespace Args

variable (A : Args) (h : Fin 8) (i j : Fin 8192)

/-- The scaled score of query `i` against key `j`. -/
def score : ℝ := (∑ d, A.q i h d * A.k j h d) * scale
/-- The exponential of the score less the row's greatest. -/
def ex : ℝ := Real.exp (A.score h i j - A.top h i)
/-- The row's sum of exponentials. -/
def tot : ℝ := ∑ j, A.ex h i j
/-- The softmax weight. -/
def w : ℝ := A.ex h i j / A.tot h i
/-- The gradient by the weight. -/
def dp : ℝ := ∑ d, A.ct i (col h d) * A.v j h d
/-- The row's sum of weight times gradient by the weight. -/
def ds : ℝ := ∑ j, A.w h i j * A.dp h i j
/-- The gradient by the score. -/
def g : ℝ := A.w h i j * (A.dp h i j - A.ds h i)

/-- The gradient by the query, times log 2 over the scale. -/
def gradQ (d : Fin 192) : ℝ := ∑ j, A.k j h d * (A.g h i j * Real.log 2)
/-- The gradient by the key. -/
def gradK (d : Fin 192) : ℝ := ∑ i, A.g h i j * scale * A.q i h d
/-- The gradient by the value. -/
def gradV (d : Fin 128) : ℝ := ∑ i, A.ct i (col h d) * A.w h i j

theorem ex_pos : 0 < A.ex h i j := Real.exp_pos _

theorem tot_pos : 0 < A.tot h i := Finset.sum_pos (fun j _ => A.ex_pos h i j) ⟨0, Finset.mem_univ _⟩

/-- The softmax's derivative as the chain rule through its quotient gives it. -/
theorem softmax_grad :
    (A.dp h i j * (1 / A.tot h i) + -∑ j', A.dp h i j' * (1 / (A.tot h i * A.tot h i)) * A.ex h i j') * A.ex h i j = A.g h i j := by
  have ht := (A.tot_pos h i).ne'
  have e : ∑ j', A.dp h i j' * (1 / (A.tot h i * A.tot h i)) * A.ex h i j' = (1 / A.tot h i) * A.ds h i := by
    unfold ds; rw [Finset.mul_sum]
    refine Finset.sum_congr rfl fun j' _ => ?_
    unfold w; field_simp
  rw [e]; unfold g w; field_simp; ring

/-- The gradient by the query, taken through the scaled score and then over its scale. -/
theorem gradQ_of_score (d : Fin 192) : (∑ j, A.g h i j * scale * A.k j h d) * (Real.log 2 / scale) = A.gradQ h i d := by
  unfold gradQ
  rw [Finset.sum_mul]
  refine Finset.sum_congr rfl fun j _ => ?_
  have := scale_pos.ne'
  field_simp

/-- The row's sum of the output's gradient times the output is `ds`. -/
theorem out_grad : ∑ d, A.ct i (col h d) * ∑ j, A.v j h d * A.w h i j = A.ds h i := by
  unfold ds dp
  simp only [Finset.mul_sum]
  rw [Finset.sum_comm]
  refine Finset.sum_congr rfl fun j _ => Finset.sum_congr rfl fun d _ => ?_
  ring

/-- Two to the power of the score less the log-sum, both in units of log 2, is the softmax weight. -/
theorem pow_score : (2 : ℝ) ^ (∑ d, A.k j h d * (A.q i h d * (scale * (1 / Real.log 2)))
      - (A.top h i + Real.log (A.tot h i)) * (1 / Real.log 2)) = A.w h i j := by
  have hl := log_two_pos.ne'
  have e : ∑ d, A.k j h d * (A.q i h d * (scale * (1 / Real.log 2))) = A.score h i j * (1 / Real.log 2) := by
    unfold score; rw [Finset.sum_mul, Finset.sum_mul]
    exact Finset.sum_congr rfl fun d _ => by ring
  rw [e, Real.rpow_def_of_pos (by norm_num)]
  have e2 : Real.log 2 * (A.score h i j * (1 / Real.log 2) - (A.top h i + Real.log (A.tot h i)) * (1 / Real.log 2))
      = (A.score h i j - A.top h i) - Real.log (A.tot h i) := by field_simp; ring
  rw [e2, Real.exp_sub, Real.exp_log (A.tot_pos h i)]
  rfl

end Args

end Cert.Attention

end
-- ==== Proof.Reference.lean ====
/-
  THE REFERENCE'S RESULTS. Where the four arguments are real (`Holds`), each stage of the reference is the real
  function of Proof.Reals read in the extended reals, and so its three results are the three gradients.
-/
module

public import proofs.«01_k».proof.Proof.Reals
public import proofs.«01_k».proof.Proof.Gen.ReferenceIdeal.Read
public import Idealize.ShloMosaic.Lib.KernelVsHost

@[expose] public section

noncomputable section

namespace Cert.ReferenceIdeal.Attention

open Cert.ReferenceIdeal Cert.ReferenceIdeal.Gen Cert.ReferenceIdeal.Read Cert.Attention Idealize.ShloMosaic Idealize.ShloMosaic.ValueIdx

abbrev QKArr := (⟨S8192x8x192, .f32⟩ : BufTy).Contents (Elt Ideal)
abbrev VArr := (⟨S8192x8x128, .f32⟩ : BufTy).Contents (Elt Ideal)
abbrev CtArr := (⟨S8192x1024, .f32⟩ : BufTy).Contents (Elt Ideal)

/-- The arrays hold the real functions of `A`, and `A.top` is each row's greatest score. -/
structure Holds (A : Args) (x0 x1 : QKArr) (x2 : VArr) (x3 : CtArr) : Prop where
  q : ∀ i, x0 i = ((A.q (i 0) (i 1) (i 2) : ℝ) : EReal)
  k : ∀ i, x1 i = ((A.k (i 0) (i 1) (i 2) : ℝ) : EReal)
  v : ∀ i, x2 i = ((A.v (i 0) (i 1) (i 2) : ℝ) : EReal)
  ct : ∀ i, x3 i = ((A.ct (i 0) (i 1) : ℝ) : EReal)
  top : ∀ i, val_main_v3 (F := Ideal) x0 x1 i = ((A.top (i 0) (i 1) : ℝ) : EReal)

/-- The greatest of finitely many reals and minus infinity is one of them or minus infinity. -/
theorem fold_max_coe {ι : Type} (s : Finset ι) (f : ι → ℝ) (hs : s.Nonempty) :
    ∃ r : ℝ, s.fold max (⊥ : EReal) (fun i => (f i : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

theorem div_real (a t : ℝ) (ht : t ≠ 0) : Ideal.div (a : EReal) (t : EReal) = ((a / t : ℝ) : EReal) := by
  rw [Ideal.div_coe ht, ← EReal.coe_mul, mul_one_div]

theorem one_word : (Ideal.ofBits .f32 0x3F800000#32 : EReal) = ((1 : ℝ) : EReal) := by
  simp [Ideal.ofBits, Ideal.ieee, -EReal.coe_mul]; norm_num

theorem one_div_sq (t : ℝ) (ht : t ≠ 0) : Ideal.div (Ideal.ofBits .f32 0x3F800000#32) ((t : EReal) * (t : EReal)) = ((1 / (t * t) : ℝ) : EReal) := by
  rw [← EReal.coe_mul, Ideal.div_coe (mul_ne_zero ht ht), one_word, ← EReal.coe_mul, one_mul]

theorem grad_real (a t b e g : ℝ) (ht : t ≠ 0) (hg : (a * (1 / t) + b) * e = g) :
    (Ideal.div (a : EReal) (t : EReal) + (b : EReal)) * (e : EReal) * Ideal.ofBits .f32 0x3D93CD3A#32 = ((g * scale : ℝ) : EReal) := by
  rw [scale_word, Ideal.div_coe ht, ← EReal.coe_mul, ← EReal.coe_add, ← EReal.coe_mul, ← EReal.coe_mul, hg]

theorem two_word : (Ideal.ofBits .f32 0x40000000#32 : EReal) = ((2 : ℝ) : EReal) := by
  simp [Ideal.ofBits, Ideal.ieee, -EReal.coe_mul]; norm_num

theorem log_two : Ideal.log (Ideal.ofBits .f32 0x40000000#32) = ((Real.log 2 : ℝ) : EReal) := by
  rw [two_word, Ideal.log_coe, if_neg (by norm_num)]

theorem unscale (a : ℝ) : (a : EReal) * Ideal.div (Ideal.log (Ideal.ofBits .f32 0x40000000#32)) (Ideal.ofBits .f32 0x3D93CD3A#32)
    = ((a * (Real.log 2 / scale) : ℝ) : EReal) := by
  rw [log_two, scale_word, div_real _ _ scale_pos.ne', ← EReal.coe_mul]

section
variable {A : Args} {x0 x1 : QKArr} {x2 : VArr} {x3 : CtArr}

/-- The scaled scores, from the queries and the keys alone. -/
theorem score_of (hq : ∀ i, x0 i = ((A.q (i 0) (i 1) (i 2) : ℝ) : EReal)) (hk : ∀ i, x1 i = ((A.k (i 0) (i 1) (i 2) : ℝ) : EReal)) (i : S8x8192x8192.Idx) :
    val_main_v2 (F := Ideal) x0 x1 i = ((A.score (i 0) (i 1) (i 2) : ℝ) : EReal) := by
  rw [val_main_v2_apply, val_main_v0_apply, val_main_v1_apply, val_main_cst_apply]
  simp only [hq, hk]
  show (∑ d : Fin 192, ((A.q (i 1) (i 0) d : ℝ) : EReal) * ((A.k (i 2) (i 0) d : ℝ) : EReal)) * Ideal.ofBits .f32 0x3D93CD3A#32 = _
  rw [scale_word]
  simp only [← EReal.coe_mul, ← coe_sum]
  rfl

/-- A row's greatest score is a real. -/
theorem top_real (hq : ∀ i, x0 i = ((A.q (i 0) (i 1) (i 2) : ℝ) : EReal)) (hk : ∀ i, x1 i = ((A.k (i 0) (i 1) (i 2) : ℝ) : EReal)) (i : S8x8192.Idx) :
    ∃ r : ℝ, val_main_v3 (F := Ideal) x0 x1 i = (r : EReal) := by
  have e : val_main_v2 (F := Ideal) x0 x1 = fun i => ((A.score (i 0) (i 1) (i 2) : ℝ) : EReal) := funext (score_of hq hk)
  unfold val_main_v3 val_main_cst_0
  rw [e, hostReduce_maximumf_eq_multiReduction _ _ reducesTo_S8x8192x8192_S8x8192_d2 h_S_ (by decide) (by decide) (by decide),
    Ideal.multiReduction_maximumf_single]
  have hb : (FloatOps.ofBits .f32 0xFF800000#32 : Ideal .f32) = (⊥ : EReal) := by
    show Ideal.ofBits .f32 0xFF800000#32 = ⊥
    simp [Ideal.ofBits, Ideal.ieee]
  rw [hb]
  exact fold_max_coe _ _ ⟨⟨0, by decide⟩, Finset.mem_univ _⟩

variable (H : Holds A x0 x1 x2 x3)
include H

theorem v10_eq (i : S8x8192.Idx) : val_main_v10 (F := Ideal) x0 x1 i = ((A.top (i 0) (i 1) : ℝ) : EReal) := by
  rw [val_main_v10_apply, val_main_v9_apply, val_main_cst_2_apply, H.top]
  have hb : (FloatOps.ofBits .f32 0xFF800000#32 : Ideal .f32) = (⊥ : EReal) := by
    show Ideal.ofBits .f32 0xFF800000#32 = ⊥
    simp [Ideal.ofBits, Ideal.ieee]
  rw [hb]
  exact max_eq_right bot_le

theorem v23_eq (i : S8x8192x8192.Idx) : val_main_v23 (F := Ideal) x0 x1 i = ((A.ex (i 0) (i 1) (i 2) : ℝ) : EReal) := by
  rw [val_main_v23_apply, val_main_v22_apply, val_main_v21_apply, val_main_v20_apply, v10_eq H, score_of H.q H.k]
  show Ideal.exp (((A.score (i 0) (i 1) (i 2) : ℝ) : EReal) - ((A.top (i 0) (i 1) : ℝ) : EReal)) = _
  rw [← EReal.coe_sub, Ideal.exp_coe]
  rfl

theorem v24_eq (i : S8x8192.Idx) : val_main_v24 (F := Ideal) x0 x1 i = ((A.tot (i 0) (i 1) : ℝ) : EReal) := by
  rw [val_main_v24_apply, val_main_cst_8_apply]
  simp only [v23_eq H]
  show Ideal.ofBits .f32 0x00000000#32 + (∑ j : Fin 8192, ((A.ex (i 0) (i 1) j : ℝ) : EReal)) = _
  rw [Ideal.ofBits_zero_f32, zero_add, ← coe_sum]
  rfl

theorem v25_eq (i : S8x8192x1.Idx) : val_main_v25 (F := Ideal) x0 x1 i = ((A.tot (i 0) (i 1) : ℝ) : EReal) := by
  rw [val_main_v25_apply, v24_eq H]
  rfl

theorem v27_eq (i : S8x8192x8192.Idx) : val_main_v27 (F := Ideal) x0 x1 i = ((A.w (i 0) (i 1) (i 2) : ℝ) : EReal) := by
  rw [val_main_v27_apply, val_main_v26_apply, v25_eq H, v23_eq H]
  exact div_real _ _ (A.tot_pos _ _).ne'

theorem v30_eq (i : S8x8192x1.Idx) : val_main_v30 (F := Ideal) x0 x1 i = ((1 / (A.tot (i 0) (i 1) * A.tot (i 0) (i 1)) : ℝ) : EReal) := by
  rw [val_main_v30_apply, val_main_v29_apply, val_main_cst_9_apply, val_main_v28_apply, v25_eq H]
  exact one_div_sq _ (A.tot_pos _ _).ne'

theorem v35_eq (i : S8x128x8192.Idx) : val_main_v35 (F := Ideal) x3 i = ((A.ct (i 2) (col (i 0) (i 1)) : ℝ) : EReal) := by
  rw [val_main_v35_apply, val_main_v34_apply, H.ct]
  have h0 : (i 0).val < 8 := (i 0).isLt
  have h1 : (i 1).val < 128 := (i 1).isLt
  have h2 : (i 2).val < 8192 := (i 2).isLt
  have e0 : idx_main_v34 (idx_main_v35 i) 0 = i 2 := Fin.ext (by
    show (((i 2).val * 8 + (i 0).val) * 128 + (i 1).val) / 1024 = (i 2).val; omega)
  have e1 : idx_main_v34 (idx_main_v35 i) 1 = col (i 0) (i 1) := Fin.ext (by
    show (((i 2).val * 8 + (i 0).val) * 128 + (i 1).val) % 1024 = 128 * (i 0).val + (i 1).val; omega)
  rw [e0, e1]

theorem v36_eq (i : S8x8192x8192.Idx) : val_main_v36 (F := Ideal) x2 x3 i = ((A.dp (i 0) (i 1) (i 2) : ℝ) : EReal) := by
  rw [val_main_v36_apply]
  simp only [v35_eq H, H.v, ← EReal.coe_mul, ← coe_sum]
  rfl

theorem v42_eq (i : S8x8192.Idx) : val_main_v42 (F := Ideal) x0 x1 x2 x3 i
    = ((∑ j, A.dp (i 0) (i 1) j * (1 / (A.tot (i 0) (i 1) * A.tot (i 0) (i 1))) * A.ex (i 0) (i 1) j : ℝ) : EReal) := by
  rw [val_main_v42_apply, val_main_cst_10_apply]
  show Ideal.ofBits .f32 0x00000000#32 + _ = _
  rw [Ideal.ofBits_zero_f32, zero_add, coe_sum]
  refine Finset.sum_congr rfl fun j _ => ?_
  rw [val_main_v41_apply, val_main_v40_apply, val_main_v39_apply, v30_eq H, v36_eq H, v23_eq H, EReal.coe_mul, EReal.coe_mul]
  rfl

theorem v47_eq (i : S8x8192.Idx) : val_main_v47 (F := Ideal) x0 x1 x2 x3 i
    = ((-∑ j, A.dp (i 0) (i 1) j * (1 / (A.tot (i 0) (i 1) * A.tot (i 0) (i 1))) * A.ex (i 0) (i 1) j : ℝ) : EReal) := by
  rw [val_main_v47_apply, val_main_cst_11_apply]
  show Ideal.ofBits .f32 0x00000000#32 + _ = _
  rw [Ideal.ofBits_zero_f32, zero_add, Fin.sum_univ_one, val_main_v44_apply, val_main_v43_apply, v42_eq H]
  have h0 : (i 0).val < 8 := (i 0).isLt
  have h1 : (i 1).val < 8192 := (i 1).isLt
  have e0 : idx_main_v43 (idx_main_v47 i 0) 0 = i 0 := Fin.ext (by
    show (((i 0).val * 8192 + (i 1).val) * 1 + 0) / 8192 = (i 0).val; omega)
  have e1 : idx_main_v43 (idx_main_v47 i 0) 1 = i 1 := Fin.ext (by
    show (((i 0).val * 8192 + (i 1).val) * 1 + 0) % 8192 = (i 1).val; omega)
  rw [e0, e1, EReal.coe_neg]
  rfl

/-- The gradient by the score, scaled. -/
theorem v52_eq (i : S8x8192x8192.Idx) : val_main_v52 (F := Ideal) x0 x1 x2 x3 i = ((A.g (i 0) (i 1) (i 2) * scale : ℝ) : EReal) := by
  rw [val_main_v52_apply, val_main_v51_apply, val_main_cst_12_apply, val_main_v50_apply, val_main_v49_apply, val_main_v48_apply,
    v47_eq H, val_main_v46_apply, val_main_v45_apply, v25_eq H, v36_eq H, v23_eq H]
  show (Ideal.div ((A.dp (i 0) (i 1) (i 2) : ℝ) : EReal) ((A.tot (i 0) (i 1) : ℝ) : EReal)
      + ((-∑ j, A.dp (i 0) (i 1) j * (1 / (A.tot (i 0) (i 1) * A.tot (i 0) (i 1))) * A.ex (i 0) (i 1) j : ℝ) : EReal))
      * ((A.ex (i 0) (i 1) (i 2) : ℝ) : EReal) * Ideal.ofBits .f32 0x3D93CD3A#32 = _
  exact grad_real _ _ _ _ _ (A.tot_pos _ _).ne' (A.softmax_grad (i 0) (i 1) (i 2))

theorem v54_eq (i : S8192x8x192.Idx) : val_main_v54 (F := Ideal) x0 x1 x2 x3 i = ((A.gradK (i 1) (i 0) (i 2) : ℝ) : EReal) := by
  rw [val_main_v54_apply, val_main_v53_apply]
  simp only [v52_eq H, H.q, ← EReal.coe_mul, ← coe_sum]
  rfl

/-- The reference's second result: the gradient by the key. -/
theorem result_k (i : S8x8192x192.Idx) : val_main_v64 (F := Ideal) x0 x1 x2 x3 i = ((A.gradK (i 0) (i 1) (i 2) : ℝ) : EReal) := by
  rw [val_main_v64_apply, v54_eq H]
  rfl

/-- The reference's third result: the gradient by the value. -/
theorem result_v (i : S8x8192x128.Idx) : val_main_v65 (F := Ideal) x0 x1 x3 i = ((A.gradV (i 0) (i 1) (i 2) : ℝ) : EReal) := by
  rw [val_main_v65_apply, val_main_v38_apply, val_main_v37_apply]
  simp only [v35_eq H, v27_eq H, ← EReal.coe_mul, ← coe_sum]
  rfl

theorem v61_eq (i : S8192x8x192.Idx) : val_main_v61 (F := Ideal) x0 x1 x2 x3 i = ((A.gradQ (i 1) (i 0) (i 2) : ℝ) : EReal) := by
  rw [val_main_v61_apply, val_main_v60_apply, val_main_v59_apply, val_main_v58_apply, val_main_v57_apply, val_main_cst_13_apply,
    val_main_cst_14_apply, val_main_v56_apply, val_main_v55_apply]
  simp only [v52_eq H, H.k, ← EReal.coe_mul, ← coe_sum]
  exact (unscale _).trans (congrArg Real.toEReal (A.gradQ_of_score (i 1) (i 0) (i 2)))

/-- The reference's first result: the gradient by the query, over its scale, in runs of 4096 queries. -/
theorem result_q (i : S8x2x192x4096.Idx) : val_main_v63 (F := Ideal) x0 x1 x2 x3 i
    = ((A.gradQ (i 0) ⟨4096 * (i 1).val + (i 3).val, by have h1 : (i 1).val < 2 := (i 1).isLt; have h3 : (i 3).val < 4096 := (i 3).isLt; omega⟩ (i 2) : ℝ) : EReal) := by
  rw [val_main_v63_apply, val_main_v62_apply, v61_eq H]
  have h0 : (i 0).val < 8 := (i 0).isLt
  have h1 : (i 1).val < 2 := (i 1).isLt
  have h2 : (i 2).val < 192 := (i 2).isLt
  have h3 : (i 3).val < 4096 := (i 3).isLt
  have e0 : idx_main_v62 (idx_main_v63 i) 0 = (⟨4096 * (i 1).val + (i 3).val, by omega⟩ : Fin 8192) := Fin.ext (by
    show ((((i 1).val * 4096 + (i 3).val) * 8 + (i 0).val) * 192 + (i 2).val) / 1536 = 4096 * (i 1).val + (i 3).val; omega)
  have e1 : idx_main_v62 (idx_main_v63 i) 1 = i 0 := Fin.ext (by
    show ((((i 1).val * 4096 + (i 3).val) * 8 + (i 0).val) * 192 + (i 2).val) / 192 % 8 = (i 0).val; omega)
  have e2 : idx_main_v62 (idx_main_v63 i) 2 = i 2 := Fin.ext (by
    show ((((i 1).val * 4096 + (i 3).val) * 8 + (i 0).val) * 192 + (i 2).val) % 192 = (i 2).val; omega)
  rw [e0, e1, e2]

end

/-- Arrays whose elements are all real hold the functions their elements give. -/
theorem exists_holds {x0 x1 : QKArr} {x2 : VArr} {x3 : CtArr} (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) : ∃ A : Args, Holds A x0 x1 x2 x3 := by
  choose f0 e0 using h0
  choose f1 e1 using h1
  choose f2 e2 using h2
  choose f3 e3 using h3
  let B (t : Fin 8 → Fin 8192 → ℝ) : Args :=
    ⟨fun i h d => f0 (ix3 i h d), fun i h d => f1 (ix3 i h d), fun i h d => f2 (ix3 i h d), fun i d => f3 (ix2 i d), t⟩
  have hq : ∀ t i, x0 i = (((B t).q (i 0) (i 1) (i 2) : ℝ) : EReal) := fun t i => (e0 i).trans (congrArg (fun j => ((f0 j : ℝ) : EReal)) (eq_ix3 i))
  have hk : ∀ t i, x1 i = (((B t).k (i 0) (i 1) (i 2) : ℝ) : EReal) := fun t i => (e1 i).trans (congrArg (fun j => ((f1 j : ℝ) : EReal)) (eq_ix3 i))
  choose f4 e4 using top_real (hq fun _ _ => 0) (hk fun _ _ => 0)
  exact ⟨B fun h i => f4 (ix2 h i), hq _, hk _,
    fun i => (e2 i).trans (congrArg (fun j => ((f2 j : ℝ) : EReal)) (eq_ix3 i)),
    fun i => (e3 i).trans (congrArg (fun j => ((f3 j : ℝ) : EReal)) (eq_ix2 i)),
    fun i => (e4 i).trans (congrArg (fun j => ((f4 j : ℝ) : EReal)) (eq_ix2 i))⟩

end Cert.ReferenceIdeal.Attention

end
-- ==== Proof.Host.lean ====
/-
  WHAT THE KERNEL IS GIVEN. The contents of the seven arrays the kernel reads, after the host's operations, as the real
  functions of Proof.Reals: the scaled query, the key and its transpose by tiles, the value, the output's gradient, the
  row log-sum in units of log 2, and the row sum of the output's gradient times the output.
-/
module

public import proofs.«01_k».proof.Proof.Reference
public import proofs.«01_k».proof.Proof.Gen.KernelIdeal.Frame

@[expose] public section

set_option maxRecDepth 16384

noncomputable section

namespace Cert.KernelIdeal.Attention

open Cert.KernelIdeal Cert.KernelIdeal.Gen Cert.Attention Idealize.ShloMosaic Idealize.ShloMosaic.ValueIdx Idealize.ShloMosaic.TcCoe
open Cert.ReferenceIdeal.Attention (Holds div_real log_two)
open Cert.ReferenceIdeal.Read (val_main_v2 val_main_v3 val_main_v27 val_main_v31 val_main_v31_apply)

variable (m : (ℓ : Loc nD τ sig) → Buf (Elt Ideal) ℓ) (c : Dev nD)

/-- The four arguments in the initial memory. -/
abbrev argQ : FVec Ideal S8192x8x192 .f32 := m ((c.tc : Thread nD τ).loc main_arg0)
abbrev argK : FVec Ideal S8192x8x192 .f32 := m ((c.tc : Thread nD τ).loc main_arg1)
abbrev argV : FVec Ideal S8192x8x128 .f32 := m ((c.tc : Thread nD τ).loc main_arg2)
abbrev argCt : FVec Ideal S8192x1024 .f32 := m ((c.tc : Thread nD τ).loc main_arg3)

/-- The host's arrays, each named by its number. -/
def at2 : FVec Ideal S8x8192x8192 .f32 := V m c main_v2
def at3 : FVec Ideal S8x8192 .f32 := V m c main_v3
def at7 : FVec Ideal S8x8192x8192 .f32 := V m c main_v7
def at8 : FVec Ideal S8x8192 .f32 := V m c main_v8
def at14 : FVec Ideal S8x8192 .f32 := V m c main_v14
def at17 : FVec Ideal S8x8192x8192 .f32 := V m c main_v17
def at18 : FVec Ideal S8x128x8192 .f32 := V m c main_v18
def at21 : FVec Ideal S8x8192 .f32 := V m c main_v21
def at28 : FVec Ideal S8x8192x192 .bf16 := V m c main_v28
def at30 : FVec Ideal S8x8192x192 .bf16 := V m c main_v30
def at32 : FVec Ideal S8x8192x128 .bf16 := V m c main_v32
def at34 : FVec Ideal S8x8x192x1024 .bf16 := V m c main_v34
def at35 : FVec Ideal S8192x1024 .bf16 := V m c main_v35
def at36 : FVec Ideal S8x2x1x4096 .f32 := V m c main_v36
def at37 : FVec Ideal S8x2x1x4096 .f32 := V m c main_v37

/-! ## Each array as an operation of earlier ones -/

theorem read_2 : at2 m c = val_main_v2 (F := Ideal) (argQ m c) (argK m c) := by
  unfold at2 V
  after_results_simp <;> rfl

theorem read_3 : at3 m c = val_main_v3 (F := Ideal) (argQ m c) (argK m c) := by
  unfold at3 V
  after_results_simp <;> rfl

theorem read_7 : at7 m c = Host.exp (subf (at2 m c) (broadcastInDim S8x8192x8192 ![0, 1, 2] bcast_S8x8192x1_S8x8192x8192_0_1_2
    (broadcastInDim S8x8192x1 ![0, 1] bcast_S8x8192_S8x8192x1_0_1 (at3 m c)))) := by
  unfold at7 at2 at3 V
  after_results_simp <;> rfl

theorem read_8 : at8 m c = Host.reduceAdd (at7 m c) (constant S_ .f32 0x00000000#32) reducesTo_S8x8192x8192_S8x8192_d2 h_S_ := by
  unfold at8 at7 V
  after_results_simp <;> rfl

theorem read_14 : at14 m c = Host.divf (addf (at3 m c) (Host.log (at8 m c)))
    (broadcastInDim S8x8192 ![] bcast_S_S8x8192 (Host.log (constant S_ .f32 0x40000000#32))) := by
  unfold at14 at3 at8 V
  after_results_simp <;> rfl

theorem read_17 : at17 m c = Host.divf (at7 m c) (broadcastInDim S8x8192x8192 ![0, 1, 2] bcast_S8x8192x1_S8x8192x8192_0_1_2
    (broadcastInDim S8x8192x1 ![0, 1] bcast_S8x8192_S8x8192x1_0_1 (at8 m c))) := by
  unfold at17 at7 at8 V
  after_results_simp <;> rfl

theorem read_18 : at18 m c = Host.dotGeneral dot_S8192x8x128_S8x8192x8192_S8x128x8192_0_2_2_1_1_0 none (argV m c) (at17 m c) := by
  unfold at18 at17 V
  after_results_simp <;> rfl

theorem read_21 : at21 m c = Host.dotGeneral (F := Ideal) dot_S8192x8x128_S8192x8x128_S8x8192_2_2_n_n_10_10 none
    (shapeCast S8192x8x128 (argCt m c) shapeCasts_S8192x1024_S8192x8x128)
    (transpose S8192x8x128 [2, 0, 1] (at18 m c) transposes_S8x128x8192_S8192x8x128_2_0_1) := by
  unfold at21 at18 V
  after_results_simp <;> rfl

theorem read_28 : at28 m c = truncf .bf16 (mulf (transpose S8x8192x192 [1, 0, 2] (argQ m c) transposes_S8192x8x192_S8x8192x192_1_0_2)
    (broadcastInDim S8x8192x192 ![] bcast_S_S8x8192x192 (Host.divf (constant S_ .f32 0x3D93CD3A#32) (Host.log (constant S_ .f32 0x40000000#32)))))
    bitsLt_bf16_f32 := by
  unfold at28 V
  after_results_simp <;> rfl

theorem read_30 : at30 m c = truncf (F := Ideal) .bf16 (transpose S8x8192x192 [1, 0, 2] (argK m c) transposes_S8192x8x192_S8x8192x192_1_0_2) bitsLt_bf16_f32 := by
  unfold at30 V
  after_results_simp <;> rfl

theorem read_32 : at32 m c = truncf (F := Ideal) .bf16 (transpose S8x8192x128 [1, 0, 2] (argV m c) transposes_S8192x8x128_S8x8192x128_1_0_2) bitsLt_bf16_f32 := by
  unfold at32 V
  after_results_simp <;> rfl

theorem read_34 : at34 m c = transpose S8x8x192x1024 [0, 1, 3, 2] (shapeCast S8x8x1024x192 (at30 m c) shapeCasts_S8x8192x192_S8x8x1024x192)
    transposes_S8x8x1024x192_S8x8x192x1024_0_1_3_2 := by
  unfold at34 at30 V
  after_results_simp <;> rfl

theorem read_35 : at35 m c = truncf (F := Ideal) .bf16 (argCt m c) bitsLt_bf16_f32 := by
  unfold at35 V
  after_results_simp <;> rfl

theorem read_36 : at36 m c = shapeCast S8x2x1x4096 (at14 m c) shapeCasts_S8x8192_S8x2x1x4096 := by
  unfold at36 at14 V
  after_results_simp <;> rfl

theorem read_37 : at37 m c = shapeCast S8x2x1x4096 (at21 m c) shapeCasts_S8x8192_S8x2x1x4096 := by
  unfold at37 at21 V
  after_results_simp <;> rfl

/-! ## Each array at an index -/

/-- A row's value, spread over the row. -/
theorem spread (y : FVec Ideal S8x8192 .f32) (i : S8x8192x8192.Idx) :
    broadcastInDim S8x8192x8192 ![0, 1, 2] bcast_S8x8192x1_S8x8192x8192_0_1_2
      (broadcastInDim S8x8192x1 ![0, 1] bcast_S8x8192_S8x8192x1_0_1 y) i = y (ix2 (i 0) (i 1)) := by
  rw [broadcastInDim_apply _ bcast_S8x8192x1_S8x8192x8192_0_1_2 _ i (ix3 (i 0) (i 1) 0) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])]
  exact broadcastInDim_apply _ bcast_S8x8192_S8x8192x1_0_1 y (ix3 (i 0) (i 1) 0) (ix2 (i 0) (i 1)) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])

theorem scale_over_log : Ideal.div (Ideal.ofBits .f32 0x3D93CD3A#32) (Ideal.log (Ideal.ofBits .f32 0x40000000#32))
    = ((scale * (1 / Real.log 2) : ℝ) : EReal) := by
  rw [log_two, scale_word, div_real _ _ log_two_pos.ne', div_eq_mul_one_div]

/-- The row log-sum's formula at an index. -/
theorem stat_at (a b : FVec Ideal S8x8192 .f32) (j : S8x8192.Idx) :
    Host.divf (addf a (Host.log b)) (broadcastInDim S8x8192 ![] bcast_S_S8x8192 (Host.log (constant S_ .f32 0x40000000#32))) j
      = Ideal.div (a j + Ideal.log (b j)) (Ideal.log (Ideal.ofBits .f32 0x40000000#32)) := rfl

/-- The scaled query's formula at an index. -/
theorem query_at (a : FVec Ideal S8x8192x192 .f32) (j : S8x8192x192.Idx) :
    (truncf .bf16 (mulf a (broadcastInDim S8x8192x192 ![] bcast_S_S8x8192x192
      (Host.divf (constant S_ .f32 0x3D93CD3A#32) (Host.log (constant S_ .f32 0x40000000#32))))) bitsLt_bf16_f32 : FVec Ideal S8x8192x192 .bf16) j
      = a j * Ideal.div (Ideal.ofBits .f32 0x3D93CD3A#32) (Ideal.log (Ideal.ofBits .f32 0x40000000#32)) := rfl

theorem stat_real (t u : ℝ) (hu : 0 < u) : Ideal.div ((t : EReal) + Ideal.log (u : EReal)) (Ideal.log (Ideal.ofBits .f32 0x40000000#32))
    = (((t + Real.log u) * (1 / Real.log 2) : ℝ) : EReal) := by
  rw [log_two, Ideal.log_coe, if_neg (not_le.mpr hu), ← EReal.coe_add, div_real _ _ log_two_pos.ne', div_eq_mul_one_div]

/-- The dot of two arrays over their last axis, at each of the heads and the rows. -/
theorem rows_dot (l r : FVec Ideal S8192x8x128 .f32) (i : S8x8192.Idx) :
    Host.dotGeneral (F := Ideal) (φ₁ := .f32) (φ₂ := .f32) dot_S8192x8x128_S8192x8x128_S8x8192_2_2_n_n_10_10 none l r i
      = ∑ d : Fin 128, l (ix3 (i 1) (i 0) d) * r (ix3 (i 1) (i 0) d) := by
  simp only [Host.dotGeneral]
  rw [Ideal.dotGeneral_apply, ← Equiv.sum_comp (contrEquiv1 dot_S8192x8x128_S8192x8x128_S8x8192_2_2_n_n_10_10 128 rfl rfl).symm]
  refine Finset.sum_congr rfl fun k _ => ?_
  have hk := contrEquiv1_symm_val dot_S8192x8x128_S8192x8x128_S8x8192_2_2_n_n_10_10 128 rfl rfl k
  have el : dot_S8192x8x128_S8192x8x128_S8x8192_2_2_n_n_10_10.lhsIdx i ((contrEquiv1 dot_S8192x8x128_S8192x8x128_S8x8192_2_2_n_n_10_10 128 rfl rfl).symm k) = ix3 (i 1) (i 0) k := funext fun a => Fin.ext (by
    match a with
    | ⟨0, _⟩ =>
      unfold DotDims.lhsIdx
      rw [dif_pos (show (⟨0, by decide⟩ : Fin S8192x8x128.rank) ∈ dot_S8192x8x128_S8192x8x128_S8x8192_2_2_n_n_10_10.lhsBatch by decide)]
      rfl
    | ⟨1, _⟩ =>
      unfold DotDims.lhsIdx
      rw [dif_pos (show (⟨1, by decide⟩ : Fin S8192x8x128.rank) ∈ dot_S8192x8x128_S8192x8x128_S8x8192_2_2_n_n_10_10.lhsBatch by decide)]
      rfl
    | ⟨2, _⟩ => exact (dot_S8192x8x128_S8192x8x128_S8x8192_2_2_n_n_10_10.lhsIdx_val_of_single rfl i _).trans hk)
  have er : dot_S8192x8x128_S8192x8x128_S8x8192_2_2_n_n_10_10.rhsIdx i ((contrEquiv1 dot_S8192x8x128_S8192x8x128_S8x8192_2_2_n_n_10_10 128 rfl rfl).symm k) = ix3 (i 1) (i 0) k := funext fun a => Fin.ext (by
    match a with
    | ⟨0, _⟩ =>
      unfold DotDims.rhsIdx
      rw [dif_pos (show (⟨0, by decide⟩ : Fin S8192x8x128.rank) ∈ dot_S8192x8x128_S8192x8x128_S8x8192_2_2_n_n_10_10.rhsBatch by decide)]
      rfl
    | ⟨1, _⟩ =>
      unfold DotDims.rhsIdx
      rw [dif_pos (show (⟨1, by decide⟩ : Fin S8192x8x128.rank) ∈ dot_S8192x8x128_S8192x8x128_S8x8192_2_2_n_n_10_10.rhsBatch by decide)]
      rfl
    | ⟨2, _⟩ => exact (dot_S8192x8x128_S8192x8x128_S8x8192_2_2_n_n_10_10.rhsIdx_val_of_single rfl i _).trans hk)
  rw [el, er]
  rfl

section
variable {m c} {A : Args} (H : Holds A (argQ m c) (argK m c) (argV m c) (argCt m c))
include H

theorem at7_eq (i : S8x8192x8192.Idx) : at7 m c i = ((A.ex (i 0) (i 1) (i 2) : ℝ) : EReal) := by
  have e : at7 m c i = Ideal.exp (val_main_v2 (F := Ideal) (argQ m c) (argK m c) i - val_main_v3 (F := Ideal) (argQ m c) (argK m c) (ix2 (i 0) (i 1))) := by
    rw [read_7, read_2, read_3]
    exact congrArg (fun y => Ideal.exp (val_main_v2 (F := Ideal) (argQ m c) (argK m c) i - y)) (spread _ i)
  rw [e, Cert.ReferenceIdeal.Attention.score_of H.q H.k, H.top, ← EReal.coe_sub, Ideal.exp_coe]
  rfl

theorem at8_eq (i : S8x8192.Idx) : at8 m c i = ((A.tot (i 0) (i 1) : ℝ) : EReal) := by
  rw [read_8]
  simp only [Host.reduceAdd, Ideal.hostReduceAdd_def]
  rw [Ideal.hostReduceAdd_single reducesTo_S8x8192x8192_S8x8192_d2 (by decide)]
  show Ideal.ofBits .f32 0x00000000#32 + _ = _
  rw [Ideal.ofBits_zero_f32, zero_add]
  simp only [at7_eq H]
  exact (coe_sum _ _).symm

/-- The softmax weights. -/
theorem at17_eq : at17 m c = val_main_v27 (F := Ideal) (argQ m c) (argK m c) := by
  funext i
  rw [Cert.ReferenceIdeal.Attention.v27_eq H, read_17]
  have e : Host.divf (at7 m c) (broadcastInDim S8x8192x8192 ![0, 1, 2] bcast_S8x8192x1_S8x8192x8192_0_1_2
      (broadcastInDim S8x8192x1 ![0, 1] bcast_S8x8192_S8x8192x1_0_1 (at8 m c))) i = Ideal.div (at7 m c i) (at8 m c (ix2 (i 0) (i 1))) :=
    congrArg (Ideal.div (at7 m c i)) (spread _ i)
  rw [e, at7_eq H, at8_eq H]
  exact div_real _ _ (A.tot_pos _ _).ne'

theorem at14_eq (h : Fin 8) (i : Fin 8192) : at14 m c (ix2 h i) = (((A.top h i + Real.log (A.tot h i)) * (1 / Real.log 2) : ℝ) : EReal) := by
  have e : at14 m c (ix2 h i) = Ideal.div (at3 m c (ix2 h i) + Ideal.log (at8 m c (ix2 h i))) (Ideal.log (Ideal.ofBits .f32 0x40000000#32)) := by
    rw [read_14]; exact stat_at _ _ _
  have e3 : at3 m c (ix2 h i) = ((A.top h i : ℝ) : EReal) := (congrFun (read_3 m c) (ix2 h i)).trans (H.top _)
  rw [e, e3, at8_eq H]
  exact stat_real _ _ (A.tot_pos _ _)

theorem at18_eq (h : Fin 8) (d : Fin 128) (i : Fin 8192) : at18 m c (ix3 h d i) = ((∑ j, A.v j h d * A.w h i j : ℝ) : EReal) := by
  have e : at18 m c = val_main_v31 (F := Ideal) (argQ m c) (argK m c) (argV m c) := by
    rw [read_18, at17_eq H]; rfl
  rw [e, val_main_v31_apply, coe_sum]
  refine Finset.sum_congr rfl fun j _ => ?_
  rw [H.v, Cert.ReferenceIdeal.Attention.v27_eq H, EReal.coe_mul]
  rfl

theorem at21_eq (h : Fin 8) (i : Fin 8192) : at21 m c (ix2 h i) = ((A.ds h i : ℝ) : EReal) := by
  rw [read_21, rows_dot, ← A.out_grad, coe_sum]
  refine Finset.sum_congr rfl fun d _ => ?_
  have h0 : h.val < 8 := h.isLt
  have h1 : i.val < 8192 := i.isLt
  have hd : d.val < 128 := d.isLt
  have e1 := shapeCast_apply (argCt m c) shapeCasts_S8192x1024_S8192x8x128 (ix3 i h d) (ix2 i (col h d))
      (by rewrite [Shape.rowMajor_val_two, Shape.rowMajor_val_three]
          show i.val * 1024 + (128 * h.val + d.val) = (i.val * 8 + h.val) * 128 + d.val; omega)
  have e2 := transpose_apply [2, 0, 1] (at18 m c) transposes_S8x128x8192_S8192x8x128_2_0_1 (ix3 i h d) (ix3 h d i) (fun b => match b with
      | ⟨0, _⟩ => rfl
      | ⟨1, _⟩ => rfl
      | ⟨2, _⟩ => rfl)
  rw [EReal.coe_mul, ← at18_eq H h d i]
  exact congrArg₂ (· * ·) (e1.trans (H.ct _)) e2

/-- The query times the scale in units of log 2. -/
theorem at28_eq (h : Fin 8) (i : Fin 8192) (d : Fin 192) : at28 m c (ix3 h i d) = ((A.q i h d * (scale * (1 / Real.log 2)) : ℝ) : EReal) := by
  rw [read_28]
  have e := transpose_apply [1, 0, 2] (argQ m c) transposes_S8192x8x192_S8x8192x192_1_0_2 (ix3 h i d) (ix3 i h d) (fun b => match b with
      | ⟨0, _⟩ => rfl
      | ⟨1, _⟩ => rfl
      | ⟨2, _⟩ => rfl)
  rw [query_at, e, scale_over_log, H.q, ← EReal.coe_mul]

theorem at30_eq (h : Fin 8) (j : Fin 8192) (d : Fin 192) : at30 m c (ix3 h j d) = ((A.k j h d : ℝ) : EReal) := by
  rw [read_30]
  exact (transpose_apply [1, 0, 2] (argK m c) transposes_S8192x8x192_S8x8192x192_1_0_2 (ix3 h j d) (ix3 j h d) (fun b => match b with
      | ⟨0, _⟩ => rfl
      | ⟨1, _⟩ => rfl
      | ⟨2, _⟩ => rfl)).trans (H.k _)

theorem at32_eq (h : Fin 8) (j : Fin 8192) (d : Fin 128) : at32 m c (ix3 h j d) = ((A.v j h d : ℝ) : EReal) := by
  rw [read_32]
  exact (transpose_apply [1, 0, 2] (argV m c) transposes_S8192x8x128_S8x8192x128_1_0_2 (ix3 h j d) (ix3 j h d) (fun b => match b with
      | ⟨0, _⟩ => rfl
      | ⟨1, _⟩ => rfl
      | ⟨2, _⟩ => rfl)).trans (H.v _)

/-- The key of row `j` of tile `n`, its columns first. -/
theorem at34_eq (h n : Fin 8) (d : Fin 192) (j : Fin 1024) :
    at34 m c (ix4 h n d j) = ((A.k ⟨1024 * n.val + j.val, by have := n.isLt; have := j.isLt; omega⟩ h d : ℝ) : EReal) := by
  rw [read_34, transpose_apply [0, 1, 3, 2] _ transposes_S8x8x1024x192_S8x8x192x1024_0_1_3_2 (ix4 h n d j) (ix4 h n j d) (fun b => match b with
      | ⟨0, _⟩ => rfl
      | ⟨1, _⟩ => rfl
      | ⟨2, _⟩ => rfl
      | ⟨3, _⟩ => rfl),
    shapeCast_apply (at30 m c) shapeCasts_S8x8192x192_S8x8x1024x192 (ix4 h n j d)
      (ix3 h ⟨1024 * n.val + j.val, by have := n.isLt; have := j.isLt; omega⟩ d)
      (by rewrite [Shape.rowMajor_val_four, Shape.rowMajor_val_three]
          show (h.val * 8192 + (1024 * n.val + j.val)) * 192 + d.val = ((h.val * 8 + n.val) * 1024 + j.val) * 192 + d.val; omega)]
  exact at30_eq H _ _ _

theorem at35_eq (i : Fin 8192) (d : Fin 1024) : at35 m c (ix2 i d) = ((A.ct i d : ℝ) : EReal) := by
  rw [read_35]
  exact H.ct _

theorem at36_eq (h : Fin 8) (n : Fin 2) (i : Fin 4096) : at36 m c (ix4 h n 0 i)
    = (((A.top h ⟨4096 * n.val + i.val, by have := n.isLt; have := i.isLt; omega⟩
        + Real.log (A.tot h ⟨4096 * n.val + i.val, by have := n.isLt; have := i.isLt; omega⟩)) * (1 / Real.log 2) : ℝ) : EReal) := by
  rw [read_36, shapeCast_apply (at14 m c) shapeCasts_S8x8192_S8x2x1x4096 (ix4 h n 0 i)
      (ix2 h ⟨4096 * n.val + i.val, by have := n.isLt; have := i.isLt; omega⟩)
      (by rewrite [Shape.rowMajor_val_four, Shape.rowMajor_val_two]
          show h.val * 8192 + (4096 * n.val + i.val) = ((h.val * 2 + n.val) * 1 + 0) * 4096 + i.val; omega)]
  exact at14_eq H _ _

theorem at37_eq (h : Fin 8) (n : Fin 2) (i : Fin 4096) : at37 m c (ix4 h n 0 i)
    = ((A.ds h ⟨4096 * n.val + i.val, by have := n.isLt; have := i.isLt; omega⟩ : ℝ) : EReal) := by
  rw [read_37, shapeCast_apply (at21 m c) shapeCasts_S8x8192_S8x2x1x4096 (ix4 h n 0 i)
      (ix2 h ⟨4096 * n.val + i.val, by have := n.isLt; have := i.isLt; omega⟩)
      (by rewrite [Shape.rowMajor_val_four, Shape.rowMajor_val_two]
          show h.val * 8192 + (4096 * n.val + i.val) = ((h.val * 2 + n.val) * 1 + 0) * 4096 + i.val; omega)]
  exact at21_eq H _ _

end

end Cert.KernelIdeal.Attention

end
-- ==== Proof.Tile.lean ====
/-
  ONE GRID POINT, IN THE REALS. Where the blocks a grid point reads hold the real functions of one head `h` and one tile
  `n` of 1024 keys (`Blocks`), what the body computes of them is real: the weights, the gradient by the score times
  log 2, and the three blocks it leaves.
-/
module

public import proofs.«01_k».proof.Proof.Body
public import proofs.«01_k».proof.Proof.Reals
public import Idealize.ShloMosaic.Lib.MatmulPlain
public import Idealize.ShloMosaic.Lib.Pipeline.ValueKit.Tiles
public import Idealize.ShloMosaic.PureOps.IdealRules

@[expose] public section

set_option maxRecDepth 16384

noncomputable section

namespace Cert.KernelIdeal.Attention

open Cert.KernelIdeal Cert.KernelIdeal.Gen Cert.Attention Idealize.ShloMosaic Idealize.ShloMosaic.ValueIdx

/-- Query `i` of run `k`. -/
def qrow (k : Fin 2) (i : Fin 4096) : Fin 8192 := ⟨4096 * k.val + i.val, by have := k.isLt; have := i.isLt; omega⟩

/-- Key `j` of tile `n`. -/
def krow (n : Fin 8) (j : Fin 1024) : Fin 8192 := ⟨1024 * n.val + j.val, by have := n.isLt; have := j.isLt; omega⟩

/-- A sum over the queries is the sum over both runs. -/
theorem sum_runs (f : Fin 8192 → ℝ) : ∑ i, f i = ∑ i, f (qrow 0 i) + ∑ i, f (qrow 1 i) := by
  rw [Fin.sum_univ_add (a := 4096) (b := 4096) f]
  refine congrArg₂ (· + ·) (Finset.sum_congr rfl fun i _ => congrArg f (Fin.ext ?_)) (Finset.sum_congr rfl fun i _ => congrArg f (Fin.ext ?_))
  · show i.val = 4096 * 0 + i.val; omega
  · show 4096 + i.val = 4096 * 1 + i.val; omega

/-- A sum over the keys is the sum over the tiles. -/
theorem sum_tiles (f : Fin 8192 → ℝ) : ∑ j, f j = ∑ n, ∑ j, f (krow n j) := by
  rw [← Fintype.sum_prod_type', ← Equiv.sum_comp (finProdFinEquiv : Fin 8 × Fin 1024 ≃ Fin (8 * 1024)) f]
  refine Finset.sum_congr rfl fun p _ => congrArg f (Fin.ext ?_)
  show p.2.val + 1024 * p.1.val = 1024 * p.1.val + p.2.val
  omega

/-- The run a trip handles. -/
def runOf (k : Fin k0_t1_loop.trips) : Fin 2 := ⟨k.val, lt_of_lt_of_le k.isLt (by decide)⟩

theorem off1_eq : ∀ k : Fin k0_t1_loop.trips, k0_off1 k = ![0, 4096 * k.val, 0] := by decide
theorem off2_eq : ∀ k : Fin k0_t1_loop.trips, k0_off2 k = ![4096 * k.val, 0] := by decide
theorem off3_eq : ∀ k : Fin k0_t1_loop.trips, k0_off3 k = ![0, k.val, 0, 0] := by decide

/-- The blocks of head `h` and tile `n`. -/
structure Blocks (A : Args) (h n : Fin 8) (x0 : Vec Ideal S1x8192x192 .bf16) (x1 : Vec Ideal S1x1024x192 .bf16) (x2 : Vec Ideal S1x1x192x1024 .bf16)
    (x3 : Vec Ideal S1x1024x128 .bf16) (x4 : Vec Ideal S8192x128 .bf16) (x5 x6 : Vec Ideal S1x2x1x4096 .f32) : Prop where
  q : ∀ i d, x0 (ix3 0 i d) = ((A.q i h d * (scale * (1 / Real.log 2)) : ℝ) : EReal)
  k : ∀ j d, x1 (ix3 0 j d) = ((A.k (krow n j) h d : ℝ) : EReal)
  kt : ∀ d j, x2 (ix4 0 0 d j) = ((A.k (krow n j) h d : ℝ) : EReal)
  v : ∀ j d, x3 (ix3 0 j d) = ((A.v (krow n j) h d : ℝ) : EReal)
  ct : ∀ i d, x4 (ix2 i d) = ((A.ct i (col h d) : ℝ) : EReal)
  lse : ∀ k i, x5 (ix4 0 k 0 i) = (((A.top h (qrow k i) + Real.log (A.tot h (qrow k i))) * (1 / Real.log 2) : ℝ) : EReal)
  ds : ∀ k i, x6 (ix4 0 k 0 i) = ((A.ds h (qrow k i) : ℝ) : EReal)

section Loads

variable {F : FTy → Type} [FloatOps F] [Named F]

theorem qRows_apply (x0 : Vec F S1x8192x192 .bf16) (k : Fin k0_t1_loop.trips) (i : Fin 4096) (d : Fin 192) :
    k0_pay8 (qRows x0 k) (ix2 i d) = x0 (ix3 0 (qrow (runOf k) i) d) := by
  unfold k0_pay8
  refine (shapeCast_apply _ _ (ix2 i d) (ix3 0 i d) (by rw [Shape.rowMajor_val_two, Shape.rowMajor_val_three]; simp)).trans ?_
  unfold qRows
  rw [View.ld_apply]
  refine congrArg x0 (funext fun a => Fin.ext ?_)
  rw [Rect.idx_unit_val]
  refine (congrArg (· + _) (congrFun (off1_eq k) a)).trans ?_
  match a with
  | ⟨0, _⟩ => rfl
  | ⟨1, _⟩ => rfl
  | ⟨2, _⟩ => exact Nat.zero_add _

theorem doRows_apply (x4 : Vec F S8192x128 .bf16) (k : Fin k0_t1_loop.trips) (i : Fin 4096) (d : Fin 128) :
    k0_pay9 (doRows x4 k) (ix2 i d) = x4 (ix2 (qrow (runOf k) i) d) := by
  unfold k0_pay9
  refine (shapeCast_apply _ _ (ix2 i d) (ix2 i d) rfl).trans ?_
  unfold doRows
  rw [View.ld_apply]
  refine congrArg x4 (funext fun a => Fin.ext ?_)
  rw [Rect.idx_unit_val]
  refine (congrArg (· + _) (congrFun (off2_eq k) a)).trans ?_
  match a with
  | ⟨0, _⟩ => rfl
  | ⟨1, _⟩ => exact Nat.zero_add _

/-- A run's statistics, spread over the keys. -/
theorem stat_apply (x : Vec F S1x2x1x4096 .f32) (k : Fin k0_t1_loop.trips) (j : Fin 1024) (i : Fin 4096) :
    broadcastTo S1024x4096 (shapeCast S1x4096 (statRow x k) shapeCasts_S1x1x1x4096_S1x4096) broadcasts_S1x4096_S1024x4096 (ix2 j i)
      = x (ix4 0 (runOf k) 0 i) := by
  refine (broadcastTo_apply _ broadcasts_S1x4096_S1024x4096 (ix2 j i) (ix2 0 i) (fun a => match a with
    | ⟨0, _⟩ => by show 0 = if (1 : Nat) = 1 then 0 else _; rw [if_pos rfl]
    | ⟨1, _⟩ => by show i.val = if (4096 : Nat) = 1 then 0 else i.val; rw [if_neg (by decide)])).trans ?_
  refine (shapeCast_apply _ _ (ix2 0 i) (ix4 0 0 0 i) (by rw [Shape.rowMajor_val_two, Shape.rowMajor_val_four]; simp)).trans ?_
  unfold statRow
  rw [View.ld_apply]
  refine congrArg x (funext fun a => Fin.ext ?_)
  rw [Rect.idx_unit_val]
  refine (congrArg (· + _) (congrFun (off3_eq k) a)).trans ?_
  match a with
  | ⟨0, _⟩ => rfl
  | ⟨1, _⟩ => exact Nat.add_zero _
  | ⟨2, _⟩ => rfl
  | ⟨3, _⟩ => exact Nat.zero_add _

theorem pay1_apply (x1 : Vec F S1x1024x192 .bf16) (j : Fin 1024) (d : Fin 192) : k0_pay1 x1 (ix2 j d) = x1 (ix3 0 j d) := by
  unfold k0_pay1
  exact shapeCast_apply _ _ (ix2 j d) (ix3 0 j d) (by rw [Shape.rowMajor_val_two, Shape.rowMajor_val_three]; simp)

theorem pay2_apply (x2 : Vec F S1x1x192x1024 .bf16) (d : Fin 192) (j : Fin 1024) : k0_pay2 x2 (ix2 d j) = x2 (ix4 0 0 d j) := by
  unfold k0_pay2
  exact shapeCast_apply _ _ (ix2 d j) (ix4 0 0 d j) (by rw [Shape.rowMajor_val_two, Shape.rowMajor_val_four]; simp)

theorem pay3_apply (x3 : Vec F S1x1024x128 .bf16) (j : Fin 1024) (d : Fin 128) : k0_pay3 x3 (ix2 j d) = x3 (ix3 0 j d) := by
  unfold k0_pay3
  exact shapeCast_apply _ _ (ix2 j d) (ix3 0 j d) (by rw [Shape.rowMajor_val_two, Shape.rowMajor_val_three]; simp)

theorem pay6_apply (y : FVec F S1024x192 .f32) (j : Fin 1024) (d : Fin 192) : k0_pay6 y (ix3 0 j d) = y (ix2 j d) := by
  unfold k0_pay6
  exact shapeCast_apply _ _ (ix3 0 j d) (ix2 j d) (by rw [Shape.rowMajor_val_two, Shape.rowMajor_val_three]; simp)

theorem pay7_apply (y : FVec F S1024x128 .f32) (j : Fin 1024) (d : Fin 128) : k0_pay7 y (ix3 0 j d) = y (ix2 j d) := by
  unfold k0_pay7
  exact shapeCast_apply _ _ (ix3 0 j d) (ix2 j d) (by rw [Shape.rowMajor_val_two, Shape.rowMajor_val_three]; simp)

end Loads

/-! ## The products over the extended reals -/

theorem mm_nt {M K N : ℕ} {φ₁ φ₂ : FTy} (l : FVec Ideal ⟨2, ![M, K]⟩ φ₁) (r : FVec Ideal ⟨2, ![N, K]⟩ φ₂) (a : Fin M) (b : Fin N) :
    matmul (DotDims.transposedRhs M K N) none l r (constant _ .f32 0x00000000#32) (ix2 a b) = ∑ k : Fin K, l (ix2 a k) * r (ix2 b k) := by
  refine (Ideal.matmul_transposedRhs_apply none l r _ a b).trans ?_
  show Ideal.ofBits .f32 0x00000000#32 + _ = _
  rw [Ideal.ofBits_zero_f32, zero_add]

theorem mm_nn {M K N : ℕ} {φ₁ φ₂ : FTy} (l : FVec Ideal ⟨2, ![M, K]⟩ φ₁) (r : FVec Ideal ⟨2, ![K, N]⟩ φ₂) (a : Fin M) (b : Fin N) :
    matmul (DotDims.plain M K N) none l r (constant _ .f32 0x00000000#32) (ix2 a b) = ∑ k : Fin K, l (ix2 a k) * r (ix2 k b) := by
  refine (Ideal.matmul_plain_apply none l r _ a b).trans ?_
  show Ideal.ofBits .f32 0x00000000#32 + _ = _
  rw [Ideal.ofBits_zero_f32, zero_add]

/-! ## The body's values -/

section Point

variable {A : Args} {h n : Fin 8} {x0 : Vec Ideal S1x8192x192 .bf16} {x1 : Vec Ideal S1x1024x192 .bf16} {x2 : Vec Ideal S1x1x192x1024 .bf16}
  {x3 : Vec Ideal S1x1024x128 .bf16} {x4 : Vec Ideal S8192x128 .bf16} {x5 x6 : Vec Ideal S1x2x1x4096 .f32}
  (B : Blocks A h n x0 x1 x2 x3 x4 x5 x6)
include B

/-- The weights of a run's queries against the tile's keys. -/
theorem weight_eq (k : Fin k0_t1_loop.trips) (j : Fin 1024) (i : Fin 4096) :
    k0_pay10 (k0_pay1 x1) (qRows x0 k) (statRow x5 k) (ix2 j i) = ((A.w h (qrow (runOf k) i) (krow n j) : ℝ) : EReal) := by
  have e1 : matmul dot_S1024x192_S4096x192_S1024x4096_1_1_0_0_n_n none (k0_pay1 x1) (k0_pay8 (qRows x0 k)) (constant S1024x4096 .f32 0x00000000#32) (ix2 j i)
      = ((∑ d, A.k (krow n j) h d * (A.q (qrow (runOf k) i) h d * (scale * (1 / Real.log 2))) : ℝ) : EReal) := by
    refine (mm_nt (k0_pay1 x1) (k0_pay8 (qRows x0 k)) j i).trans ?_
    rw [coe_sum]
    refine Finset.sum_congr rfl fun d _ => ?_
    rw [pay1_apply, qRows_apply, B.k, B.q, ← EReal.coe_mul]
  have e2 := stat_apply x5 k j i
  show Ideal.exp2 (matmul dot_S1024x192_S4096x192_S1024x4096_1_1_0_0_n_n none (k0_pay1 x1) (k0_pay8 (qRows x0 k)) (constant S1024x4096 .f32 0x00000000#32) (ix2 j i)
    - broadcastTo S1024x4096 (shapeCast S1x4096 (statRow x5 k) shapeCasts_S1x1x1x4096_S1x4096) broadcasts_S1x4096_S1024x4096 (ix2 j i)) = _
  rw [e1, e2, B.lse, ← EReal.coe_sub, Ideal.exp2_coe]
  exact congrArg Real.toEReal (A.pow_score h _ _)

/-- The gradient by the score, times log 2. -/
theorem score_grad_eq (k : Fin k0_t1_loop.trips) (j : Fin 1024) (i : Fin 4096) :
    k0_pay11 (k0_pay1 x1) (k0_pay3 x3) (qRows x0 k) (doRows x4 k) (statRow x5 k) (statRow x6 k) (ix2 j i)
      = ((A.g h (qrow (runOf k) i) (krow n j) * Real.log 2 : ℝ) : EReal) := by
  have e1 : matmul dot_S1024x128_S4096x128_S1024x4096_1_1_0_0_n_n none (k0_pay3 x3) (k0_pay9 (doRows x4 k)) (constant S1024x4096 .f32 0x00000000#32) (ix2 j i)
      = ((A.dp h (qrow (runOf k) i) (krow n j) : ℝ) : EReal) := by
    refine (mm_nt (k0_pay3 x3) (k0_pay9 (doRows x4 k)) j i).trans ?_
    unfold Args.dp
    rw [coe_sum]
    refine Finset.sum_congr rfl fun d _ => ?_
    rw [pay3_apply, doRows_apply, B.v, B.ct, ← EReal.coe_mul, mul_comm]
  have e2 := stat_apply x6 k j i
  have e3 : (Named.named (F := Ideal) κ "ln2" 0x3F317218#32 : Ideal .f32) = ((Real.log 2 : ℝ) : EReal) :=
    IdealRules.named_const.ideal_named_scalar _ _ _ _ rfl
  show k0_pay10 (k0_pay1 x1) (qRows x0 k) (statRow x5 k) (ix2 j i)
    * (matmul dot_S1024x128_S4096x128_S1024x4096_1_1_0_0_n_n none (k0_pay3 x3) (k0_pay9 (doRows x4 k)) (constant S1024x4096 .f32 0x00000000#32) (ix2 j i)
      - broadcastTo S1024x4096 (shapeCast S1x4096 (statRow x6 k) shapeCasts_S1x1x1x4096_S1x4096) broadcasts_S1x4096_S1024x4096 (ix2 j i))
    * Named.named (F := Ideal) κ "ln2" 0x3F317218#32 = _
  rw [weight_eq B, e1, e2, B.ds, e3, ← EReal.coe_sub, ← EReal.coe_mul, ← EReal.coe_mul]
  rfl

/-- This tile's part of the gradient by a run's queries. -/
theorem dqtPart_eq (k : Fin k0_t1_loop.trips) (d : Fin 192) (i : Fin 4096) :
    dqtPart x0 x1 x2 x3 x4 x5 x6 k (ix2 d i)
      = ((∑ j, A.k (krow n j) h d * (A.g h (qrow (runOf k) i) (krow n j) * Real.log 2) : ℝ) : EReal) := by
  refine (mm_nn (k0_pay2 x2) (k0_pay11 (k0_pay1 x1) (k0_pay3 x3) (qRows x0 k) (doRows x4 k) (statRow x5 k) (statRow x6 k)) d i).trans ?_
  rw [coe_sum]
  refine Finset.sum_congr rfl fun j _ => ?_
  rw [pay2_apply, score_grad_eq B, B.kt, ← EReal.coe_mul]

/-- A trip's addition to the gradient by the keys. -/
theorem carry_fst (acc : FVec Ideal S1024x192 .f32 × FVec Ideal S1024x128 .f32) (k : Fin k0_t1_loop.trips) (j : Fin 1024) (d : Fin 192) :
    (carry x0 x1 x3 x4 x5 x6 acc k).1 (ix2 j d)
      = acc.1 (ix2 j d) + ((∑ i, A.g h (qrow (runOf k) i) (krow n j) * scale * A.q (qrow (runOf k) i) h d : ℝ) : EReal) := by
  refine congrArg (acc.1 (ix2 j d) + ·) ?_
  refine (mm_nn (k0_pay11 (k0_pay1 x1) (k0_pay3 x3) (qRows x0 k) (doRows x4 k) (statRow x5 k) (statRow x6 k)) (k0_pay8 (qRows x0 k)) j d).trans ?_
  rw [coe_sum]
  refine Finset.sum_congr rfl fun i _ => ?_
  rw [score_grad_eq B, qRows_apply, B.q, ← EReal.coe_mul]
  refine congrArg Real.toEReal ?_
  have := log_two_pos.ne'
  field_simp

/-- A trip's addition to the gradient by the values. -/
theorem carry_snd (acc : FVec Ideal S1024x192 .f32 × FVec Ideal S1024x128 .f32) (k : Fin k0_t1_loop.trips) (j : Fin 1024) (d : Fin 128) :
    (carry x0 x1 x3 x4 x5 x6 acc k).2 (ix2 j d)
      = acc.2 (ix2 j d) + ((∑ i, A.ct (qrow (runOf k) i) (col h d) * A.w h (qrow (runOf k) i) (krow n j) : ℝ) : EReal) := by
  refine congrArg (acc.2 (ix2 j d) + ·) ?_
  refine (mm_nn (φ₁ := .bf16) (truncf .bf16 (k0_pay10 (k0_pay1 x1) (qRows x0 k) (statRow x5 k)) bitsLt_bf16_f32) (k0_pay9 (doRows x4 k)) j d).trans ?_
  rw [coe_sum]
  refine Finset.sum_congr rfl fun i _ => ?_
  refine (congrArg₂ (· * ·) (weight_eq B k j i) ((doRows_apply x4 k i d).trans (B.ct _ _))).trans ?_
  rw [← EReal.coe_mul, mul_comm]

/-- The block of the gradient by the keys. -/
theorem dkOut_eq (j : Fin 1024) (d : Fin 192) : dkOut x0 x1 x3 x4 x5 x6 (ix3 0 j d) = ((A.gradK h (krow n j) d : ℝ) : EReal) := by
  unfold dkOut carried
  rw [pay6_apply, carry_fst B, carry_fst B]
  show (Ideal.ofBits .f32 0x00000000#32 + _) + _ = _
  unfold Args.gradK
  rw [Ideal.ofBits_zero_f32, zero_add, ← EReal.coe_add, sum_runs]
  rfl

/-- The block of the gradient by the values. -/
theorem dvOut_eq (j : Fin 1024) (d : Fin 128) : dvOut x0 x1 x3 x4 x5 x6 (ix3 0 j d) = ((A.gradV h (krow n j) d : ℝ) : EReal) := by
  unfold dvOut carried
  rw [pay7_apply, carry_snd B, carry_snd B]
  show (Ideal.ofBits .f32 0x00000000#32 + _) + _ = _
  unfold Args.gradV
  rw [Ideal.ofBits_zero_f32, zero_add, ← EReal.coe_add, sum_runs]
  rfl

/-- This tile's part of the gradient by the queries, both runs. -/
theorem dqtBlk_eq (r : Fin 2) (d : Fin 192) (i : Fin 4096) : dqtBlk x0 x1 x2 x3 x4 x5 x6 (ix4 0 r d i)
    = ((∑ j, A.k (krow n j) h d * (A.g h (qrow r i) (krow n j) * Real.log 2) : ℝ) : EReal) := by
  have e : runOf (tripOf r.val) = r := by
    have : ∀ r : Fin 2, runOf (tripOf r.val) = r := by decide
    exact this r
  show dqtPart x0 x1 x2 x3 x4 x5 x6 (tripOf r.val) (ix2 d i) = _
  rw [dqtPart_eq B, e]

end Point

end Cert.KernelIdeal.Attention

end
-- ==== Proof.Value.lean ====
/-
  WHAT THE LAUNCH LEAVES, OVER THE EXTENDED REALS. Grid point `t` works on head `t / 8` and tile `t % 8` of 1024 keys;
  every window's block there is read as a part of its array, so the blocks hold the real functions of that head and
  tile. The gradient by the queries is summed over the head's eight tiles and ends at the whole sum over the keys; the
  gradients by the keys and by the values are put down tile by tile. The three result arrays end at `gradQ`, `gradK`
  and `gradV`.
-/
module

public import proofs.«01_k».proof.Proof.Launch
public import proofs.«01_k».proof.Proof.Host
public import proofs.«01_k».proof.Proof.Tile
public import proofs.«01_k».proof.Proof.Reference

@[expose] public section

set_option maxRecDepth 16384

noncomputable section

namespace Cert.KernelIdeal.Attention

open Cert.KernelIdeal Cert.KernelIdeal.Gen Cert.Attention Cert.ReferenceIdeal.Attention Idealize.ShloMosaic Idealize.ShloMosaic.TcCoe Idealize.ShloMosaic.ValueIdx
open Idealize.SL.Sem
open Idealize.ShloMosaic.Pipeline (Dat)

/-- The head a point works on. -/
def headOf (t : Fin cfg0.N) : Fin 8 := ⟨t.val / 8, by have : t.val < 64 := lt_of_lt_of_eq t.isLt N_0; omega⟩

/-- The tile of keys a point works on. -/
def tileOf (t : Fin cfg0.N) : Fin 8 := ⟨t.val % 8, Nat.mod_lt _ (by decide)⟩

/-! ## The blocks' places -/

theorem place_0 (t : Fin cfg0.N) : win0_0.index t 0 = t.val / 8 ∧ win0_0.index t 1 = 0 ∧ win0_0.index t 2 = 0 := by
  have h : ∀ t : Fin grid0.N, win0_0.index t 0 = t.val / 8 ∧ win0_0.index t 1 = 0 ∧ win0_0.index t 2 = 0 := by decide +kernel
  exact h t
theorem place_1 (t : Fin cfg0.N) : win0_1.index t 0 = t.val / 8 ∧ win0_1.index t 1 = t.val % 8 ∧ win0_1.index t 2 = 0 := by
  have h : ∀ t : Fin grid0.N, win0_1.index t 0 = t.val / 8 ∧ win0_1.index t 1 = t.val % 8 ∧ win0_1.index t 2 = 0 := by decide +kernel
  exact h t
theorem place_2 (t : Fin cfg0.N) : win0_2.index t 0 = t.val / 8 ∧ win0_2.index t 1 = t.val % 8 ∧ win0_2.index t 2 = 0 ∧ win0_2.index t 3 = 0 := by
  have h : ∀ t : Fin grid0.N, win0_2.index t 0 = t.val / 8 ∧ win0_2.index t 1 = t.val % 8 ∧ win0_2.index t 2 = 0 ∧ win0_2.index t 3 = 0 := by decide +kernel
  exact h t
theorem place_3 (t : Fin cfg0.N) : win0_3.index t 0 = t.val / 8 ∧ win0_3.index t 1 = t.val % 8 ∧ win0_3.index t 2 = 0 := by
  have h : ∀ t : Fin grid0.N, win0_3.index t 0 = t.val / 8 ∧ win0_3.index t 1 = t.val % 8 ∧ win0_3.index t 2 = 0 := by decide +kernel
  exact h t
theorem place_4 (t : Fin cfg0.N) : win0_4.index t 0 = 0 ∧ win0_4.index t 1 = t.val / 8 := by
  have h : ∀ t : Fin grid0.N, win0_4.index t 0 = 0 ∧ win0_4.index t 1 = t.val / 8 := by decide +kernel
  exact h t
theorem place_5 (t : Fin cfg0.N) : win0_5.index t 0 = t.val / 8 ∧ win0_5.index t 1 = 0 ∧ win0_5.index t 2 = 0 ∧ win0_5.index t 3 = 0 := by
  have h : ∀ t : Fin grid0.N, win0_5.index t 0 = t.val / 8 ∧ win0_5.index t 1 = 0 ∧ win0_5.index t 2 = 0 ∧ win0_5.index t 3 = 0 := by decide +kernel
  exact h t
theorem place_6 (t : Fin cfg0.N) : win0_6.index t 0 = t.val / 8 ∧ win0_6.index t 1 = 0 ∧ win0_6.index t 2 = 0 ∧ win0_6.index t 3 = 0 := by
  have h : ∀ t : Fin grid0.N, win0_6.index t 0 = t.val / 8 ∧ win0_6.index t 1 = 0 ∧ win0_6.index t 2 = 0 ∧ win0_6.index t 3 = 0 := by decide +kernel
  exact h t
theorem place_7 (t : Fin cfg0.N) : win0_7.index t 0 = t.val / 8 ∧ win0_7.index t 1 = 0 ∧ win0_7.index t 2 = 0 ∧ win0_7.index t 3 = 0 := by
  have h : ∀ t : Fin grid0.N, win0_7.index t 0 = t.val / 8 ∧ win0_7.index t 1 = 0 ∧ win0_7.index t 2 = 0 ∧ win0_7.index t 3 = 0 := by decide +kernel
  exact h t
theorem place_8 (t : Fin cfg0.N) : win0_8.index t 0 = t.val / 8 ∧ win0_8.index t 1 = t.val % 8 ∧ win0_8.index t 2 = 0 := by
  have h : ∀ t : Fin grid0.N, win0_8.index t 0 = t.val / 8 ∧ win0_8.index t 1 = t.val % 8 ∧ win0_8.index t 2 = 0 := by decide +kernel
  exact h t
theorem place_9 (t : Fin cfg0.N) : win0_9.index t 0 = t.val / 8 ∧ win0_9.index t 1 = t.val % 8 ∧ win0_9.index t 2 = 0 := by
  have h : ∀ t : Fin grid0.N, win0_9.index t 0 = t.val / 8 ∧ win0_9.index t 1 = t.val % 8 ∧ win0_9.index t 2 = 0 := by decide +kernel
  exact h t

/-! ## A block, read off its array -/

section Reads

variable {F : FTy → Type} [FloatOps F] [Named F] (t : Fin cfg0.N)

theorem block_0 (G : Vec F S8x8192x192 .bf16) (i : Fin 8192) (d : Fin 192) :
    ((cfg0.win 0).blk t).view.read (Elt F) G (ix3 0 i d) = G (ix3 (headOf t) i d) := by
  rw [View.read_apply]
  refine congrArg G (funext fun a => Fin.ext ?_)
  obtain ⟨e0, e1, e2⟩ := place_0 t
  match a with
  | ⟨0, _⟩ => show win0_0.index t 0 * 1 + 1 * 0 = t.val / 8; rw [e0]; omega
  | ⟨1, _⟩ => show win0_0.index t 1 * 8192 + 1 * i.val = i.val; rw [e1]; omega
  | ⟨2, _⟩ => show win0_0.index t 2 * 192 + 1 * d.val = d.val; rw [e2]; omega

theorem block_1 (G : Vec F S8x8192x192 .bf16) (j : Fin 1024) (d : Fin 192) :
    ((cfg0.win 1).blk t).view.read (Elt F) G (ix3 0 j d) = G (ix3 (headOf t) (krow (tileOf t) j) d) := by
  rw [View.read_apply]
  refine congrArg G (funext fun a => Fin.ext ?_)
  obtain ⟨e0, e1, e2⟩ := place_1 t
  match a with
  | ⟨0, _⟩ => show win0_1.index t 0 * 1 + 1 * 0 = t.val / 8; rw [e0]; omega
  | ⟨1, _⟩ => show win0_1.index t 1 * 1024 + 1 * j.val = 1024 * (t.val % 8) + j.val; rw [e1]; omega
  | ⟨2, _⟩ => show win0_1.index t 2 * 192 + 1 * d.val = d.val; rw [e2]; omega

theorem block_2 (G : Vec F S8x8x192x1024 .bf16) (d : Fin 192) (j : Fin 1024) :
    ((cfg0.win 2).blk t).view.read (Elt F) G (ix4 0 0 d j) = G (ix4 (headOf t) (tileOf t) d j) := by
  rw [View.read_apply]
  refine congrArg G (funext fun a => Fin.ext ?_)
  obtain ⟨e0, e1, e2, e3⟩ := place_2 t
  match a with
  | ⟨0, _⟩ => show win0_2.index t 0 * 1 + 1 * 0 = t.val / 8; rw [e0]; omega
  | ⟨1, _⟩ => show win0_2.index t 1 * 1 + 1 * 0 = t.val % 8; rw [e1]; omega
  | ⟨2, _⟩ => show win0_2.index t 2 * 192 + 1 * d.val = d.val; rw [e2]; omega
  | ⟨3, _⟩ => show win0_2.index t 3 * 1024 + 1 * j.val = j.val; rw [e3]; omega

theorem block_3 (G : Vec F S8x8192x128 .bf16) (j : Fin 1024) (d : Fin 128) :
    ((cfg0.win 3).blk t).view.read (Elt F) G (ix3 0 j d) = G (ix3 (headOf t) (krow (tileOf t) j) d) := by
  rw [View.read_apply]
  refine congrArg G (funext fun a => Fin.ext ?_)
  obtain ⟨e0, e1, e2⟩ := place_3 t
  match a with
  | ⟨0, _⟩ => show win0_3.index t 0 * 1 + 1 * 0 = t.val / 8; rw [e0]; omega
  | ⟨1, _⟩ => show win0_3.index t 1 * 1024 + 1 * j.val = 1024 * (t.val % 8) + j.val; rw [e1]; omega
  | ⟨2, _⟩ => show win0_3.index t 2 * 128 + 1 * d.val = d.val; rw [e2]; omega

theorem block_4 (G : Vec F S8192x1024 .bf16) (i : Fin 8192) (d : Fin 128) :
    ((cfg0.win 4).blk t).view.read (Elt F) G (ix2 i d) = G (ix2 i (col (headOf t) d)) := by
  rw [View.read_apply]
  refine congrArg G (funext fun a => Fin.ext ?_)
  obtain ⟨e0, e1⟩ := place_4 t
  match a with
  | ⟨0, _⟩ => show win0_4.index t 0 * 8192 + 1 * i.val = i.val; rw [e0]; omega
  | ⟨1, _⟩ => show win0_4.index t 1 * 128 + 1 * d.val = 128 * (t.val / 8) + d.val; rw [e1]; omega

theorem block_5 (G : Vec F S8x2x1x4096 .f32) (k : Fin 2) (i : Fin 4096) :
    ((cfg0.win 5).blk t).view.read (Elt F) G (ix4 0 k 0 i) = G (ix4 (headOf t) k 0 i) := by
  rw [View.read_apply]
  refine congrArg G (funext fun a => Fin.ext ?_)
  obtain ⟨e0, e1, e2, e3⟩ := place_5 t
  match a with
  | ⟨0, _⟩ => show win0_5.index t 0 * 1 + 1 * 0 = t.val / 8; rw [e0]; omega
  | ⟨1, _⟩ => show win0_5.index t 1 * 2 + 1 * k.val = k.val; rw [e1]; omega
  | ⟨2, _⟩ => show win0_5.index t 2 * 1 + 1 * 0 = 0; rw [e2]
  | ⟨3, _⟩ => show win0_5.index t 3 * 4096 + 1 * i.val = i.val; rw [e3]; omega

theorem block_6 (G : Vec F S8x2x1x4096 .f32) (k : Fin 2) (i : Fin 4096) :
    ((cfg0.win 6).blk t).view.read (Elt F) G (ix4 0 k 0 i) = G (ix4 (headOf t) k 0 i) := by
  rw [View.read_apply]
  refine congrArg G (funext fun a => Fin.ext ?_)
  obtain ⟨e0, e1, e2, e3⟩ := place_6 t
  match a with
  | ⟨0, _⟩ => show win0_6.index t 0 * 1 + 1 * 0 = t.val / 8; rw [e0]; omega
  | ⟨1, _⟩ => show win0_6.index t 1 * 2 + 1 * k.val = k.val; rw [e1]; omega
  | ⟨2, _⟩ => show win0_6.index t 2 * 1 + 1 * 0 = 0; rw [e2]
  | ⟨3, _⟩ => show win0_6.index t 3 * 4096 + 1 * i.val = i.val; rw [e3]; omega

theorem block_7 (G : Vec F S8x2x192x4096 .f32) (r : Fin 2) (d : Fin 192) (i : Fin 4096) :
    ((cfg0.win 7).blk t).view.read (Elt F) G (ix4 0 r d i) = G (ix4 (headOf t) r d i) := by
  rw [View.read_apply]
  refine congrArg G (funext fun a => Fin.ext ?_)
  obtain ⟨e0, e1, e2, e3⟩ := place_7 t
  match a with
  | ⟨0, _⟩ => show win0_7.index t 0 * 1 + 1 * 0 = t.val / 8; rw [e0]; omega
  | ⟨1, _⟩ => show win0_7.index t 1 * 2 + 1 * r.val = r.val; rw [e1]; omega
  | ⟨2, _⟩ => show win0_7.index t 2 * 192 + 1 * d.val = d.val; rw [e2]; omega
  | ⟨3, _⟩ => show win0_7.index t 3 * 4096 + 1 * i.val = i.val; rw [e3]; omega

theorem block_8 (G : Vec F S8x8192x192 .f32) (j : Fin 1024) (d : Fin 192) :
    ((cfg0.win 8).blk t).view.read (Elt F) G (ix3 0 j d) = G (ix3 (headOf t) (krow (tileOf t) j) d) := by
  rw [View.read_apply]
  refine congrArg G (funext fun a => Fin.ext ?_)
  obtain ⟨e0, e1, e2⟩ := place_8 t
  match a with
  | ⟨0, _⟩ => show win0_8.index t 0 * 1 + 1 * 0 = t.val / 8; rw [e0]; omega
  | ⟨1, _⟩ => show win0_8.index t 1 * 1024 + 1 * j.val = 1024 * (t.val % 8) + j.val; rw [e1]; omega
  | ⟨2, _⟩ => show win0_8.index t 2 * 192 + 1 * d.val = d.val; rw [e2]; omega

theorem block_9 (G : Vec F S8x8192x128 .f32) (j : Fin 1024) (d : Fin 128) :
    ((cfg0.win 9).blk t).view.read (Elt F) G (ix3 0 j d) = G (ix3 (headOf t) (krow (tileOf t) j) d) := by
  rw [View.read_apply]
  refine congrArg G (funext fun a => Fin.ext ?_)
  obtain ⟨e0, e1, e2⟩ := place_9 t
  match a with
  | ⟨0, _⟩ => show win0_9.index t 0 * 1 + 1 * 0 = t.val / 8; rw [e0]; omega
  | ⟨1, _⟩ => show win0_9.index t 1 * 1024 + 1 * j.val = 1024 * (t.val % 8) + j.val; rw [e1]; omega
  | ⟨2, _⟩ => show win0_9.index t 2 * 128 + 1 * d.val = d.val; rw [e2]; omega

end Reads

/-! ## The blocks of a point hold its head's and tile's functions -/

section

variable (m : (ℓ : Loc nD τ sig) → Buf (Elt Ideal) ℓ) (c : Dev nD) (t : Fin cfg0.N)

theorem iblk_0 : iblk m c 0 t = ((cfg0.win 0).blk t).view.read (Elt Ideal) (at28 m c) := by unfold iblk at28; rfl
theorem iblk_1 : iblk m c 1 t = ((cfg0.win 1).blk t).view.read (Elt Ideal) (at30 m c) := by unfold iblk at30; rfl
theorem iblk_2 : iblk m c 2 t = ((cfg0.win 2).blk t).view.read (Elt Ideal) (at34 m c) := by unfold iblk at34; rfl
theorem iblk_3 : iblk m c 3 t = ((cfg0.win 3).blk t).view.read (Elt Ideal) (at32 m c) := by unfold iblk at32; rfl
theorem iblk_4 : iblk m c 4 t = ((cfg0.win 4).blk t).view.read (Elt Ideal) (at35 m c) := by unfold iblk at35; rfl
theorem iblk_5 : iblk m c 5 t = ((cfg0.win 5).blk t).view.read (Elt Ideal) (at36 m c) := by unfold iblk at36; rfl
theorem iblk_6 : iblk m c 6 t = ((cfg0.win 6).blk t).view.read (Elt Ideal) (at37 m c) := by unfold iblk at37; rfl

end

section

variable {A : Args} {m : (ℓ : Loc nD τ sig) → Buf (Elt Ideal) ℓ} {c : Dev nD}
  (H : Holds A (argQ m c) (argK m c) (argV m c) (argCt m c))
include H

theorem q_at (t : Fin cfg0.N) (i : Fin 8192) (d : Fin 192) :
    iblk m c 0 t (ix3 0 i d) = ((A.q i (headOf t) d * (scale * (1 / Real.log 2)) : ℝ) : EReal) :=
  (congrFun (iblk_0 m c t) (ix3 0 i d)).trans ((block_0 (F := Ideal) t (at28 m c) i d).trans (at28_eq H _ i d))
theorem k_at (t : Fin cfg0.N) (j : Fin 1024) (d : Fin 192) :
    iblk m c 1 t (ix3 0 j d) = ((A.k (krow (tileOf t) j) (headOf t) d : ℝ) : EReal) :=
  (congrFun (iblk_1 m c t) (ix3 0 j d)).trans ((block_1 (F := Ideal) t (at30 m c) j d).trans (at30_eq H _ _ d))
theorem kt_at (t : Fin cfg0.N) (d : Fin 192) (j : Fin 1024) :
    iblk m c 2 t (ix4 0 0 d j) = ((A.k (krow (tileOf t) j) (headOf t) d : ℝ) : EReal) :=
  (congrFun (iblk_2 m c t) (ix4 0 0 d j)).trans ((block_2 (F := Ideal) t (at34 m c) d j).trans (at34_eq H _ _ d j))
theorem v_at (t : Fin cfg0.N) (j : Fin 1024) (d : Fin 128) :
    iblk m c 3 t (ix3 0 j d) = ((A.v (krow (tileOf t) j) (headOf t) d : ℝ) : EReal) :=
  (congrFun (iblk_3 m c t) (ix3 0 j d)).trans ((block_3 (F := Ideal) t (at32 m c) j d).trans (at32_eq H _ _ d))
theorem ct_at (t : Fin cfg0.N) (i : Fin 8192) (d : Fin 128) :
    iblk m c 4 t (ix2 i d) = ((A.ct i (col (headOf t) d) : ℝ) : EReal) :=
  (congrFun (iblk_4 m c t) (ix2 i d)).trans ((block_4 (F := Ideal) t (at35 m c) i d).trans (at35_eq H i _))
theorem lse_at (t : Fin cfg0.N) (k : Fin 2) (i : Fin 4096) : iblk m c 5 t (ix4 0 k 0 i)
    = (((A.top (headOf t) (qrow k i) + Real.log (A.tot (headOf t) (qrow k i))) * (1 / Real.log 2) : ℝ) : EReal) :=
  (congrFun (iblk_5 m c t) (ix4 0 k 0 i)).trans ((block_5 (F := Ideal) t (at36 m c) k i).trans (at36_eq H _ k i))
theorem ds_at (t : Fin cfg0.N) (k : Fin 2) (i : Fin 4096) : iblk m c 6 t (ix4 0 k 0 i) = ((A.ds (headOf t) (qrow k i) : ℝ) : EReal) :=
  (congrFun (iblk_6 m c t) (ix4 0 k 0 i)).trans ((block_6 (F := Ideal) t (at37 m c) k i).trans (at37_eq H _ k i))

/-- The blocks a point reads are those of its head and tile. -/
theorem blocks_at (t : Fin cfg0.N) : Blocks A (headOf t) (tileOf t) (iblk m c 0 t) (iblk m c 1 t) (iblk m c 2 t) (iblk m c 3 t)
    (iblk m c 4 t) (iblk m c 5 t) (iblk m c 6 t) :=
  ⟨q_at H t, k_at H t, kt_at H t, v_at H t, ct_at H t, lse_at H t, ds_at H t⟩

/-! ## The gradient by the queries, summed over the tiles -/

/-- One tile's part of the gradient by a query. -/
def part (A : Args) (h : Fin 8) (r : Fin 2) (d : Fin 192) (i : Fin 4096) (n : ℕ) : ℝ :=
  ∑ j, A.k (krow ⟨n % 8, Nat.mod_lt _ (by decide)⟩ j) h d * (A.g h (qrow r i) (krow ⟨n % 8, Nat.mod_lt _ (by decide)⟩ j) * Real.log 2)

theorem dqtBlkAt_eq (t : Fin cfg0.N) (r : Fin 2) (d : Fin 192) (i : Fin 4096) :
    dqtBlkAt m c t (ix4 0 r d i) = ((part A (headOf t) r d i t.val : ℝ) : EReal) :=
  dqtBlk_eq (blocks_at H t) r d i

/-- After tile `n` of head `h`, the sum of the tiles up to it. -/
theorem dqtAt_eq (h : Fin 8) (r : Fin 2) (d : Fin 192) (i : Fin 4096) : ∀ (n : ℕ) (hn : n < 8) (ht : 8 * h.val + n < cfg0.N),
    dqtAt m c (8 * h.val + n) ht (ix4 0 r d i) = ((∑ j ∈ Finset.range (n + 1), part A h r d i j : ℝ) : EReal)
  | 0, _, ht => by
    have e : headOf ⟨8 * h.val + 0, ht⟩ = h := Fin.ext (by show (8 * h.val + 0) / 8 = h.val; omega)
    have e2 : part A h r d i (8 * h.val + 0) = part A h r d i 0 := by
      unfold part; simp only [show (8 * h.val + 0) % 8 = 0 % 8 by omega]
    rw [dqtAt_first m c ⟨8 * h.val + 0, ht⟩ (by show (8 * h.val + 0) % 8 = 0; omega), dqtBlkAt_eq H, e, Finset.sum_range_one]
    exact congrArg Real.toEReal e2
  | n + 1, hn, ht => by
    have e : headOf ⟨8 * h.val + (n + 1), ht⟩ = h := Fin.ext (by show (8 * h.val + (n + 1)) / 8 = h.val; omega)
    have e2 : part A h r d i (8 * h.val + (n + 1)) = part A h r d i (n + 1) := by
      unfold part; simp only [show (8 * h.val + (n + 1)) % 8 = (n + 1) % 8 by omega]
    rw [dqtAt_later m c ⟨8 * h.val + (n + 1), ht⟩ (by show ¬(8 * h.val + (n + 1)) % 8 = 0; omega)]
    show dqtAt m c (8 * h.val + n) _ (ix4 0 r d i) + dqtBlkAt m c ⟨8 * h.val + (n + 1), ht⟩ (ix4 0 r d i) = _
    rw [dqtAt_eq h r d i n (by omega) (Nat.lt_of_succ_lt ht), dqtBlkAt_eq H, e, Finset.sum_range_succ _ (n + 1), ← EReal.coe_add]
    exact congrArg (fun x : ℝ => (((∑ j ∈ Finset.range (n + 1), part A h r d i j) + x : ℝ) : EReal)) e2

omit H in
/-- All eight tiles are all the keys. -/
theorem part_sum (h : Fin 8) (r : Fin 2) (d : Fin 192) (i : Fin 4096) :
    ∑ j ∈ Finset.range 8, part A h r d i j = A.gradQ h (qrow r i) d := by
  unfold Args.gradQ
  rw [sum_tiles, Finset.sum_range]
  refine Finset.sum_congr rfl fun n _ => ?_
  unfold part
  simp only [Nat.mod_eq_of_lt n.isLt]

/-! ## The result arrays -/

omit H in
/-- The gradient by the queries, over its scale, as the result array holds it. -/
def resultQ (A : Args) : Vec Ideal S8x2x192x4096 .f32 := fun i =>
  ((A.gradQ (i 0) ⟨4096 * (i 1).val + (i 3).val, by have h1 : (i 1).val < 2 := (i 1).isLt; have h3 : (i 3).val < 4096 := (i 3).isLt; omega⟩ (i 2) : ℝ) : EReal)

omit H in
/-- The gradient by the keys, as the result array holds it. -/
def resultK (A : Args) : Vec Ideal S8x8192x192 .f32 := fun i => ((A.gradK (i 0) (i 1) (i 2) : ℝ) : EReal)

omit H in
/-- The gradient by the values, as the result array holds it. -/
def resultV (A : Args) : Vec Ideal S8x8192x128 .f32 := fun i => ((A.gradV (i 0) (i 1) (i 2) : ℝ) : EReal)

theorem flushed_7 (t : Fin cfg0.N) (hf : (cfg0.win 7).flush t = true) :
    (dats m 0 c).flushed 7 t = ((cfg0.win 7).blk t).view.read (Elt Ideal) (resultQ A) := by
  have h7 := (flush0_7 t).mp hf
  show (cfg0.win 7).cut (grid0.coords t) ((dats m 0 c).after 7 t) = _
  rw [after_7]
  refine funext fun (y : S1x2x192x4096.Idx) => ?_
  obtain ⟨r, d, i, rfl⟩ : ∃ r d i, y = ix4 0 r d i := ⟨y 1, y 2, y 3, funext fun a => Fin.ext (match a with
    | ⟨0, _⟩ => Nat.lt_one_iff.mp (y 0).isLt
    | ⟨1, _⟩ => rfl
    | ⟨2, _⟩ => rfl
    | ⟨3, _⟩ => rfl)⟩
  refine Eq.trans ?_ (block_7 (F := Ideal) t (resultQ A) r d i).symm
  show dqtAt m c t.val t.isLt (ix4 0 r d i) = ((A.gradQ (headOf t) (qrow r i) d : ℝ) : EReal)
  have ht : t.val = 8 * (headOf t).val + 7 := by show t.val = 8 * (t.val / 8) + 7; omega
  have e := dqtAt_eq H (headOf t) r d i 7 (by decide) (lt_of_eq_of_lt ht.symm t.isLt)
  rw [part_sum] at e
  rw [← e]
  congr 1

theorem flushed_8 (t : Fin cfg0.N) :
    (dats m 0 c).flushed 8 t = ((cfg0.win 8).blk t).view.read (Elt Ideal) (resultK A) := by
  show (cfg0.win 8).cut (grid0.coords t) ((dats m 0 c).after 8 t) = _
  rw [after_8]
  refine funext fun (y : S1x1024x192.Idx) => ?_
  obtain ⟨j, d, rfl⟩ : ∃ j d, y = ix3 0 j d := ⟨y 1, y 2, funext fun a => Fin.ext (match a with
    | ⟨0, _⟩ => Nat.lt_one_iff.mp (y 0).isLt
    | ⟨1, _⟩ => rfl
    | ⟨2, _⟩ => rfl)⟩
  refine Eq.trans ?_ (block_8 (F := Ideal) t (resultK A) j d).symm
  exact dkOut_eq (blocks_at H t) j d

theorem flushed_9 (t : Fin cfg0.N) :
    (dats m 0 c).flushed 9 t = ((cfg0.win 9).blk t).view.read (Elt Ideal) (resultV A) := by
  show (cfg0.win 9).cut (grid0.coords t) ((dats m 0 c).after 9 t) = _
  rw [after_9]
  refine funext fun (y : S1x1024x128.Idx) => ?_
  obtain ⟨j, d, rfl⟩ : ∃ j d, y = ix3 0 j d := ⟨y 1, y 2, funext fun a => Fin.ext (match a with
    | ⟨0, _⟩ => Nat.lt_one_iff.mp (y 0).isLt
    | ⟨1, _⟩ => rfl
    | ⟨2, _⟩ => rfl)⟩
  refine Eq.trans ?_ (block_9 (F := Ideal) t (resultV A) j d).symm
  exact dvOut_eq (blocks_at H t) j d

theorem final_7 : (dats m 0 c).arrAt 7 cfg0.N = resultQ A :=
  (dats m 0 c).arrAt_eq_of_cover 7 (resultQ A) (flushed_7 H) fun i => by
    have h0 : (i 0 : Nat) < 8 := (i 0).isLt
    have h1 : (i 1 : Nat) < 2 := (i 1).isLt
    have h2 : (i 2 : Nat) < 192 := (i 2).isLt
    have h3 : (i 3 : Nat) < 4096 := (i 3).isLt
    let t : Fin cfg0.N := ⟨8 * (i 0 : Nat) + 7, lt_of_lt_of_eq (by omega : _ < 64) N_0.symm⟩
    refine ⟨t, (flush0_7 t).mpr (by show (8 * (i 0 : Nat) + 7) % 8 = 7; omega), ?_⟩
    show i ∈ ((View.whole main_v38_0).slice (win0_7.rect t)).set
    rw [View.set_slice_whole, Rect.mem_set_unit]
    obtain ⟨e0, e1, e2, e3⟩ := place_7 t
    have ht : t.val = 8 * (i 0 : Nat) + 7 := rfl
    intro a
    match a with
    | ⟨0, _⟩ => show win0_7.index t 0 * 1 ≤ (i 0 : Nat) ∧ (i 0 : Nat) < win0_7.index t 0 * 1 + 1; rw [e0]; omega
    | ⟨1, _⟩ => show win0_7.index t 1 * 2 ≤ (i 1 : Nat) ∧ (i 1 : Nat) < win0_7.index t 1 * 2 + 2; rw [e1]; omega
    | ⟨2, _⟩ => show win0_7.index t 2 * 192 ≤ (i 2 : Nat) ∧ (i 2 : Nat) < win0_7.index t 2 * 192 + 192; rw [e2]; omega
    | ⟨3, _⟩ => show win0_7.index t 3 * 4096 ≤ (i 3 : Nat) ∧ (i 3 : Nat) < win0_7.index t 3 * 4096 + 4096; rw [e3]; omega

theorem final_8 : (dats m 0 c).arrAt 8 cfg0.N = resultK A :=
  (dats m 0 c).arrAt_eq_of_cover 8 (resultK A) (fun t _ => flushed_8 H t) fun i => by
    have h0 : (i 0 : Nat) < 8 := (i 0).isLt
    have h1 : (i 1 : Nat) < 8192 := (i 1).isLt
    have h2 : (i 2 : Nat) < 192 := (i 2).isLt
    let t : Fin cfg0.N := ⟨8 * (i 0 : Nat) + (i 1 : Nat) / 1024, lt_of_lt_of_eq (by omega : _ < 64) N_0.symm⟩
    refine ⟨t, flush0_8 t, ?_⟩
    show i ∈ ((View.whole main_v38_1).slice (win0_8.rect t)).set
    rw [View.set_slice_whole, Rect.mem_set_unit]
    obtain ⟨e0, e1, e2⟩ := place_8 t
    have ht : t.val = 8 * (i 0 : Nat) + (i 1 : Nat) / 1024 := rfl
    intro a
    match a with
    | ⟨0, _⟩ => show win0_8.index t 0 * 1 ≤ (i 0 : Nat) ∧ (i 0 : Nat) < win0_8.index t 0 * 1 + 1; rw [e0]; omega
    | ⟨1, _⟩ => show win0_8.index t 1 * 1024 ≤ (i 1 : Nat) ∧ (i 1 : Nat) < win0_8.index t 1 * 1024 + 1024; rw [e1]; omega
    | ⟨2, _⟩ => show win0_8.index t 2 * 192 ≤ (i 2 : Nat) ∧ (i 2 : Nat) < win0_8.index t 2 * 192 + 192; rw [e2]; omega

theorem final_9 : (dats m 0 c).arrAt 9 cfg0.N = resultV A :=
  (dats m 0 c).arrAt_eq_of_cover 9 (resultV A) (fun t _ => flushed_9 H t) fun i => by
    have h0 : (i 0 : Nat) < 8 := (i 0).isLt
    have h1 : (i 1 : Nat) < 8192 := (i 1).isLt
    have h2 : (i 2 : Nat) < 128 := (i 2).isLt
    let t : Fin cfg0.N := ⟨8 * (i 0 : Nat) + (i 1 : Nat) / 1024, lt_of_lt_of_eq (by omega : _ < 64) N_0.symm⟩
    refine ⟨t, flush0_9 t, ?_⟩
    show i ∈ ((View.whole main_v38_2).slice (win0_9.rect t)).set
    rw [View.set_slice_whole, Rect.mem_set_unit]
    obtain ⟨e0, e1, e2⟩ := place_9 t
    have ht : t.val = 8 * (i 0 : Nat) + (i 1 : Nat) / 1024 := rfl
    intro a
    match a with
    | ⟨0, _⟩ => show win0_9.index t 0 * 1 ≤ (i 0 : Nat) ∧ (i 0 : Nat) < win0_9.index t 0 * 1 + 1; rw [e0]; omega
    | ⟨1, _⟩ => show win0_9.index t 1 * 1024 ≤ (i 1 : Nat) ∧ (i 1 : Nat) < win0_9.index t 1 * 1024 + 1024; rw [e1]; omega
    | ⟨2, _⟩ => show win0_9.index t 2 * 128 ≤ (i 2 : Nat) ∧ (i 2 : Nat) < win0_9.index t 2 * 128 + 128; rw [e2]; omega

end

end Cert.KernelIdeal.Attention

end
-- ==== Proof.Columns.lean ====
/-
  THE ORDER OF THE COLUMNS. The input projections of the two mixers have 6720 columns. The calls work on them in an order
  of their own, with 192 columns of zeros at the end: the first mixer's branches, then each head's plain and rotary
  query parts, then the latent. Column `j` of that order is column `source j` of the projection; every column occurs once,
  so a sum over the call's columns is the sum over the projection's.
-/
module

public import Idealize.ShloMosaic.Lib.Pipeline.Value
public import Idealize.ShloMosaic.Lib.ValueIdx
public import Idealize.ShloMosaic.PureOps.Ideal.Laws

@[expose] public section

set_option maxRecDepth 16384

noncomputable section

namespace Cert.Columns

open Idealize.ShloMosaic Idealize.ShloMosaic.ValueIdx

/-- The projection's column at place `j` of the call's order. -/
def sourceNat (j : ℕ) : ℕ :=
  if j < 2048 then 1536 + j
  else if j < 3072 then 5696 + (j - 2048)
  else if j < 4608 then j - 3072
  else if j < 5632 then 3584 + 192 * ((j - 4608) / 128) + (j - 4608) % 128
  else if j < 6144 then 3584 + 192 * ((j - 5632) / 64) + 128 + (j - 5632) % 64
  else if j < 6656 then 5120 + (j - 6144)
  else 5632 + (j - 6656)

/-- The place of the projection's column `k` in the call's order. -/
def placeNat (k : ℕ) : ℕ :=
  if k < 1536 then 3072 + k
  else if k < 3584 then k - 1536
  else if k < 5120 then
    if (k - 3584) % 192 < 128 then 4608 + 128 * ((k - 3584) / 192) + (k - 3584) % 192
    else 5632 + 64 * ((k - 3584) / 192) + ((k - 3584) % 192 - 128)
  else if k < 5632 then 6144 + (k - 5120)
  else if k < 5696 then 6656 + (k - 5632)
  else 2048 + (k - 5696)

theorem sourceNat_lt (j : ℕ) (h : j < 6720) : sourceNat j < 6720 := by
  unfold sourceNat
  split_ifs <;> omega

theorem placeNat_lt (k : ℕ) (h : k < 6720) : placeNat k < 6720 := by
  unfold placeNat
  split_ifs <;> omega

theorem place_source (j : ℕ) (h : j < 6720) : placeNat (sourceNat j) = j := by
  unfold sourceNat
  split_ifs <;> unfold placeNat <;> split_ifs <;> omega

theorem source_place (k : ℕ) (h : k < 6720) : sourceNat (placeNat k) = k := by
  unfold placeNat
  split_ifs <;> unfold sourceNat <;> split_ifs <;> omega

/-- The call's order of the projection's columns. -/
def source : Fin 6720 ≃ Fin 6720 where
  toFun j := ⟨sourceNat j, sourceNat_lt j j.isLt⟩
  invFun k := ⟨placeNat k, placeNat_lt k k.isLt⟩
  left_inv j := Fin.ext (place_source j j.isLt)
  right_inv k := Fin.ext (source_place k k.isLt)

/-- A row `f` of the projection in the call's order, with zeros at the end. -/
def ordered (f : Fin 6720 → EReal) (j : Fin 6912) : EReal :=
  if h : j.val < 6720 then f (source ⟨j.val, h⟩) else 0

/-- A sum over the call's columns of products is the sum over the projection's columns. -/
theorem sum_ordered (f g : Fin 6720 → EReal) : ∑ j, ordered f j * ordered g j = ∑ k, f k * g k := by
  rw [Fin.sum_univ_add (a := 6720) (b := 192) fun j => ordered f j * ordered g j]
  have e : ∀ j : Fin 192, ordered f (Fin.natAdd 6720 j) * ordered g (Fin.natAdd 6720 j) = 0 := fun j => by
    unfold ordered
    rw [dif_neg (show ¬(Fin.natAdd 6720 j).val < 6720 from Nat.not_lt.mpr (Nat.le_add_right 6720 j.val)), zero_mul]
  rw [Finset.sum_eq_zero fun j _ => e j, add_zero, ← Equiv.sum_comp source fun k => f k * g k]
  refine Finset.sum_congr rfl fun j _ => ?_
  unfold ordered
  rw [dif_pos (show (Fin.castAdd 192 j).val < 6720 from j.isLt), dif_pos (show (Fin.castAdd 192 j).val < 6720 from j.isLt)]
  rfl

/-- A row times a matrix with its columns in the call's order is the product in the call's order. -/
theorem sum_mul_ordered {n : ℕ} (x : Fin n → EReal) (f : Fin n → Fin 6720 → EReal) (j : Fin 6912) :
    ∑ i, x i * ordered (f i) j = ordered (fun k => ∑ i, x i * f i k) j := by
  unfold ordered
  split_ifs
  · rfl
  · simp

/-- The pieces of an array's columns laid side by side in the call's order, read at an index. -/
theorem concat_apply {R : ℕ} (x : (⟨2, ![R, 6720]⟩ : Shape).Idx → EReal) (pad : (⟨2, ![R, 192]⟩ : Shape).Idx → EReal) (hpad : ∀ i, pad i = 0)
    (h0 : (⟨2, ![R, 6720]⟩ : Shape).Slices ![0, 1536] ⟨2, ![R, 2048]⟩) (h1 : (⟨2, ![R, 6720]⟩ : Shape).Slices ![0, 5696] ⟨2, ![R, 1024]⟩)
    (h2 : (⟨2, ![R, 6720]⟩ : Shape).Slices ![0, 0] ⟨2, ![R, 1536]⟩) (hq : (⟨2, ![R, 6720]⟩ : Shape).Slices ![0, 3584] ⟨2, ![R, 1536]⟩)
    (hh : (⟨2, ![R, 1536]⟩ : Shape).ShapeCasts ⟨3, ![R, 8, 192]⟩)
    (h3 : (⟨3, ![R, 8, 192]⟩ : Shape).Slices ![0, 0, 0] ⟨3, ![R, 8, 128]⟩) (h3' : (⟨3, ![R, 8, 128]⟩ : Shape).ShapeCasts ⟨2, ![R, 1024]⟩)
    (h4 : (⟨3, ![R, 8, 192]⟩ : Shape).Slices ![0, 0, 128] ⟨3, ![R, 8, 64]⟩) (h4' : (⟨3, ![R, 8, 64]⟩ : Shape).ShapeCasts ⟨2, ![R, 512]⟩)
    (h5 : (⟨2, ![R, 6720]⟩ : Shape).Slices ![0, 5120] ⟨2, ![R, 512]⟩) (h6 : (⟨2, ![R, 6720]⟩ : Shape).Slices ![0, 5632] ⟨2, ![R, 64]⟩)
    (xs : List ((s : Shape) × (s.Idx → EReal))) (hxs : xs =
        [⟨⟨2, ![R, 2048]⟩, extractStridedSlice ⟨2, ![R, 2048]⟩ ![0, 1536] x h0⟩,
         ⟨⟨2, ![R, 1024]⟩, extractStridedSlice ⟨2, ![R, 1024]⟩ ![0, 5696] x h1⟩,
         ⟨⟨2, ![R, 1536]⟩, extractStridedSlice ⟨2, ![R, 1536]⟩ ![0, 0] x h2⟩,
         ⟨⟨2, ![R, 1024]⟩, shapeCast ⟨2, ![R, 1024]⟩ (extractStridedSlice ⟨3, ![R, 8, 128]⟩ ![0, 0, 0]
            (shapeCast ⟨3, ![R, 8, 192]⟩ (extractStridedSlice ⟨2, ![R, 1536]⟩ ![0, 3584] x hq) hh) h3) h3'⟩,
         ⟨⟨2, ![R, 512]⟩, shapeCast ⟨2, ![R, 512]⟩ (extractStridedSlice ⟨3, ![R, 8, 64]⟩ ![0, 0, 128]
            (shapeCast ⟨3, ![R, 8, 192]⟩ (extractStridedSlice ⟨2, ![R, 1536]⟩ ![0, 3584] x hq) hh) h4) h4'⟩,
         ⟨⟨2, ![R, 512]⟩, extractStridedSlice ⟨2, ![R, 512]⟩ ![0, 5120] x h5⟩,
         ⟨⟨2, ![R, 64]⟩, extractStridedSlice ⟨2, ![R, 64]⟩ ![0, 5632] x h6⟩,
         ⟨⟨2, ![R, 192]⟩, pad⟩])
    (h : Shape.Concatenates (xs.map (·.1)) ⟨2, ![R, 6912]⟩ 1) (i : Fin R) (j : Fin 6912) :
    concatenate ⟨2, ![R, 6912]⟩ 1 xs h (ix2 i j)
      = ordered (fun k => x (ix2 i k)) j := by
  subst hxs
  have hj : j.val < 6912 := j.isLt
  unfold ordered
  by_cases c0 : j.val < 2048
  · rw [dif_pos (by omega)]
    refine (concatenate_apply_piece 1 _ h (ix2 i j) 0 (by simp) ⟨2, ![R, 2048]⟩ _ rfl rfl 0 rfl (ix2 i ⟨j.val, c0⟩) (fun b hb => ?_) (by show 0 + j.val = j.val; omega)).trans ?_
    · match b, hb with
      | ⟨0, _⟩, _ => rfl
      | ⟨1, _⟩, hb => exact absurd rfl hb
    refine (extractStridedSlice_apply _ _ h0 _ (ix2 i (source ⟨j.val, by omega⟩)) (fun a => ?_))
    match a with
    | ⟨0, _⟩ => show i.val = 0 + i.val; omega
    | ⟨1, _⟩ => show sourceNat j.val = 1536 + j.val; unfold sourceNat; split_ifs; omega
  by_cases c1 : j.val < 3072
  · rw [dif_pos (by omega)]
    refine (concatenate_apply_piece 1 _ h (ix2 i j) 1 (by simp) ⟨2, ![R, 1024]⟩ _ rfl rfl 2048 rfl (ix2 i ⟨j.val - 2048, by omega⟩) (fun b hb => ?_) (by show 2048 + (j.val - 2048) = j.val; omega)).trans ?_
    · match b, hb with
      | ⟨0, _⟩, _ => rfl
      | ⟨1, _⟩, hb => exact absurd rfl hb
    refine (extractStridedSlice_apply _ _ h1 _ (ix2 i (source ⟨j.val, by omega⟩)) (fun a => ?_))
    match a with
    | ⟨0, _⟩ => show i.val = 0 + i.val; omega
    | ⟨1, _⟩ => show sourceNat j.val = 5696 + (j.val - 2048); unfold sourceNat; split_ifs; omega
  by_cases c2 : j.val < 4608
  · rw [dif_pos (by omega)]
    refine (concatenate_apply_piece 1 _ h (ix2 i j) 2 (by simp) ⟨2, ![R, 1536]⟩ _ rfl rfl 3072 rfl (ix2 i ⟨j.val - 3072, by omega⟩) (fun b hb => ?_) (by show 3072 + (j.val - 3072) = j.val; omega)).trans ?_
    · match b, hb with
      | ⟨0, _⟩, _ => rfl
      | ⟨1, _⟩, hb => exact absurd rfl hb
    refine (extractStridedSlice_apply _ _ h2 _ (ix2 i (source ⟨j.val, by omega⟩)) (fun a => ?_))
    match a with
    | ⟨0, _⟩ => show i.val = 0 + i.val; omega
    | ⟨1, _⟩ => show sourceNat j.val = 0 + (j.val - 3072); unfold sourceNat; split_ifs; omega
  by_cases c3 : j.val < 5632
  · rw [dif_pos (by omega)]
    refine (concatenate_apply_piece 1 _ h (ix2 i j) 3 (by simp) ⟨2, ![R, 1024]⟩ _ rfl rfl 4608 rfl (ix2 i ⟨j.val - 4608, by omega⟩) (fun b hb => ?_) (by show 4608 + (j.val - 4608) = j.val; omega)).trans ?_
    · match b, hb with
      | ⟨0, _⟩, _ => rfl
      | ⟨1, _⟩, hb => exact absurd rfl hb
    refine (shapeCast_apply _ h3' _ (ix3 i ⟨(j.val - 4608) / 128, by omega⟩ ⟨(j.val - 4608) % 128, by omega⟩) (by
      rw [Shape.rowMajor_val_two, Shape.rowMajor_val_three]
      show (i.val * 8 + (j.val - 4608) / 128) * 128 + (j.val - 4608) % 128 = i.val * 1024 + (j.val - 4608); omega)).trans ?_
    refine (extractStridedSlice_apply _ _ h3 _ (ix3 i ⟨(j.val - 4608) / 128, by omega⟩ ⟨(j.val - 4608) % 128, by omega⟩) (fun a => ?_)).trans ?_
    · match a with
      | ⟨0, _⟩ => show i.val = 0 + i.val; omega
      | ⟨1, _⟩ => show (j.val - 4608) / 128 = 0 + (j.val - 4608) / 128; omega
      | ⟨2, _⟩ => show (j.val - 4608) % 128 = 0 + (j.val - 4608) % 128; omega
    refine (shapeCast_apply _ hh _ (ix2 i ⟨192 * ((j.val - 4608) / 128) + (j.val - 4608) % 128, by omega⟩) (by
      rw [Shape.rowMajor_val_two, Shape.rowMajor_val_three]
      show i.val * 1536 + (192 * ((j.val - 4608) / 128) + (j.val - 4608) % 128) = (i.val * 8 + (j.val - 4608) / 128) * 192 + (j.val - 4608) % 128; omega)).trans ?_
    refine (extractStridedSlice_apply _ _ hq _ (ix2 i (source ⟨j.val, by omega⟩)) (fun a => ?_))
    match a with
    | ⟨0, _⟩ => show i.val = 0 + i.val; omega
    | ⟨1, _⟩ => show sourceNat j.val = 3584 + (192 * ((j.val - 4608) / 128) + (j.val - 4608) % 128); unfold sourceNat; split_ifs; omega
  by_cases c4 : j.val < 6144
  · rw [dif_pos (by omega)]
    refine (concatenate_apply_piece 1 _ h (ix2 i j) 4 (by simp) ⟨2, ![R, 512]⟩ _ rfl rfl 5632 rfl (ix2 i ⟨j.val - 5632, by omega⟩) (fun b hb => ?_) (by show 5632 + (j.val - 5632) = j.val; omega)).trans ?_
    · match b, hb with
      | ⟨0, _⟩, _ => rfl
      | ⟨1, _⟩, hb => exact absurd rfl hb
    refine (shapeCast_apply _ h4' _ (ix3 i ⟨(j.val - 5632) / 64, by omega⟩ ⟨(j.val - 5632) % 64, by omega⟩) (by
      rw [Shape.rowMajor_val_two, Shape.rowMajor_val_three]
      show (i.val * 8 + (j.val - 5632) / 64) * 64 + (j.val - 5632) % 64 = i.val * 512 + (j.val - 5632); omega)).trans ?_
    refine (extractStridedSlice_apply _ _ h4 _ (ix3 i ⟨(j.val - 5632) / 64, by omega⟩ ⟨128 + (j.val - 5632) % 64, by omega⟩) (fun a => ?_)).trans ?_
    · match a with
      | ⟨0, _⟩ => show i.val = 0 + i.val; omega
      | ⟨1, _⟩ => show (j.val - 5632) / 64 = 0 + (j.val - 5632) / 64; omega
      | ⟨2, _⟩ => show 128 + (j.val - 5632) % 64 = 128 + (j.val - 5632) % 64; rfl
    refine (shapeCast_apply _ hh _ (ix2 i ⟨192 * ((j.val - 5632) / 64) + (128 + (j.val - 5632) % 64), by omega⟩) (by
      rw [Shape.rowMajor_val_two, Shape.rowMajor_val_three]
      show i.val * 1536 + (192 * ((j.val - 5632) / 64) + (128 + (j.val - 5632) % 64)) = (i.val * 8 + (j.val - 5632) / 64) * 192 + (128 + (j.val - 5632) % 64); omega)).trans ?_
    refine (extractStridedSlice_apply _ _ hq _ (ix2 i (source ⟨j.val, by omega⟩)) (fun a => ?_))
    match a with
    | ⟨0, _⟩ => show i.val = 0 + i.val; omega
    | ⟨1, _⟩ => show sourceNat j.val = 3584 + (192 * ((j.val - 5632) / 64) + (128 + (j.val - 5632) % 64)); unfold sourceNat; split_ifs; omega
  by_cases c5 : j.val < 6656
  · rw [dif_pos (by omega)]
    refine (concatenate_apply_piece 1 _ h (ix2 i j) 5 (by simp) ⟨2, ![R, 512]⟩ _ rfl rfl 6144 rfl (ix2 i ⟨j.val - 6144, by omega⟩) (fun b hb => ?_) (by show 6144 + (j.val - 6144) = j.val; omega)).trans ?_
    · match b, hb with
      | ⟨0, _⟩, _ => rfl
      | ⟨1, _⟩, hb => exact absurd rfl hb
    refine (extractStridedSlice_apply _ _ h5 _ (ix2 i (source ⟨j.val, by omega⟩)) (fun a => ?_))
    match a with
    | ⟨0, _⟩ => show i.val = 0 + i.val; omega
    | ⟨1, _⟩ => show sourceNat j.val = 5120 + (j.val - 6144); unfold sourceNat; split_ifs; omega
  by_cases c6 : j.val < 6720
  · rw [dif_pos c6]
    refine (concatenate_apply_piece 1 _ h (ix2 i j) 6 (by simp) ⟨2, ![R, 64]⟩ _ rfl rfl 6656 rfl (ix2 i ⟨j.val - 6656, by omega⟩) (fun b hb => ?_) (by show 6656 + (j.val - 6656) = j.val; omega)).trans ?_
    · match b, hb with
      | ⟨0, _⟩, _ => rfl
      | ⟨1, _⟩, hb => exact absurd rfl hb
    refine (extractStridedSlice_apply _ _ h6 _ (ix2 i (source ⟨j.val, by omega⟩)) (fun a => ?_))
    match a with
    | ⟨0, _⟩ => show i.val = 0 + i.val; omega
    | ⟨1, _⟩ => show sourceNat j.val = 5632 + (j.val - 6656); unfold sourceNat; split_ifs; omega
  · rw [dif_neg c6]
    refine (concatenate_apply_piece 1 _ h (ix2 i j) 7 (by simp) ⟨2, ![R, 192]⟩ _ rfl rfl 6720 rfl (ix2 i ⟨j.val - 6720, by omega⟩) (fun b hb => ?_) (by show 6720 + (j.val - 6720) = j.val; omega)).trans (hpad _)
    match b, hb with
    | ⟨0, _⟩, _ => rfl
    | ⟨1, _⟩, hb => exact absurd rfl hb

end Cert.Columns

end
-- ==== Proof.ProductX.lean ====
/-
  THE GRADIENT BY THE INPUT PROJECTIONS' INPUT. The launch of an eight by eight grid puts down, at point (n, p), rows
  1024 n … and columns 256 p … of the product of the gradient's rows by the weight's rows, both in the call's order of the
  columns; so the array ends at the sum over the projection's columns.
-/
module

public import proofs.«01_k».proof.Proof.Columns
public import proofs.«01_k».proof.Proof.Tile
public import proofs.«01_k».proof.Proof.Gen.Kernel2Ideal.Value
public import proofs.«01_k».proof.Proof.Gen.Reference2Ideal.Read

@[expose] public section

set_option maxRecDepth 16384

noncomputable section

namespace Cert.Kernel2Ideal.Product

open Cert.Kernel2Ideal Cert.Kernel2Ideal.Gen Cert.Columns Idealize.ShloMosaic Idealize.ShloMosaic.TcCoe Idealize.ShloMosaic.ValueIdx
open Idealize.SL.Sem
open Cert.KernelIdeal.Attention (mm_nt)
open Idealize.ShloMosaic.Pipeline (Dat)

variable (m : (ℓ : Loc nD τ sig) → Buf (Elt Ideal) ℓ) (c : Dev nD)

/-- The weight and the projection's gradient in the initial memory. -/
abbrev argW : FVec Ideal S2048x6720 .f32 := m ((c.tc : Thread nD τ).loc main_arg1)
abbrev argCt : FVec Ideal S8192x6720 .f32 := m ((c.tc : Thread nD τ).loc main_arg2)

/-- The host's arrays the kernel reads. -/
def at13 : FVec Ideal S8192x6912 .bf16 := V m c main_v13
def at27 : FVec Ideal S2048x6912 .bf16 := V m c main_v27

theorem at13_eq (i : Fin 8192) (j : Fin 6912) : at13 m c (ix2 i j) = ordered (fun k => argCt m c (ix2 i k)) j := by
  refine Eq.trans ?_ (concat_apply (argCt m c) (broadcastInDim S8192x192 ![] bcast_S_S8192x192 (constant (F := Ideal) S_ .f32 0x00000000#32)) (fun _ => Ideal.ofBits_zero_f32)
    slices_S8192x6720_S8192x2048_0_1536 slices_S8192x6720_S8192x1024_0_5696 slices_S8192x6720_S8192x1536_0_0 slices_S8192x6720_S8192x1536_0_3584
    shapeCasts_S8192x1536_S8192x8x192 slices_S8192x8x192_S8192x8x128_0_0_0 shapeCasts_S8192x8x128_S8192x1024 slices_S8192x8x192_S8192x8x64_0_0_128
    shapeCasts_S8192x8x64_S8192x512 slices_S8192x6720_S8192x512_0_5120 slices_S8192x6720_S8192x64_0_5632 _ rfl
    concatenates_S8192x2048_S8192x1024_S8192x1536_S8192x1024_S8192x512_S8192x512_S8192x64_S8192x192_S8192x6912_d1 i j)
  refine congrFun (?_ : at13 m c = _) (ix2 i j)
  unfold at13 V
  after_results_simp <;> rfl

theorem at27_eq (i : Fin 2048) (j : Fin 6912) : at27 m c (ix2 i j) = ordered (fun k => argW m c (ix2 i k)) j := by
  refine Eq.trans ?_ (concat_apply (argW m c) (broadcastInDim S2048x192 ![] bcast_S_S2048x192 (constant (F := Ideal) S_ .f32 0x00000000#32)) (fun _ => Ideal.ofBits_zero_f32)
    slices_S2048x6720_S2048x2048_0_1536 slices_S2048x6720_S2048x1024_0_5696 slices_S2048x6720_S2048x1536_0_0 slices_S2048x6720_S2048x1536_0_3584
    shapeCasts_S2048x1536_S2048x8x192 slices_S2048x8x192_S2048x8x128_0_0_0 shapeCasts_S2048x8x128_S2048x1024 slices_S2048x8x192_S2048x8x64_0_0_128
    shapeCasts_S2048x8x64_S2048x512 slices_S2048x6720_S2048x512_0_5120 slices_S2048x6720_S2048x64_0_5632 _ rfl
    concatenates_S2048x2048_S2048x1024_S2048x1536_S2048x1024_S2048x512_S2048x512_S2048x64_S2048x192_S2048x6912_d1 i j)
  refine congrFun (?_ : at27 m c = _) (ix2 i j)
  unfold at27 V
  after_results_simp <;> rfl

/-! ## The blocks -/

theorem place_0 (t : Fin cfg0.N) : win0_0.index t 0 = t.val / 8 ∧ win0_0.index t 1 = 0 := by
  have h : ∀ t : Fin grid0.N, win0_0.index t 0 = t.val / 8 ∧ win0_0.index t 1 = 0 := by decide +kernel
  exact h t
theorem place_1 (t : Fin cfg0.N) : win0_1.index t 0 = t.val % 8 ∧ win0_1.index t 1 = 0 := by
  have h : ∀ t : Fin grid0.N, win0_1.index t 0 = t.val % 8 ∧ win0_1.index t 1 = 0 := by decide +kernel
  exact h t
theorem place_2 (t : Fin cfg0.N) : win0_2.index t 0 = t.val / 8 ∧ win0_2.index t 1 = t.val % 8 := by
  have h : ∀ t : Fin grid0.N, win0_2.index t 0 = t.val / 8 ∧ win0_2.index t 1 = t.val % 8 := by decide +kernel
  exact h t

/-- The row and the column of the result a point's block holds at a place. -/
def rowOf (t : Fin cfg0.N) (a : Fin 1024) : Fin 8192 := ⟨1024 * (t.val / 8) + a.val, by
  have : t.val < 64 := lt_of_lt_of_eq t.isLt N_0
  omega⟩
def colOf (t : Fin cfg0.N) (b : Fin 256) : Fin 2048 := ⟨256 * (t.val % 8) + b.val, by omega⟩

section Reads

variable {F : FTy → Type} [FloatOps F] (t : Fin cfg0.N)

theorem block_0 (G : Vec F S8192x6912 .bf16) (a : Fin 1024) (j : Fin 6912) :
    ((cfg0.win 0).blk t).view.read (Elt F) G (ix2 a j) = G (ix2 (rowOf t a) j) := by
  rw [View.read_apply]
  refine congrArg G (funext fun x => Fin.ext ?_)
  obtain ⟨e0, e1⟩ := place_0 t
  match x with
  | ⟨0, _⟩ => show win0_0.index t 0 * 1024 + 1 * a.val = 1024 * (t.val / 8) + a.val; rw [e0]; omega
  | ⟨1, _⟩ => show win0_0.index t 1 * 6912 + 1 * j.val = j.val; rw [e1]; omega

theorem block_1 (G : Vec F S2048x6912 .bf16) (b : Fin 256) (j : Fin 6912) :
    ((cfg0.win 1).blk t).view.read (Elt F) G (ix2 b j) = G (ix2 (colOf t b) j) := by
  rw [View.read_apply]
  refine congrArg G (funext fun x => Fin.ext ?_)
  obtain ⟨e0, e1⟩ := place_1 t
  match x with
  | ⟨0, _⟩ => show win0_1.index t 0 * 256 + 1 * b.val = 256 * (t.val % 8) + b.val; rw [e0]; omega
  | ⟨1, _⟩ => show win0_1.index t 1 * 6912 + 1 * j.val = j.val; rw [e1]; omega

theorem block_2 (G : Vec F S8192x2048 .f32) (a : Fin 1024) (b : Fin 256) :
    ((cfg0.win 2).blk t).view.read (Elt F) G (ix2 a b) = G (ix2 (rowOf t a) (colOf t b)) := by
  rw [View.read_apply]
  refine congrArg G (funext fun x => Fin.ext ?_)
  obtain ⟨e0, e1⟩ := place_2 t
  match x with
  | ⟨0, _⟩ => show win0_2.index t 0 * 1024 + 1 * a.val = 1024 * (t.val / 8) + a.val; rw [e0]; omega
  | ⟨1, _⟩ => show win0_2.index t 1 * 256 + 1 * b.val = 256 * (t.val % 8) + b.val; rw [e1]; omega

end Reads

theorem zero_off : (![0, 0] : Fin 2 → Nat) = fun _ => 0 := by decide

/-- What the body leaves: the product of the two blocks' rows. -/
theorem out_apply (x0 : Vec Ideal S1024x6912 .bf16) (x1 : Vec Ideal S256x6912 .bf16) (a : Fin 1024) (b : Fin 256) :
    out0_2 x0 x1 (ix2 a b) = ∑ j : Fin 6912, x0 (ix2 a j) * x1 (ix2 b j) := by
  unfold out0_2
  rw [View.canon_cons_unit_zero zero_off inb_S1024x256_S1024x256_0_0, View.ld_unit_zero zero_off, View.ld_unit_zero zero_off]
  unfold k0_pay1
  rw [shapeCast_self, shapeCast_self]
  exact mm_nt x0 x1 a b

/-! ## The result -/

theorem iblk_0 (t : Fin cfg0.N) : iblk m c 0 t = ((cfg0.win 0).blk t).view.read (Elt Ideal) (at13 m c) := by unfold iblk at13; rfl
theorem iblk_1 (t : Fin cfg0.N) : iblk m c 1 t = ((cfg0.win 1).blk t).view.read (Elt Ideal) (at27 m c) := by unfold iblk at27; rfl

/-- The gradient by the input: the sum over the projection's columns. -/
def gradX (w : FVec Ideal S2048x6720 .f32) (ct : FVec Ideal S8192x6720 .f32) : FVec Ideal S8192x2048 .f32 :=
  fun i => ∑ k : Fin 6720, ct (ix2 (i 0) k) * w (ix2 (i 1) k)

theorem flushed_2 (t : Fin cfg0.N) :
    (dats m 0 c).flushed 2 t = ((cfg0.win 2).blk t).view.read (Elt Ideal) (gradX (argW m c) (argCt m c)) := by
  rw [Value.flushed2]
  refine funext fun (y : S1024x256.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_2 (F := Ideal) t (gradX (argW m c) (argCt m c)) a b).symm
  refine (out_apply (iblk m c 0 t) (iblk m c 1 t) a b).trans ?_
  refine Eq.trans (Finset.sum_congr rfl fun j _ => ?_) (sum_ordered _ _)
  refine congrArg₂ (· * ·) ?_ ?_
  · exact (congrFun (iblk_0 m c t) (ix2 a j)).trans ((block_0 (F := Ideal) t (at13 m c) a j).trans (at13_eq m c _ j))
  · exact (congrFun (iblk_1 m c t) (ix2 b j)).trans ((block_1 (F := Ideal) t (at27 m c) b j).trans (at27_eq m c _ j))

theorem final_2 : (dats m 0 c).arrAt 2 cfg0.N = gradX (argW m c) (argCt m c) :=
  (dats m 0 c).arrAt_eq_of_cover 2 (gradX (argW m c) (argCt m c)) (fun t _ => flushed_2 m c t) fun i => by
    have h0 : (i 0 : Nat) < 8192 := (i 0).isLt
    have h1 : (i 1 : Nat) < 2048 := (i 1).isLt
    let t : Fin cfg0.N := ⟨8 * ((i 0 : Nat) / 1024) + (i 1 : Nat) / 256, lt_of_lt_of_eq (by omega : _ < 64) N_0.symm⟩
    refine ⟨t, flush0_2 t, ?_⟩
    show i ∈ ((View.whole main_v28).slice (win0_2.rect t)).set
    rw [View.set_slice_whole, Rect.mem_set_unit]
    obtain ⟨e0, e1⟩ := place_2 t
    have ht : t.val = 8 * ((i 0 : Nat) / 1024) + (i 1 : Nat) / 256 := rfl
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 256 ≤ (i 1 : Nat) ∧ (i 1 : Nat) < win0_2.index t 1 * 256 + 256; rw [e1]; omega

/-- The reference's gradient by the input. -/
theorem reference_eq (w : FVec Ideal S2048x6720 .f32) (ct : FVec Ideal S8192x6720 .f32) :
    Cert.Reference2Ideal.Read.val_main_v3 (F := Ideal) w ct = gradX w ct := by
  refine funext fun i => ?_
  rw [Cert.Reference2Ideal.Read.val_main_v3_apply]
  refine Finset.sum_congr rfl fun k _ => congrArg₂ (· * ·) (congrArg ct (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

end Cert.Kernel2Ideal.Product

end
-- ==== Proof.Sums.lean ====
/-
  SUMS OVER THE POSITIONS. A weight's gradient multiplies one array's columns by another's, summed over the positions; the
  calls take the positions in four runs of 2048.
-/
module

public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace Cert.Sums

open Idealize.ShloMosaic Idealize.ShloMosaic.ValueIdx

/-! ## A product summed over both operands' rows -/

/-- The left operand is K by M, the right one K by N. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem mm_tn {M K N : ℕ} {φ₁ φ₂ : FTy} (l : FVec Ideal ⟨2, ![K, M]⟩ φ₁) (r : FVec Ideal ⟨2, ![K, N]⟩ φ₂) (a : Fin M) (b : Fin N) :
    matmul (tn M K N) none l r (constant _ .f32 0x00000000#32) (ix2 a b) = ∑ k : Fin K, l (ix2 k a) * r (ix2 k b) := by
  refine (Ideal.matmul_apply (tn M K N) none l r _ (ix2 a b)).trans ?_
  refine Eq.trans (congrArg (· + _) (show Ideal.ofBits .f32 0x00000000#32 = 0 from Ideal.ofBits_zero_f32)) ?_
  rw [zero_add, ← Equiv.sum_comp (contrEquiv1 (tn M K N) K rfl rfl).symm]
  refine Finset.sum_congr rfl fun k _ => ?_
  have hk := contrEquiv1_symm_val (tn M K N) K rfl rfl k
  refine congrArg₂ (· * ·) (congrArg l (funext fun x => Fin.ext ?_)) (congrArg r (funext fun x => Fin.ext ?_))
  · match x with
    | ⟨0, _⟩ => exact ((tn M K N).lhsIdx_val_of_single rfl _ _).trans hk
    | ⟨1, _⟩ =>
      show ((tn M K N).lhsIdx _ _ 1).val = a.val
      unfold DotDims.lhsIdx
      rw [dif_neg (by simp [tn]), dif_pos (by simp [tn])]
      rfl
  · match x with
    | ⟨0, _⟩ => exact ((tn M K N).rhsIdx_val_of_single rfl _ _).trans hk
    | ⟨1, _⟩ =>
      show ((tn M K N).rhsIdx _ _ 1).val = b.val
      unfold DotDims.rhsIdx
      rw [dif_neg (by simp [tn]), dif_pos (by simp [tn])]
      rfl

/-! ## The four runs -/

/-- The position a run holds at a place. -/
def posOf (u : Fin 4) (i : Fin 2048) : Fin 8192 := ⟨2048 * u.val + i.val, by omega⟩

/-- A sum over the positions by runs. -/
theorem sum_runs (f : Fin 8192 → EReal) : ∑ n, f n
    = (((∑ i, f (posOf 0 i)) + ∑ i, f (posOf 1 i)) + ∑ i, f (posOf 2 i)) + ∑ i, f (posOf 3 i) := by
  rw [← Equiv.sum_comp (finProdFinEquiv (m := 4) (n := 2048)) f, Fintype.sum_prod_type, Fin.sum_univ_four]
  have e : ∀ (u : Fin 4) (i : Fin 2048), finProdFinEquiv (u, i) = posOf u i := fun u i => Fin.ext (by
    show i.val + 2048 * u.val = 2048 * u.val + i.val
    omega)
  simp only [e]

/-- The gradient by a weight: one array's columns by the other's, summed over the positions. -/
def gradOf {M N : ℕ} (x : FVec Ideal ⟨2, ![8192, M]⟩ .f32) (ct : FVec Ideal ⟨2, ![8192, N]⟩ .f32) : FVec Ideal ⟨2, ![M, N]⟩ .bf16 :=
  fun i => ∑ n : Fin 8192, x (ix2 n (i 0)) * ct (ix2 n (i 1))

end Cert.Sums

end
-- ==== Proof.ProductW.lean ====
/-
  THE GRADIENT BY THE INPUT PROJECTIONS' WEIGHT. The launch of a 4 by 3 by 4 grid sums, for each block of 512 by 2304 of
  the result, the products of four runs of 2048 positions in a buffer of its own: put down at the first run, added to at
  the later ones, and written out at the last. So the array ends at the sum over all positions, in the call's order of the
  columns.
-/
module

public import Idealize.ShloMosaic.Lib.Pipeline.ReadBack
public import Idealize.ShloMosaic.Lib.Pipeline.ValueKit.Acc
public import proofs.«01_k».proof.Proof.Columns
public import proofs.«01_k».proof.Proof.Sums
public import proofs.«01_k».proof.Proof.Gen.Kernel3Ideal.Value
public import proofs.«01_k».proof.Proof.Gen.Reference3Ideal.Read

@[expose] public section

set_option maxRecDepth 16384

noncomputable section

namespace Cert.Kernel3Ideal.Product

open Cert.Kernel3Ideal Cert.Kernel3Ideal.Gen Cert.Columns Cert.Sums Idealize.ShloMosaic Idealize.ShloMosaic.TcCoe Idealize.ShloMosaic.ValueIdx
open Idealize.SL.Sem
open Idealize.ShloMosaic.Pipeline (Dat)

/-! ## The host's arrays -/

variable (m : (ℓ : Loc nD τ sig) → Buf (Elt Ideal) ℓ) (c : Dev nD)

/-- The input and the projection's gradient in the initial memory. -/
abbrev argX : FVec Ideal S8192x2048 .f32 := m ((c.tc : Thread nD τ).loc main_arg0)
abbrev argCt : FVec Ideal S8192x6720 .f32 := m ((c.tc : Thread nD τ).loc main_arg2)

/-- The arrays the kernel reads. -/
def at0 : FVec Ideal S8192x2048 .bf16 := V m c main_v0
def at14 : FVec Ideal S8192x6912 .bf16 := V m c main_v14

theorem at0_eq (i : Fin 8192) (a : Fin 2048) : at0 m c (ix2 i a) = argX m c (ix2 i a) := by
  have e : at0 m c = truncf .bf16 (argX m c) bitsLt_bf16_f32 := by
    unfold at0 V
    after_results_simp <;> rfl
  rw [e]; rfl

theorem at14_eq (i : Fin 8192) (j : Fin 6912) : at14 m c (ix2 i j) = ordered (fun k => argCt m c (ix2 i k)) j := by
  refine Eq.trans ?_ (concat_apply (argCt m c) (broadcastInDim S8192x192 ![] bcast_S_S8192x192 (constant (F := Ideal) S_ .f32 0x00000000#32)) (fun _ => Ideal.ofBits_zero_f32)
    slices_S8192x6720_S8192x2048_0_1536 slices_S8192x6720_S8192x1024_0_5696 slices_S8192x6720_S8192x1536_0_0 slices_S8192x6720_S8192x1536_0_3584
    shapeCasts_S8192x1536_S8192x8x192 slices_S8192x8x192_S8192x8x128_0_0_0 shapeCasts_S8192x8x128_S8192x1024 slices_S8192x8x192_S8192x8x64_0_0_128
    shapeCasts_S8192x8x64_S8192x512 slices_S8192x6720_S8192x512_0_5120 slices_S8192x6720_S8192x64_0_5632 _ rfl
    concatenates_S8192x2048_S8192x1024_S8192x1536_S8192x1024_S8192x512_S8192x512_S8192x64_S8192x192_S8192x6912_d1 i j)
  refine congrFun (?_ : at14 m c = _) (ix2 i j)
  unfold at14 V
  after_results_simp <;> rfl

/-! ## The blocks -/

theorem place_0 (t : Fin cfg0.N) : win0_0.index t 0 = t.val % 4 ∧ win0_0.index t 1 = t.val / 12 := by
  have h : ∀ t : Fin grid0.N, win0_0.index t 0 = t.val % 4 ∧ win0_0.index t 1 = t.val / 12 := by decide +kernel
  exact h t
theorem place_1 (t : Fin cfg0.N) : win0_1.index t 0 = t.val % 4 ∧ win0_1.index t 1 = t.val / 4 % 3 := by
  have h : ∀ t : Fin grid0.N, win0_1.index t 0 = t.val % 4 ∧ win0_1.index t 1 = t.val / 4 % 3 := by decide +kernel
  exact h t
theorem place_2 (t : Fin cfg0.N) : win0_2.index t 0 = t.val / 12 ∧ win0_2.index t 1 = t.val / 4 % 3 := by
  have h : ∀ t : Fin grid0.N, win0_2.index t 0 = t.val / 12 ∧ win0_2.index t 1 = t.val / 4 % 3 := by decide +kernel
  exact h t

/-- The run, and the row and the column of the result, a point's blocks hold at a place. -/
def runOf (t : Fin cfg0.N) : Fin 4 := ⟨t.val % 4, by omega⟩
def rowOf (t : Fin cfg0.N) (a : Fin 512) : Fin 2048 := ⟨512 * (t.val / 12) + a.val, by
  have : t.val < 48 := lt_of_lt_of_eq t.isLt N_0
  omega⟩
def colOf (t : Fin cfg0.N) (b : Fin 2304) : Fin 6912 := ⟨2304 * (t.val / 4 % 3) + b.val, by omega⟩

section Reads

variable {F : FTy → Type} [FloatOps F] (t : Fin cfg0.N)

theorem block_0 (G : Vec F S8192x2048 .bf16) (i : Fin 2048) (a : Fin 512) :
    ((cfg0.win 0).blk t).view.read (Elt F) G (ix2 i a) = G (ix2 (posOf (runOf t) i) (rowOf t a)) := by
  rw [View.read_apply]
  refine congrArg G (funext fun x => Fin.ext ?_)
  obtain ⟨e0, e1⟩ := place_0 t
  match x with
  | ⟨0, _⟩ => show win0_0.index t 0 * 2048 + 1 * i.val = 2048 * (t.val % 4) + i.val; rw [e0]; omega
  | ⟨1, _⟩ => show win0_0.index t 1 * 512 + 1 * a.val = 512 * (t.val / 12) + a.val; rw [e1]; omega

theorem block_1 (G : Vec F S8192x6912 .bf16) (i : Fin 2048) (b : Fin 2304) :
    ((cfg0.win 1).blk t).view.read (Elt F) G (ix2 i b) = G (ix2 (posOf (runOf t) i) (colOf t b)) := by
  rw [View.read_apply]
  refine congrArg G (funext fun x => Fin.ext ?_)
  obtain ⟨e0, e1⟩ := place_1 t
  match x with
  | ⟨0, _⟩ => show win0_1.index t 0 * 2048 + 1 * i.val = 2048 * (t.val % 4) + i.val; rw [e0]; omega
  | ⟨1, _⟩ => show win0_1.index t 1 * 2304 + 1 * b.val = 2304 * (t.val / 4 % 3) + b.val; rw [e1]; omega

theorem block_2 (G : Vec F S2048x6912 .bf16) (a : Fin 512) (b : Fin 2304) :
    ((cfg0.win 2).blk t).view.read (Elt F) G (ix2 a b) = G (ix2 (rowOf t a) (colOf t b)) := by
  rw [View.read_apply]
  refine congrArg G (funext fun x => Fin.ext ?_)
  obtain ⟨e0, e1⟩ := place_2 t
  match x with
  | ⟨0, _⟩ => show win0_2.index t 0 * 512 + 1 * a.val = 512 * (t.val / 12) + a.val; rw [e0]; omega
  | ⟨1, _⟩ => show win0_2.index t 1 * 2304 + 1 * b.val = 2304 * (t.val / 4 % 3) + b.val; rw [e1]; omega

end Reads

/-! ## What the body leaves -/

/-- The product of a point's two blocks. -/
def part (x0 : Vec Ideal S2048x512 .bf16) (x1 : Vec Ideal S2048x2304 .bf16) : Vec Ideal S512x2304 .f32 := k0_pay1 x0 x1

theorem part_apply (x0 : Vec Ideal S2048x512 .bf16) (x1 : Vec Ideal S2048x2304 .bf16) (a : Fin 512) (b : Fin 2304) :
    part x0 x1 (ix2 a b) = ∑ i : Fin 2048, x0 (ix2 i a) * x1 (ix2 i b) := by
  unfold part k0_pay1
  rw [shapeCast_self, shapeCast_self]
  exact mm_tn x0 x1 a b

section Points

variable (t : Fin cfg0.N)

/-- A point's addition to the buffer. -/
def added : FVec Ideal S512x2304 .f32 := part (iblk m c 0 t) (iblk m c 1 t)

/-- The buffer after a point. -/
abbrev buffer (u : Nat) (h : u < cfg0.N) : FVec Ideal S512x2304 .f32 := (outsAt0 m c u h).2

theorem scratch_A (h0 : t.val % 4 = 0) : (outsAt0 m c t.val t.isLt).2 = added m c t := by
  rw [outsAt0_A m c t h0 (by omega) (by omega)]
  dsimp only
  frame_out
  unfold added part k0_pay2
  rw [shapeCast_self]

theorem scratch_B (h1 : 1 ≤ t.val % 4) (h2 : ¬t.val % 4 = 3) :
    (outsAt0 m c t.val t.isLt).2 = addf (buffer m c (t.val - 1) (Nat.lt_of_le_of_lt (Nat.sub_le _ _) t.isLt)) (added m c t) := by
  rw [outsAt0_B m c t (by omega) h1 h2]
  dsimp only
  frame_out
  unfold added part k0_pay3
  dsimp only
  rw [shapeCast_self, read_unread_whole]

theorem output_C (h2 : t.val % 4 = 3) :
    (outsAt0 m c t.val t.isLt).1
      = truncf .bf16 (addf (buffer m c (t.val - 1) (Nat.lt_of_le_of_lt (Nat.sub_le _ _) t.isLt)) (added m c t)) bitsLt_bf16_f32 := by
  rw [outsAt0_C m c t (by omega) (by omega) h2]
  dsimp only
  frame_out
  unfold added part k0_pay4 k0_pay3
  simp only [shapeCast_self, read_unread_whole]

end Points

/-! ## The result -/

theorem iblk_0 (t : Fin cfg0.N) : iblk m c 0 t = ((cfg0.win 0).blk t).view.read (Elt Ideal) (at0 m c) := by unfold iblk at0; rfl
theorem iblk_1 (t : Fin cfg0.N) : iblk m c 1 t = ((cfg0.win 1).blk t).view.read (Elt Ideal) (at14 m c) := by unfold iblk at14; rfl

theorem added_apply (t : Fin cfg0.N) (a : Fin 512) (b : Fin 2304) :
    added m c t (ix2 a b) = ∑ i : Fin 2048, argX m c (ix2 (posOf (runOf t) i) (rowOf t a))
      * ordered (fun k => argCt m c (ix2 (posOf (runOf t) i) k)) (colOf t b) := by
  refine (part_apply (iblk m c 0 t) (iblk m c 1 t) a b).trans (Finset.sum_congr rfl fun i _ => congrArg₂ (· * ·) ?_ ?_)
  · exact (congrFun (iblk_0 m c t) (ix2 i a)).trans ((block_0 (F := Ideal) t (at0 m c) i a).trans (at0_eq m c _ _))
  · exact (congrFun (iblk_1 m c t) (ix2 i b)).trans ((block_1 (F := Ideal) t (at14 m c) i b).trans (at14_eq m c _ _))

/-- The gradient by the weight: the sum over the positions, in the call's order of the columns. -/
def gradW (x : FVec Ideal S8192x2048 .f32) (ct : FVec Ideal S8192x6720 .f32) : FVec Ideal S2048x6912 .bf16 :=
  fun i => ordered (fun k => ∑ n : Fin 8192, x (ix2 n (i 0)) * ct (ix2 n k)) (i 1)

theorem flushed_2 (t : Fin cfg0.N) (hf : (cfg0.win 2).flush t = true) :
    (dats m 0 c).flushed 2 t = ((cfg0.win 2).blk t).view.read (Elt Ideal) (gradW (argX m c) (argCt m c)) := by
  have h3 : t.val % 4 = 3 := (flush0_2 t).mp hf
  rw [Value.flushed2]
  refine funext fun (y : S512x2304.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_2 (F := Ideal) t (gradW (argX m c) (argCt m c)) a b).symm
  -- the run's four points
  have hN : t.val < cfg0.N := t.isLt
  have b2 : t.val - 1 < cfg0.N := by omega
  have b1 : t.val - 1 - 1 < cfg0.N := by omega
  have b0 : t.val - 1 - 1 - 1 < cfg0.N := by omega
  have s0 := scratch_A m c ⟨t.val - 1 - 1 - 1, b0⟩ (by show (t.val - 1 - 1 - 1) % 4 = 0; omega)
  have s1 := scratch_B m c ⟨t.val - 1 - 1, b1⟩ (by show 1 ≤ (t.val - 1 - 1) % 4; omega) (by show ¬(t.val - 1 - 1) % 4 = 3; omega)
  have s2 := scratch_B m c ⟨t.val - 1, b2⟩ (by show 1 ≤ (t.val - 1) % 4; omega) (by show ¬(t.val - 1) % 4 = 3; omega)
  have s3 := output_C m c t h3
  dsimp only at s0 s1 s2
  have val : (outsAt0 m c t.val t.isLt).1 (ix2 a b)
      = ((added m c ⟨t.val - 1 - 1 - 1, b0⟩ (ix2 a b) + added m c ⟨t.val - 1 - 1, b1⟩ (ix2 a b)) + added m c ⟨t.val - 1, b2⟩ (ix2 a b)) + added m c t (ix2 a b) := by
    rw [s3]; unfold buffer; rw [s2]; unfold buffer; rw [s1]; unfold buffer; rw [s0]; rfl
  refine Eq.trans (show _ = (outsAt0 m c t.val t.isLt).1 (ix2 a b) from rfl) (val.trans ?_)
  -- each run's part, in the block's own row and column
  have p : ∀ (u : Fin cfg0.N) (k : Fin 4), u.val / 4 = t.val / 4 → u.val % 4 = k.val →
      added m c u (ix2 a b) = ∑ i, argX m c (ix2 (posOf k i) (rowOf t a)) * ordered (fun l => argCt m c (ix2 (posOf k i) l)) (colOf t b) := by
    intro u k hq hk
    have e0 : runOf u = k := Fin.ext hk
    have e1 : rowOf u a = rowOf t a := Fin.ext (by show 512 * (u.val / 12) + a.val = 512 * (t.val / 12) + a.val; omega)
    have e2 : colOf u b = colOf t b := Fin.ext (by show 2304 * (u.val / 4 % 3) + b.val = 2304 * (t.val / 4 % 3) + b.val; omega)
    rw [added_apply, e0, e1, e2]
  rw [p ⟨t.val - 1 - 1 - 1, b0⟩ 0 (by show (t.val - 1 - 1 - 1) / 4 = _; omega) (by show (t.val - 1 - 1 - 1) % 4 = 0; omega),
    p ⟨t.val - 1 - 1, b1⟩ 1 (by show (t.val - 1 - 1) / 4 = _; omega) (by show (t.val - 1 - 1) % 4 = 1; omega),
    p ⟨t.val - 1, b2⟩ 2 (by show (t.val - 1) / 4 = _; omega) (by show (t.val - 1) % 4 = 2; omega),
    p t 3 rfl h3]
  refine Eq.trans (sum_runs fun n => argX m c (ix2 n (rowOf t a)) * ordered (fun l => argCt m c (ix2 n l)) (colOf t b)).symm ?_
  exact sum_mul_ordered (fun n => argX m c (ix2 n (rowOf t a))) (fun n l => argCt m c (ix2 n l)) (colOf t b)

theorem final_2 : (dats m 0 c).arrAt 2 cfg0.N = gradW (argX m c) (argCt m c) :=
  (dats m 0 c).arrAt_eq_of_cover 2 (gradW (argX m c) (argCt m c)) (fun t hf => flushed_2 m c t hf) fun i => by
    have h0 : (i 0 : Nat) < 2048 := (i 0).isLt
    have h1 : (i 1 : Nat) < 6912 := (i 1).isLt
    let t : Fin cfg0.N := ⟨12 * ((i 0 : Nat) / 512) + 4 * ((i 1 : Nat) / 2304) + 3, lt_of_lt_of_eq (by omega : _ < 48) N_0.symm⟩
    have ht : t.val = 12 * ((i 0 : Nat) / 512) + 4 * ((i 1 : Nat) / 2304) + 3 := rfl
    refine ⟨t, (flush0_2 t).mpr (by omega), ?_⟩
    show i ∈ ((View.whole main_v15).slice (win0_2.rect t)).set
    rw [View.set_slice_whole, Rect.mem_set_unit]
    obtain ⟨e0, e1⟩ := place_2 t
    intro a
    match a with
    | ⟨0, _⟩ => show win0_2.index t 0 * 512 ≤ (i 0 : Nat) ∧ (i 0 : Nat) < win0_2.index t 0 * 512 + 512; rw [e0]; omega
    | ⟨1, _⟩ => show win0_2.index t 1 * 2304 ≤ (i 1 : Nat) ∧ (i 1 : Nat) < win0_2.index t 1 * 2304 + 2304; rw [e1]; omega

/-! ## The reference -/

open Cert.Reference3Ideal.Read in
/-- The reference's gradient by the weight, before its columns are put in order. -/
theorem reference_grad (x : FVec Ideal S8192x2048 .f32) (ct : FVec Ideal S8192x6720 .f32) (i : Fin 2048) (k : Fin 6720) :
    val_main_v2 (F := Ideal) x ct (ix2 i k) = ∑ n : Fin 8192, x (ix2 n i) * ct (ix2 n k) := by
  rw [val_main_v2_apply, val_main_v1_apply]
  refine Finset.sum_congr rfl fun n _ => (mul_comm _ _).trans (congrArg₂ (· * ·) (congrArg x (funext fun a => Fin.ext ?_)) (congrArg ct (funext fun a => Fin.ext ?_)))
  · match a with
    | ⟨0, _⟩ => rfl
    | ⟨1, _⟩ => rfl
  · match a with
    | ⟨0, _⟩ => rfl
    | ⟨1, _⟩ => rfl

open Cert.Reference3Ideal Cert.Reference3Ideal.Gen Cert.Reference3Ideal.Read in
/-- The reference's result. -/
theorem reference_eq (x : FVec Ideal S8192x2048 .f32) (ct : FVec Ideal S8192x6720 .f32) :
    val_main_v17 (F := Ideal) x ct = gradW x ct := by
  refine funext fun (y : Cert.Kernel3Ideal.S2048x6912.Idx) => ?_
  obtain ⟨i, j, rfl⟩ : ∃ i j, y = ix2 i j := ⟨y 0, y 1, funext fun x => Fin.ext (match x with
    | ⟨0, _⟩ => rfl
    | ⟨1, _⟩ => rfl)⟩
  refine Eq.trans (show _ = val_main_v16 (F := Ideal) x ct (ix2 i j) from rfl) ?_
  refine Eq.trans ?_ ((concat_apply (val_main_v2 (F := Ideal) x ct) (val_main_v15 (F := Ideal)) (fun _ => Ideal.ofBits_zero_f32)
    slices_S2048x6720_S2048x2048_0_1536 slices_S2048x6720_S2048x1024_0_5696 slices_S2048x6720_S2048x1536_0_0 slices_S2048x6720_S2048x1536_0_3584
    shapeCasts_S2048x1536_S2048x8x192 slices_S2048x8x192_S2048x8x128_0_0_0 shapeCasts_S2048x8x128_S2048x1024 slices_S2048x8x192_S2048x8x64_0_0_128
    shapeCasts_S2048x8x64_S2048x512 slices_S2048x6720_S2048x512_0_5120 slices_S2048x6720_S2048x64_0_5632 _ rfl
    concatenates_S2048x2048_S2048x1024_S2048x1536_S2048x1024_S2048x512_S2048x512_S2048x64_S2048x192_S2048x6912_d1 i j).trans ?_)
  · rfl
  · exact congrFun (congrArg ordered (funext fun k => reference_grad x ct i k)) j

end Cert.Kernel3Ideal.Product

end
-- ==== Proof.ProductOut.lean ====
/-
  THE GRADIENT BY THE OUTPUT PROJECTION'S WEIGHT. The launch of a 2 by 2 by 4 grid sums, for each block of 1024 by 1024 of
  the result, the products of four runs of 2048 positions in a buffer of its own, as the input projections' weight does.
-/
module

public import Idealize.ShloMosaic.Lib.Pipeline.ReadBack
public import Idealize.ShloMosaic.Lib.Pipeline.ValueKit.Acc
public import proofs.«01_k».proof.Proof.Sums
public import proofs.«01_k».proof.Proof.Gen.Kernel4Ideal.Value
public import proofs.«01_k».proof.Proof.Gen.Reference4Ideal.Read

@[expose] public section

set_option maxRecDepth 16384

noncomputable section

namespace Cert.Kernel4Ideal.Product

open Cert.Kernel4Ideal Cert.Kernel4Ideal.Gen Cert.Sums Idealize.ShloMosaic Idealize.ShloMosaic.TcCoe Idealize.ShloMosaic.ValueIdx
open Idealize.SL.Sem
open Idealize.ShloMosaic.Pipeline (Dat)

/-! ## The arrays -/

variable (m : (ℓ : Loc nD τ sig) → Buf (Elt Ideal) ℓ) (c : Dev nD)

/-- The input and the product's gradient in the initial memory. -/
abbrev argX : FVec Ideal S8192x2048 .f32 := m ((c.tc : Thread nD τ).loc main_arg0)
abbrev argCt : FVec Ideal S8192x2048 .f32 := m ((c.tc : Thread nD τ).loc main_arg2)

/-- The arrays the kernel reads. -/
def left : FVec Ideal S8192x2048 .bf16 := V m c main_v0
def right : FVec Ideal S8192x2048 .f32 := V m c main_arg2

theorem left_eq : left m c = truncf .bf16 (argX m c) bitsLt_bf16_f32 := by
  unfold left V
  after_results_simp <;> rfl

theorem right_eq : right m c = argCt m c := by
  unfold right V
  after_results_simp <;> rfl

/-! ## The blocks -/

theorem place_0 (t : Fin cfg0.N) : win0_0.index t 0 = t.val % 4 ∧ win0_0.index t 1 = t.val / 8 := by
  have h : ∀ t : Fin grid0.N, win0_0.index t 0 = t.val % 4 ∧ win0_0.index t 1 = t.val / 8 := by decide +kernel
  exact h t
theorem place_1 (t : Fin cfg0.N) : win0_1.index t 0 = t.val % 4 ∧ win0_1.index t 1 = t.val / 4 % 2 := by
  have h : ∀ t : Fin grid0.N, win0_1.index t 0 = t.val % 4 ∧ win0_1.index t 1 = t.val / 4 % 2 := by decide +kernel
  exact h t
theorem place_2 (t : Fin cfg0.N) : win0_2.index t 0 = t.val / 8 ∧ win0_2.index t 1 = t.val / 4 % 2 := by
  have h : ∀ t : Fin grid0.N, win0_2.index t 0 = t.val / 8 ∧ win0_2.index t 1 = t.val / 4 % 2 := by decide +kernel
  exact h t

/-- The run, and the row and the column of the result, a point's blocks hold at a place. -/
def runOf (t : Fin cfg0.N) : Fin 4 := ⟨t.val % 4, by omega⟩
def rowOf (t : Fin cfg0.N) (a : Fin 1024) : Fin 2048 := ⟨1024 * (t.val / 8) + a.val, by
  have : t.val < 16 := lt_of_lt_of_eq t.isLt N_0
  omega⟩
def colOf (t : Fin cfg0.N) (b : Fin 1024) : Fin 2048 := ⟨1024 * (t.val / 4 % 2) + b.val, by omega⟩

section Reads

variable {F : FTy → Type} [FloatOps F] (t : Fin cfg0.N)

theorem block_0 (G : Vec F S8192x2048 .bf16) (i : Fin 2048) (a : Fin 1024) :
    ((cfg0.win 0).blk t).view.read (Elt F) G (ix2 i a) = G (ix2 (posOf (runOf t) i) (rowOf t a)) := by
  rw [View.read_apply]
  refine congrArg G (funext fun x => Fin.ext ?_)
  obtain ⟨e0, e1⟩ := place_0 t
  match x with
  | ⟨0, _⟩ => show win0_0.index t 0 * 2048 + 1 * i.val = 2048 * (t.val % 4) + i.val; rw [e0]; omega
  | ⟨1, _⟩ => show win0_0.index t 1 * 1024 + 1 * a.val = 1024 * (t.val / 8) + a.val; rw [e1]; omega

theorem block_1 (G : Vec F S8192x2048 .f32) (i : Fin 2048) (b : Fin 1024) :
    ((cfg0.win 1).blk t).view.read (Elt F) G (ix2 i b) = G (ix2 (posOf (runOf t) i) (colOf t b)) := by
  rw [View.read_apply]
  refine congrArg G (funext fun x => Fin.ext ?_)
  obtain ⟨e0, e1⟩ := place_1 t
  match x with
  | ⟨0, _⟩ => show win0_1.index t 0 * 2048 + 1 * i.val = 2048 * (t.val % 4) + i.val; rw [e0]; omega
  | ⟨1, _⟩ => show win0_1.index t 1 * 1024 + 1 * b.val = 1024 * (t.val / 4 % 2) + b.val; rw [e1]; omega

theorem block_2 (G : Vec F S2048x2048 .bf16) (a : Fin 1024) (b : Fin 1024) :
    ((cfg0.win 2).blk t).view.read (Elt F) G (ix2 a b) = G (ix2 (rowOf t a) (colOf t b)) := by
  rw [View.read_apply]
  refine congrArg G (funext fun x => Fin.ext ?_)
  obtain ⟨e0, e1⟩ := place_2 t
  match x with
  | ⟨0, _⟩ => show win0_2.index t 0 * 1024 + 1 * a.val = 1024 * (t.val / 8) + a.val; rw [e0]; omega
  | ⟨1, _⟩ => show win0_2.index t 1 * 1024 + 1 * b.val = 1024 * (t.val / 4 % 2) + b.val; rw [e1]; omega

end Reads

/-! ## What the body leaves -/

/-- The product of a point's two blocks. -/
def part (x0 : Vec Ideal S2048x1024 .bf16) (x1 : Vec Ideal S2048x1024 .f32) : Vec Ideal S1024x1024 .f32 := k0_pay1 x0 x1

theorem part_apply (x0 : Vec Ideal S2048x1024 .bf16) (x1 : Vec Ideal S2048x1024 .f32) (a : Fin 1024) (b : Fin 1024) :
    part x0 x1 (ix2 a b) = ∑ i : Fin 2048, x0 (ix2 i a) * x1 (ix2 i b) := by
  unfold part k0_pay1
  rw [shapeCast_self]
  exact mm_tn x0 x1 a b

section Points

variable (t : Fin cfg0.N)

/-- A point's addition to the buffer. -/
def added : FVec Ideal S1024x1024 .f32 := part (iblk m c 0 t) (iblk m c 1 t)

/-- The buffer after a point. -/
abbrev buffer (u : Nat) (h : u < cfg0.N) : FVec Ideal S1024x1024 .f32 := (outsAt0 m c u h).2

theorem scratch_A (h0 : t.val % 4 = 0) : (outsAt0 m c t.val t.isLt).2 = added m c t := by
  rw [outsAt0_A m c t h0 (by omega) (by omega)]
  dsimp only
  frame_out
  unfold added part k0_pay2
  rw [shapeCast_self]

theorem scratch_B (h1 : 1 ≤ t.val % 4) (h2 : ¬t.val % 4 = 3) :
    (outsAt0 m c t.val t.isLt).2 = addf (buffer m c (t.val - 1) (Nat.lt_of_le_of_lt (Nat.sub_le _ _) t.isLt)) (added m c t) := by
  rw [outsAt0_B m c t (by omega) h1 h2]
  dsimp only
  frame_out
  unfold added part k0_pay3
  dsimp only
  rw [shapeCast_self, read_unread_whole]

theorem output_C (h2 : t.val % 4 = 3) :
    (outsAt0 m c t.val t.isLt).1
      = truncf .bf16 (addf (buffer m c (t.val - 1) (Nat.lt_of_le_of_lt (Nat.sub_le _ _) t.isLt)) (added m c t)) bitsLt_bf16_f32 := by
  rw [outsAt0_C m c t (by omega) (by omega) h2]
  dsimp only
  frame_out
  unfold added part k0_pay4 k0_pay3
  simp only [shapeCast_self, read_unread_whole]

end Points

/-! ## The result -/

theorem iblk_0 (t : Fin cfg0.N) : iblk m c 0 t = ((cfg0.win 0).blk t).view.read (Elt Ideal) (left m c) := by unfold iblk left; rfl
theorem iblk_1 (t : Fin cfg0.N) : iblk m c 1 t = ((cfg0.win 1).blk t).view.read (Elt Ideal) (right m c) := by unfold iblk right; rfl

theorem added_apply (t : Fin cfg0.N) (a : Fin 1024) (b : Fin 1024) :
    added m c t (ix2 a b) = ∑ i : Fin 2048, argX m c (ix2 (posOf (runOf t) i) (rowOf t a))
      * argCt m c (ix2 (posOf (runOf t) i) (colOf t b)) := by
  refine (part_apply (iblk m c 0 t) (iblk m c 1 t) a b).trans (Finset.sum_congr rfl fun i _ => congrArg₂ (· * ·) ?_ ?_)
  · exact (congrFun (iblk_0 m c t) (ix2 i a)).trans ((block_0 (F := Ideal) t (left m c) i a).trans (congrFun (left_eq m c) _))
  · exact (congrFun (iblk_1 m c t) (ix2 i b)).trans ((block_1 (F := Ideal) t (right m c) i b).trans (congrFun (right_eq m c) _))

theorem flushed_2 (t : Fin cfg0.N) (hf : (cfg0.win 2).flush t = true) :
    (dats m 0 c).flushed 2 t = ((cfg0.win 2).blk t).view.read (Elt Ideal) (gradOf (argX m c) (argCt m c)) := by
  have h3 : t.val % 4 = 3 := (flush0_2 t).mp hf
  rw [Value.flushed2]
  refine funext fun (y : S1024x1024.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_2 (F := Ideal) t (gradOf (argX m c) (argCt m c)) a b).symm
  -- the run's four points
  have hN : t.val < cfg0.N := t.isLt
  have b2 : t.val - 1 < cfg0.N := by omega
  have b1 : t.val - 1 - 1 < cfg0.N := by omega
  have b0 : t.val - 1 - 1 - 1 < cfg0.N := by omega
  have s0 := scratch_A m c ⟨t.val - 1 - 1 - 1, b0⟩ (by show (t.val - 1 - 1 - 1) % 4 = 0; omega)
  have s1 := scratch_B m c ⟨t.val - 1 - 1, b1⟩ (by show 1 ≤ (t.val - 1 - 1) % 4; omega) (by show ¬(t.val - 1 - 1) % 4 = 3; omega)
  have s2 := scratch_B m c ⟨t.val - 1, b2⟩ (by show 1 ≤ (t.val - 1) % 4; omega) (by show ¬(t.val - 1) % 4 = 3; omega)
  have s3 := output_C m c t h3
  dsimp only at s0 s1 s2
  have val : (outsAt0 m c t.val t.isLt).1 (ix2 a b)
      = ((added m c ⟨t.val - 1 - 1 - 1, b0⟩ (ix2 a b) + added m c ⟨t.val - 1 - 1, b1⟩ (ix2 a b)) + added m c ⟨t.val - 1, b2⟩ (ix2 a b)) + added m c t (ix2 a b) := by
    rw [s3]; unfold buffer; rw [s2]; unfold buffer; rw [s1]; unfold buffer; rw [s0]; rfl
  refine Eq.trans (show _ = (outsAt0 m c t.val t.isLt).1 (ix2 a b) from rfl) (val.trans ?_)
  -- each run's part, in the block's own row and column
  have p : ∀ (u : Fin cfg0.N) (k : Fin 4), u.val / 4 = t.val / 4 → u.val % 4 = k.val →
      added m c u (ix2 a b) = ∑ i, argX m c (ix2 (posOf k i) (rowOf t a)) * argCt m c (ix2 (posOf k i) (colOf t b)) := by
    intro u k hq hk
    have e0 : runOf u = k := Fin.ext hk
    have e1 : rowOf u a = rowOf t a := Fin.ext (by show 1024 * (u.val / 8) + a.val = 1024 * (t.val / 8) + a.val; omega)
    have e2 : colOf u b = colOf t b := Fin.ext (by show 1024 * (u.val / 4 % 2) + b.val = 1024 * (t.val / 4 % 2) + b.val; omega)
    rw [added_apply, e0, e1, e2]
  rw [p ⟨t.val - 1 - 1 - 1, b0⟩ 0 (by show (t.val - 1 - 1 - 1) / 4 = _; omega) (by show (t.val - 1 - 1 - 1) % 4 = 0; omega),
    p ⟨t.val - 1 - 1, b1⟩ 1 (by show (t.val - 1 - 1) / 4 = _; omega) (by show (t.val - 1 - 1) % 4 = 1; omega),
    p ⟨t.val - 1, b2⟩ 2 (by show (t.val - 1) / 4 = _; omega) (by show (t.val - 1) % 4 = 2; omega),
    p t 3 rfl h3]
  exact (sum_runs fun n => argX m c (ix2 n (rowOf t a)) * argCt m c (ix2 n (colOf t b))).symm

theorem final_2 : (dats m 0 c).arrAt 2 cfg0.N = gradOf (argX m c) (argCt m c) :=
  (dats m 0 c).arrAt_eq_of_cover 2 (gradOf (argX m c) (argCt m c)) (fun t hf => flushed_2 m c t hf) fun i => by
    have h0 : (i 0 : Nat) < 2048 := (i 0).isLt
    have h1 : (i 1 : Nat) < 2048 := (i 1).isLt
    let t : Fin cfg0.N := ⟨8 * ((i 0 : Nat) / 1024) + 4 * ((i 1 : Nat) / 1024) + 3, lt_of_lt_of_eq (by omega : _ < 16) N_0.symm⟩
    have ht : t.val = 8 * ((i 0 : Nat) / 1024) + 4 * ((i 1 : Nat) / 1024) + 3 := rfl
    refine ⟨t, (flush0_2 t).mpr (by omega), ?_⟩
    show i ∈ ((View.whole main_v1).slice (win0_2.rect t)).set
    rw [View.set_slice_whole, Rect.mem_set_unit]
    obtain ⟨e0, e1⟩ := place_2 t
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1024 ≤ (i 1 : Nat) ∧ (i 1 : Nat) < win0_2.index t 1 * 1024 + 1024; rw [e1]; omega

/-! ## The reference -/

open Cert.Reference4Ideal.Read in
/-- The reference's gradient by the weight. -/
theorem reference_eq (x : FVec Ideal S8192x2048 .f32) (ct : FVec Ideal S8192x2048 .f32) : val_main_v4 (F := Ideal) x ct = gradOf x ct := by
  refine funext fun (y : Cert.Kernel4Ideal.S2048x2048.Idx) => ?_
  obtain ⟨i, j, rfl⟩ : ∃ i j, y = ix2 i j := ⟨y 0, y 1, funext fun x => Fin.ext (match x with
    | ⟨0, _⟩ => rfl
    | ⟨1, _⟩ => rfl)⟩
  refine Eq.trans (show _ = val_main_v2 (F := Ideal) x ct (ix2 i j) from rfl) ?_
  rw [val_main_v2_apply, val_main_v1_apply]
  refine Finset.sum_congr rfl fun n _ => (mul_comm _ _).trans (congrArg₂ (· * ·) (congrArg x (funext fun a => Fin.ext ?_)) (congrArg ct (funext fun a => Fin.ext ?_)))
  · match a with
    | ⟨0, _⟩ => rfl
    | ⟨1, _⟩ => rfl
  · match a with
    | ⟨0, _⟩ => rfl
    | ⟨1, _⟩ => rfl

end Cert.Kernel4Ideal.Product

end
-- ==== Proof.ProductBranches.lean ====
/-
  THE GRADIENT BY THE MIXERS' OUTPUT. Each of the sixteen points of the launch puts down 512 rows of the product of the
  gradient's rows by the output projection's rows; so the array ends at the sum over the projection's columns.
-/
module

public import proofs.«01_k».proof.Proof.Tile
public import proofs.«01_k».proof.Proof.Gen.Kernel5Ideal.Value
public import proofs.«01_k».proof.Proof.Gen.Reference5Ideal.Read

@[expose] public section

set_option maxRecDepth 16384

noncomputable section

namespace Cert.Kernel5Ideal.Product

open Cert.Kernel5Ideal Cert.Kernel5Ideal.Gen Idealize.ShloMosaic Idealize.ShloMosaic.TcCoe Idealize.ShloMosaic.ValueIdx
open Idealize.SL.Sem
open Cert.KernelIdeal.Attention (mm_nt)
open Idealize.ShloMosaic.Pipeline (Dat)

variable (m : (ℓ : Loc nD τ sig) → Buf (Elt Ideal) ℓ) (c : Dev nD)

/-- The weight and the projection's gradient in the initial memory. -/
abbrev argW : FVec Ideal S2048x2048 .f32 := m ((c.tc : Thread nD τ).loc main_arg1)
abbrev argCt : FVec Ideal S8192x2048 .f32 := m ((c.tc : Thread nD τ).loc main_arg2)

/-- The arrays the kernel reads. -/
def left : FVec Ideal S8192x2048 .f32 := V m c main_arg2
def right : FVec Ideal S2048x2048 .bf16 := V m c main_v0

theorem left_eq : left m c = argCt m c := by
  unfold left V
  after_results_simp <;> rfl

theorem right_eq : right m c = truncf .bf16 (argW m c) bitsLt_bf16_f32 := by
  unfold right V
  after_results_simp <;> rfl

/-! ## The blocks -/

theorem place_0 (t : Fin cfg0.N) : win0_0.index t 0 = t.val ∧ win0_0.index t 1 = 0 := by
  have h : ∀ t : Fin grid0.N, win0_0.index t 0 = t.val ∧ win0_0.index t 1 = 0 := by decide +kernel
  exact h t
theorem place_1 (t : Fin cfg0.N) : win0_1.index t 0 = 0 ∧ win0_1.index t 1 = 0 := by
  have h : ∀ t : Fin grid0.N, win0_1.index t 0 = 0 ∧ win0_1.index t 1 = 0 := by decide +kernel
  exact h t
theorem place_2 (t : Fin cfg0.N) : win0_2.index t 0 = t.val ∧ win0_2.index t 1 = 0 := by
  have h : ∀ t : Fin grid0.N, win0_2.index t 0 = t.val ∧ win0_2.index t 1 = 0 := by decide +kernel
  exact h t

/-- The row and the column of the result a point's block holds at a place. -/
def rowOf (t : Fin cfg0.N) (a : Fin 512) : Fin 8192 := ⟨512 * t.val + a.val, by
  have : t.val < 16 := lt_of_lt_of_eq t.isLt N_0
  omega⟩
def colOf (t : Fin cfg0.N) (b : Fin 2048) : Fin 2048 := ⟨b.val, by omega⟩

section Reads

variable {F : FTy → Type} [FloatOps F] (t : Fin cfg0.N)

theorem block_0 (G : Vec F S8192x2048 .f32) (a : Fin 512) (j : Fin 2048) :
    ((cfg0.win 0).blk t).view.read (Elt F) G (ix2 a j) = G (ix2 (rowOf t a) j) := by
  rw [View.read_apply]
  refine congrArg G (funext fun x => Fin.ext ?_)
  obtain ⟨e0, e1⟩ := place_0 t
  match x with
  | ⟨0, _⟩ => show win0_0.index t 0 * 512 + 1 * a.val = 512 * t.val + a.val; rw [e0]; omega
  | ⟨1, _⟩ => show win0_0.index t 1 * 2048 + 1 * j.val = j.val; rw [e1]; omega

theorem block_1 (G : Vec F S2048x2048 .bf16) (b : Fin 2048) (j : Fin 2048) :
    ((cfg0.win 1).blk t).view.read (Elt F) G (ix2 b j) = G (ix2 (colOf t b) j) := by
  rw [View.read_apply]
  refine congrArg G (funext fun x => Fin.ext ?_)
  obtain ⟨e0, e1⟩ := place_1 t
  match x with
  | ⟨0, _⟩ => show win0_1.index t 0 * 2048 + 1 * b.val = b.val; rw [e0]; omega
  | ⟨1, _⟩ => show win0_1.index t 1 * 2048 + 1 * j.val = j.val; rw [e1]; omega

theorem block_2 (G : Vec F S8192x2048 .f32) (a : Fin 512) (b : Fin 2048) :
    ((cfg0.win 2).blk t).view.read (Elt F) G (ix2 a b) = G (ix2 (rowOf t a) (colOf t b)) := by
  rw [View.read_apply]
  refine congrArg G (funext fun x => Fin.ext ?_)
  obtain ⟨e0, e1⟩ := place_2 t
  match x with
  | ⟨0, _⟩ => show win0_2.index t 0 * 512 + 1 * a.val = 512 * t.val + a.val; rw [e0]; omega
  | ⟨1, _⟩ => show win0_2.index t 1 * 2048 + 1 * b.val = b.val; rw [e1]; omega

end Reads

theorem zero_off : (![0, 0] : Fin 2 → Nat) = fun _ => 0 := by decide

/-- What the body leaves: the product of the two blocks' rows. -/
theorem out_apply (x0 : Vec Ideal S512x2048 .f32) (x1 : Vec Ideal S2048x2048 .bf16) (a : Fin 512) (b : Fin 2048) :
    out0_2 x0 x1 (ix2 a b) = ∑ j : Fin 2048, x0 (ix2 a j) * x1 (ix2 b j) := by
  unfold out0_2
  rw [View.canon_cons_unit_zero zero_off inb_S512x2048_S512x2048_0_0, View.ld_unit_zero zero_off, View.ld_unit_zero zero_off]
  unfold k0_pay1
  rw [shapeCast_self]
  exact mm_nt x0 x1 a b

/-! ## The result -/

theorem iblk_0 (t : Fin cfg0.N) : iblk m c 0 t = ((cfg0.win 0).blk t).view.read (Elt Ideal) (left m c) := by unfold iblk left; rfl
theorem iblk_1 (t : Fin cfg0.N) : iblk m c 1 t = ((cfg0.win 1).blk t).view.read (Elt Ideal) (right m c) := by unfold iblk right; rfl

/-- The gradient by the input: the sum over the projection's columns. -/
def gradX (w : FVec Ideal S2048x2048 .f32) (ct : FVec Ideal S8192x2048 .f32) : FVec Ideal S8192x2048 .f32 :=
  fun i => ∑ k : Fin 2048, ct (ix2 (i 0) k) * w (ix2 (i 1) k)

theorem flushed_2 (t : Fin cfg0.N) :
    (dats m 0 c).flushed 2 t = ((cfg0.win 2).blk t).view.read (Elt Ideal) (gradX (argW m c) (argCt m c)) := by
  rw [Value.flushed2]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_2 (F := Ideal) t (gradX (argW m c) (argCt m c)) a b).symm
  refine (out_apply (iblk m c 0 t) (iblk m c 1 t) a b).trans ?_
  refine Finset.sum_congr rfl fun j _ => ?_
  refine congrArg₂ (· * ·) ?_ ?_
  · exact (congrFun (iblk_0 m c t) (ix2 a j)).trans ((block_0 (F := Ideal) t (left m c) a j).trans (congrFun (left_eq m c) _))
  · exact (congrFun (iblk_1 m c t) (ix2 b j)).trans ((block_1 (F := Ideal) t (right m c) b j).trans (congrFun (right_eq m c) _))

theorem final_2 : (dats m 0 c).arrAt 2 cfg0.N = gradX (argW m c) (argCt m c) :=
  (dats m 0 c).arrAt_eq_of_cover 2 (gradX (argW m c) (argCt m c)) (fun t _ => flushed_2 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_2 t, ?_⟩
    show i ∈ ((View.whole main_v1).slice (win0_2.rect t)).set
    rw [View.set_slice_whole, Rect.mem_set_unit]
    obtain ⟨e0, e1⟩ := place_2 t
    have ht : t.val = (i 0 : Nat) / 512 := rfl
    intro a
    match a with
    | ⟨0, _⟩ => show win0_2.index t 0 * 512 ≤ (i 0 : Nat) ∧ (i 0 : Nat) < win0_2.index t 0 * 512 + 512; rw [e0]; omega
    | ⟨1, _⟩ => show win0_2.index t 1 * 2048 ≤ (i 1 : Nat) ∧ (i 1 : Nat) < win0_2.index t 1 * 2048 + 2048; rw [e1]; omega

/-- The reference's gradient by the input. -/
theorem reference_eq (w : FVec Ideal S2048x2048 .f32) (ct : FVec Ideal S8192x2048 .f32) :
    Cert.Reference5Ideal.Read.val_main_v3 (F := Ideal) w ct = gradX w ct := by
  refine funext fun i => ?_
  rw [Cert.Reference5Ideal.Read.val_main_v3_apply]
  refine Finset.sum_congr rfl fun k _ => congrArg₂ (· * ·) (congrArg ct (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

end Cert.Kernel5Ideal.Product

end
-- ==== Proof.ProductGate.lean ====
/-
  THE GRADIENT BY THE GATE'S WEIGHT in the per-layer embedding. The launch of a 2 by 2 by 4 grid sums the products of four
  runs of 2048 positions in a buffer of its own, as for the output projection, of two arrays kept in bfloat16.
-/
module

public import Idealize.ShloMosaic.Lib.Pipeline.ReadBack
public import Idealize.ShloMosaic.Lib.Pipeline.ValueKit.Acc
public import proofs.«01_k».proof.Proof.Sums
public import proofs.«01_k».proof.Proof.Gen.Kernel6Ideal.Value
public import proofs.«01_k».proof.Proof.Gen.Reference6Ideal.Read

@[expose] public section

set_option maxRecDepth 16384

noncomputable section

namespace Cert.Kernel6Ideal.Product

open Cert.Kernel6Ideal Cert.Kernel6Ideal.Gen Cert.Sums Idealize.ShloMosaic Idealize.ShloMosaic.TcCoe Idealize.ShloMosaic.ValueIdx
open Idealize.SL.Sem
open Idealize.ShloMosaic.Pipeline (Dat)

/-! ## The arrays -/

variable (m : (ℓ : Loc nD τ sig) → Buf (Elt Ideal) ℓ) (c : Dev nD)

/-- The input and the product's gradient in the initial memory. -/
abbrev argX : FVec Ideal S8192x2048 .f32 := m ((c.tc : Thread nD τ).loc main_arg0)
abbrev argCt : FVec Ideal S8192x2048 .f32 := m ((c.tc : Thread nD τ).loc main_arg2)

/-- The arrays the kernel reads. -/
def left : FVec Ideal S8192x2048 .bf16 := V m c main_v0
def right : FVec Ideal S8192x2048 .bf16 := V m c main_v1

theorem left_eq : left m c = truncf .bf16 (argX m c) bitsLt_bf16_f32 := by
  unfold left V
  after_results_simp <;> rfl

theorem right_eq : right m c = truncf .bf16 (argCt m c) bitsLt_bf16_f32 := by
  unfold right V
  after_results_simp <;> rfl

/-! ## The blocks -/

theorem place_0 (t : Fin cfg0.N) : win0_0.index t 0 = t.val % 4 ∧ win0_0.index t 1 = t.val / 8 := by
  have h : ∀ t : Fin grid0.N, win0_0.index t 0 = t.val % 4 ∧ win0_0.index t 1 = t.val / 8 := by decide +kernel
  exact h t
theorem place_1 (t : Fin cfg0.N) : win0_1.index t 0 = t.val % 4 ∧ win0_1.index t 1 = t.val / 4 % 2 := by
  have h : ∀ t : Fin grid0.N, win0_1.index t 0 = t.val % 4 ∧ win0_1.index t 1 = t.val / 4 % 2 := by decide +kernel
  exact h t
theorem place_2 (t : Fin cfg0.N) : win0_2.index t 0 = t.val / 8 ∧ win0_2.index t 1 = t.val / 4 % 2 := by
  have h : ∀ t : Fin grid0.N, win0_2.index t 0 = t.val / 8 ∧ win0_2.index t 1 = t.val / 4 % 2 := by decide +kernel
  exact h t

/-- The run, and the row and the column of the result, a point's blocks hold at a place. -/
def runOf (t : Fin cfg0.N) : Fin 4 := ⟨t.val % 4, by omega⟩
def rowOf (t : Fin cfg0.N) (a : Fin 1024) : Fin 2048 := ⟨1024 * (t.val / 8) + a.val, by
  have : t.val < 16 := lt_of_lt_of_eq t.isLt N_0
  omega⟩
def colOf (t : Fin cfg0.N) (b : Fin 1024) : Fin 2048 := ⟨1024 * (t.val / 4 % 2) + b.val, by omega⟩

section Reads

variable {F : FTy → Type} [FloatOps F] (t : Fin cfg0.N)

theorem block_0 (G : Vec F S8192x2048 .bf16) (i : Fin 2048) (a : Fin 1024) :
    ((cfg0.win 0).blk t).view.read (Elt F) G (ix2 i a) = G (ix2 (posOf (runOf t) i) (rowOf t a)) := by
  rw [View.read_apply]
  refine congrArg G (funext fun x => Fin.ext ?_)
  obtain ⟨e0, e1⟩ := place_0 t
  match x with
  | ⟨0, _⟩ => show win0_0.index t 0 * 2048 + 1 * i.val = 2048 * (t.val % 4) + i.val; rw [e0]; omega
  | ⟨1, _⟩ => show win0_0.index t 1 * 1024 + 1 * a.val = 1024 * (t.val / 8) + a.val; rw [e1]; omega

theorem block_1 (G : Vec F S8192x2048 .bf16) (i : Fin 2048) (b : Fin 1024) :
    ((cfg0.win 1).blk t).view.read (Elt F) G (ix2 i b) = G (ix2 (posOf (runOf t) i) (colOf t b)) := by
  rw [View.read_apply]
  refine congrArg G (funext fun x => Fin.ext ?_)
  obtain ⟨e0, e1⟩ := place_1 t
  match x with
  | ⟨0, _⟩ => show win0_1.index t 0 * 2048 + 1 * i.val = 2048 * (t.val % 4) + i.val; rw [e0]; omega
  | ⟨1, _⟩ => show win0_1.index t 1 * 1024 + 1 * b.val = 1024 * (t.val / 4 % 2) + b.val; rw [e1]; omega

theorem block_2 (G : Vec F S2048x2048 .bf16) (a : Fin 1024) (b : Fin 1024) :
    ((cfg0.win 2).blk t).view.read (Elt F) G (ix2 a b) = G (ix2 (rowOf t a) (colOf t b)) := by
  rw [View.read_apply]
  refine congrArg G (funext fun x => Fin.ext ?_)
  obtain ⟨e0, e1⟩ := place_2 t
  match x with
  | ⟨0, _⟩ => show win0_2.index t 0 * 1024 + 1 * a.val = 1024 * (t.val / 8) + a.val; rw [e0]; omega
  | ⟨1, _⟩ => show win0_2.index t 1 * 1024 + 1 * b.val = 1024 * (t.val / 4 % 2) + b.val; rw [e1]; omega

end Reads

/-! ## What the body leaves -/

/-- The product of a point's two blocks. -/
def part (x0 : Vec Ideal S2048x1024 .bf16) (x1 : Vec Ideal S2048x1024 .bf16) : Vec Ideal S1024x1024 .f32 := k0_pay1 x0 x1

theorem part_apply (x0 : Vec Ideal S2048x1024 .bf16) (x1 : Vec Ideal S2048x1024 .bf16) (a : Fin 1024) (b : Fin 1024) :
    part x0 x1 (ix2 a b) = ∑ i : Fin 2048, x0 (ix2 i a) * x1 (ix2 i b) := by
  unfold part k0_pay1
  rw [shapeCast_self, shapeCast_self]
  exact mm_tn x0 x1 a b

section Points

variable (t : Fin cfg0.N)

/-- A point's addition to the buffer. -/
def added : FVec Ideal S1024x1024 .f32 := part (iblk m c 0 t) (iblk m c 1 t)

/-- The buffer after a point. -/
abbrev buffer (u : Nat) (h : u < cfg0.N) : FVec Ideal S1024x1024 .f32 := (outsAt0 m c u h).2

theorem scratch_A (h0 : t.val % 4 = 0) : (outsAt0 m c t.val t.isLt).2 = added m c t := by
  rw [outsAt0_A m c t h0 (by omega) (by omega)]
  dsimp only
  frame_out
  unfold added part k0_pay2
  rw [shapeCast_self]

theorem scratch_B (h1 : 1 ≤ t.val % 4) (h2 : ¬t.val % 4 = 3) :
    (outsAt0 m c t.val t.isLt).2 = addf (buffer m c (t.val - 1) (Nat.lt_of_le_of_lt (Nat.sub_le _ _) t.isLt)) (added m c t) := by
  rw [outsAt0_B m c t (by omega) h1 h2]
  dsimp only
  frame_out
  unfold added part k0_pay3
  dsimp only
  rw [shapeCast_self, read_unread_whole]

theorem output_C (h2 : t.val % 4 = 3) :
    (outsAt0 m c t.val t.isLt).1
      = truncf .bf16 (addf (buffer m c (t.val - 1) (Nat.lt_of_le_of_lt (Nat.sub_le _ _) t.isLt)) (added m c t)) bitsLt_bf16_f32 := by
  rw [outsAt0_C m c t (by omega) (by omega) h2]
  dsimp only
  frame_out
  unfold added part k0_pay4 k0_pay3
  simp only [shapeCast_self, read_unread_whole]

end Points

/-! ## The result -/

theorem iblk_0 (t : Fin cfg0.N) : iblk m c 0 t = ((cfg0.win 0).blk t).view.read (Elt Ideal) (left m c) := by unfold iblk left; rfl
theorem iblk_1 (t : Fin cfg0.N) : iblk m c 1 t = ((cfg0.win 1).blk t).view.read (Elt Ideal) (right m c) := by unfold iblk right; rfl

theorem added_apply (t : Fin cfg0.N) (a : Fin 1024) (b : Fin 1024) :
    added m c t (ix2 a b) = ∑ i : Fin 2048, argX m c (ix2 (posOf (runOf t) i) (rowOf t a))
      * argCt m c (ix2 (posOf (runOf t) i) (colOf t b)) := by
  refine (part_apply (iblk m c 0 t) (iblk m c 1 t) a b).trans (Finset.sum_congr rfl fun i _ => congrArg₂ (· * ·) ?_ ?_)
  · exact (congrFun (iblk_0 m c t) (ix2 i a)).trans ((block_0 (F := Ideal) t (left m c) i a).trans (congrFun (left_eq m c) _))
  · exact (congrFun (iblk_1 m c t) (ix2 i b)).trans ((block_1 (F := Ideal) t (right m c) i b).trans (congrFun (right_eq m c) _))

theorem flushed_2 (t : Fin cfg0.N) (hf : (cfg0.win 2).flush t = true) :
    (dats m 0 c).flushed 2 t = ((cfg0.win 2).blk t).view.read (Elt Ideal) (gradOf (argX m c) (argCt m c)) := by
  have h3 : t.val % 4 = 3 := (flush0_2 t).mp hf
  rw [Value.flushed2]
  refine funext fun (y : S1024x1024.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_2 (F := Ideal) t (gradOf (argX m c) (argCt m c)) a b).symm
  -- the run's four points
  have hN : t.val < cfg0.N := t.isLt
  have b2 : t.val - 1 < cfg0.N := by omega
  have b1 : t.val - 1 - 1 < cfg0.N := by omega
  have b0 : t.val - 1 - 1 - 1 < cfg0.N := by omega
  have s0 := scratch_A m c ⟨t.val - 1 - 1 - 1, b0⟩ (by show (t.val - 1 - 1 - 1) % 4 = 0; omega)
  have s1 := scratch_B m c ⟨t.val - 1 - 1, b1⟩ (by show 1 ≤ (t.val - 1 - 1) % 4; omega) (by show ¬(t.val - 1 - 1) % 4 = 3; omega)
  have s2 := scratch_B m c ⟨t.val - 1, b2⟩ (by show 1 ≤ (t.val - 1) % 4; omega) (by show ¬(t.val - 1) % 4 = 3; omega)
  have s3 := output_C m c t h3
  dsimp only at s0 s1 s2
  have val : (outsAt0 m c t.val t.isLt).1 (ix2 a b)
      = ((added m c ⟨t.val - 1 - 1 - 1, b0⟩ (ix2 a b) + added m c ⟨t.val - 1 - 1, b1⟩ (ix2 a b)) + added m c ⟨t.val - 1, b2⟩ (ix2 a b)) + added m c t (ix2 a b) := by
    rw [s3]; unfold buffer; rw [s2]; unfold buffer; rw [s1]; unfold buffer; rw [s0]; rfl
  refine Eq.trans (show _ = (outsAt0 m c t.val t.isLt).1 (ix2 a b) from rfl) (val.trans ?_)
  -- each run's part, in the block's own row and column
  have p : ∀ (u : Fin cfg0.N) (k : Fin 4), u.val / 4 = t.val / 4 → u.val % 4 = k.val →
      added m c u (ix2 a b) = ∑ i, argX m c (ix2 (posOf k i) (rowOf t a)) * argCt m c (ix2 (posOf k i) (colOf t b)) := by
    intro u k hq hk
    have e0 : runOf u = k := Fin.ext hk
    have e1 : rowOf u a = rowOf t a := Fin.ext (by show 1024 * (u.val / 8) + a.val = 1024 * (t.val / 8) + a.val; omega)
    have e2 : colOf u b = colOf t b := Fin.ext (by show 1024 * (u.val / 4 % 2) + b.val = 1024 * (t.val / 4 % 2) + b.val; omega)
    rw [added_apply, e0, e1, e2]
  rw [p ⟨t.val - 1 - 1 - 1, b0⟩ 0 (by show (t.val - 1 - 1 - 1) / 4 = _; omega) (by show (t.val - 1 - 1 - 1) % 4 = 0; omega),
    p ⟨t.val - 1 - 1, b1⟩ 1 (by show (t.val - 1 - 1) / 4 = _; omega) (by show (t.val - 1 - 1) % 4 = 1; omega),
    p ⟨t.val - 1, b2⟩ 2 (by show (t.val - 1) / 4 = _; omega) (by show (t.val - 1) % 4 = 2; omega),
    p t 3 rfl h3]
  exact (sum_runs fun n => argX m c (ix2 n (rowOf t a)) * argCt m c (ix2 n (colOf t b))).symm

theorem final_2 : (dats m 0 c).arrAt 2 cfg0.N = gradOf (argX m c) (argCt m c) :=
  (dats m 0 c).arrAt_eq_of_cover 2 (gradOf (argX m c) (argCt m c)) (fun t hf => flushed_2 m c t hf) fun i => by
    have h0 : (i 0 : Nat) < 2048 := (i 0).isLt
    have h1 : (i 1 : Nat) < 2048 := (i 1).isLt
    let t : Fin cfg0.N := ⟨8 * ((i 0 : Nat) / 1024) + 4 * ((i 1 : Nat) / 1024) + 3, lt_of_lt_of_eq (by omega : _ < 16) N_0.symm⟩
    have ht : t.val = 8 * ((i 0 : Nat) / 1024) + 4 * ((i 1 : Nat) / 1024) + 3 := rfl
    refine ⟨t, (flush0_2 t).mpr (by omega), ?_⟩
    show i ∈ ((View.whole main_v2).slice (win0_2.rect t)).set
    rw [View.set_slice_whole, Rect.mem_set_unit]
    obtain ⟨e0, e1⟩ := place_2 t
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1024 ≤ (i 1 : Nat) ∧ (i 1 : Nat) < win0_2.index t 1 * 1024 + 1024; rw [e1]; omega

/-! ## The reference -/

open Cert.Reference6Ideal.Read in
/-- The reference's gradient by the weight. -/
theorem reference_eq (x : FVec Ideal S8192x2048 .f32) (ct : FVec Ideal S8192x2048 .f32) : val_main_v4 (F := Ideal) x ct = gradOf x ct := by
  refine funext fun (y : Cert.Kernel6Ideal.S2048x2048.Idx) => ?_
  obtain ⟨i, j, rfl⟩ : ∃ i j, y = ix2 i j := ⟨y 0, y 1, funext fun x => Fin.ext (match x with
    | ⟨0, _⟩ => rfl
    | ⟨1, _⟩ => rfl)⟩
  refine Eq.trans (show _ = val_main_v2 (F := Ideal) x ct (ix2 i j) from rfl) ?_
  rw [val_main_v2_apply, val_main_v1_apply]
  refine Finset.sum_congr rfl fun n _ => (mul_comm _ _).trans (congrArg₂ (· * ·) (congrArg x (funext fun a => Fin.ext ?_)) (congrArg ct (funext fun a => Fin.ext ?_)))
  · match a with
    | ⟨0, _⟩ => rfl
    | ⟨1, _⟩ => rfl
  · match a with
    | ⟨0, _⟩ => rfl
    | ⟨1, _⟩ => rfl

end Cert.Kernel6Ideal.Product

end
-- ==== Proof.ProductPle.lean ====
/-
  THE GRADIENT BY THE PER-LAYER EMBEDDING'S PROJECTION. The launch of a 1 by 2 by 4 grid sums the products of four runs of
  2048 positions in a buffer of its own; the embedding has 256 columns, which are one block.
-/
module

public import Idealize.ShloMosaic.Lib.Pipeline.ReadBack
public import Idealize.ShloMosaic.Lib.Pipeline.ValueKit.Acc
public import proofs.«01_k».proof.Proof.Sums
public import proofs.«01_k».proof.Proof.Gen.Kernel7Ideal.Value
public import proofs.«01_k».proof.Proof.Gen.Reference7Ideal.Read

@[expose] public section

set_option maxRecDepth 16384

noncomputable section

namespace Cert.Kernel7Ideal.Product

open Cert.Kernel7Ideal Cert.Kernel7Ideal.Gen Cert.Sums Idealize.ShloMosaic Idealize.ShloMosaic.TcCoe Idealize.ShloMosaic.ValueIdx
open Idealize.SL.Sem
open Idealize.ShloMosaic.Pipeline (Dat)

/-! ## The arrays -/

variable (m : (ℓ : Loc nD τ sig) → Buf (Elt Ideal) ℓ) (c : Dev nD)

/-- The input and the product's gradient in the initial memory. -/
abbrev argX : FVec Ideal S8192x256 .f32 := m ((c.tc : Thread nD τ).loc main_arg0)
abbrev argCt : FVec Ideal S8192x2048 .f32 := m ((c.tc : Thread nD τ).loc main_arg2)

/-- The arrays the kernel reads. -/
def left : FVec Ideal S8192x256 .f32 := V m c main_arg0
def right : FVec Ideal S8192x2048 .bf16 := V m c main_v0

theorem left_eq : left m c = argX m c := by
  unfold left V
  after_results_simp <;> rfl

theorem right_eq : right m c = truncf .bf16 (argCt m c) bitsLt_bf16_f32 := by
  unfold right V
  after_results_simp <;> rfl

/-! ## The blocks -/

theorem place_0 (t : Fin cfg0.N) : win0_0.index t 0 = t.val % 4 ∧ win0_0.index t 1 = t.val / 8 := by
  have h : ∀ t : Fin grid0.N, win0_0.index t 0 = t.val % 4 ∧ win0_0.index t 1 = t.val / 8 := by decide +kernel
  exact h t
theorem place_1 (t : Fin cfg0.N) : win0_1.index t 0 = t.val % 4 ∧ win0_1.index t 1 = t.val / 4 % 2 := by
  have h : ∀ t : Fin grid0.N, win0_1.index t 0 = t.val % 4 ∧ win0_1.index t 1 = t.val / 4 % 2 := by decide +kernel
  exact h t
theorem place_2 (t : Fin cfg0.N) : win0_2.index t 0 = t.val / 8 ∧ win0_2.index t 1 = t.val / 4 % 2 := by
  have h : ∀ t : Fin grid0.N, win0_2.index t 0 = t.val / 8 ∧ win0_2.index t 1 = t.val / 4 % 2 := by decide +kernel
  exact h t

/-- The run, and the row and the column of the result, a point's blocks hold at a place. -/
def runOf (t : Fin cfg0.N) : Fin 4 := ⟨t.val % 4, by omega⟩
def rowOf (t : Fin cfg0.N) (a : Fin 256) : Fin 256 := ⟨256 * (t.val / 8) + a.val, by
  have : t.val < 8 := lt_of_lt_of_eq t.isLt N_0
  omega⟩
def colOf (t : Fin cfg0.N) (b : Fin 1024) : Fin 2048 := ⟨1024 * (t.val / 4 % 2) + b.val, by omega⟩

section Reads

variable {F : FTy → Type} [FloatOps F] (t : Fin cfg0.N)

theorem block_0 (G : Vec F S8192x256 .f32) (i : Fin 2048) (a : Fin 256) :
    ((cfg0.win 0).blk t).view.read (Elt F) G (ix2 i a) = G (ix2 (posOf (runOf t) i) (rowOf t a)) := by
  rw [View.read_apply]
  refine congrArg G (funext fun x => Fin.ext ?_)
  obtain ⟨e0, e1⟩ := place_0 t
  match x with
  | ⟨0, _⟩ => show win0_0.index t 0 * 2048 + 1 * i.val = 2048 * (t.val % 4) + i.val; rw [e0]; omega
  | ⟨1, _⟩ => show win0_0.index t 1 * 256 + 1 * a.val = 256 * (t.val / 8) + a.val; rw [e1]; omega

theorem block_1 (G : Vec F S8192x2048 .bf16) (i : Fin 2048) (b : Fin 1024) :
    ((cfg0.win 1).blk t).view.read (Elt F) G (ix2 i b) = G (ix2 (posOf (runOf t) i) (colOf t b)) := by
  rw [View.read_apply]
  refine congrArg G (funext fun x => Fin.ext ?_)
  obtain ⟨e0, e1⟩ := place_1 t
  match x with
  | ⟨0, _⟩ => show win0_1.index t 0 * 2048 + 1 * i.val = 2048 * (t.val % 4) + i.val; rw [e0]; omega
  | ⟨1, _⟩ => show win0_1.index t 1 * 1024 + 1 * b.val = 1024 * (t.val / 4 % 2) + b.val; rw [e1]; omega

theorem block_2 (G : Vec F S256x2048 .bf16) (a : Fin 256) (b : Fin 1024) :
    ((cfg0.win 2).blk t).view.read (Elt F) G (ix2 a b) = G (ix2 (rowOf t a) (colOf t b)) := by
  rw [View.read_apply]
  refine congrArg G (funext fun x => Fin.ext ?_)
  obtain ⟨e0, e1⟩ := place_2 t
  match x with
  | ⟨0, _⟩ => show win0_2.index t 0 * 256 + 1 * a.val = 256 * (t.val / 8) + a.val; rw [e0]; omega
  | ⟨1, _⟩ => show win0_2.index t 1 * 1024 + 1 * b.val = 1024 * (t.val / 4 % 2) + b.val; rw [e1]; omega

end Reads

/-! ## What the body leaves -/

/-- The product of a point's two blocks. -/
def part (x0 : Vec Ideal S2048x256 .f32) (x1 : Vec Ideal S2048x1024 .bf16) : Vec Ideal S256x1024 .f32 := k0_pay1 x0 x1

theorem part_apply (x0 : Vec Ideal S2048x256 .f32) (x1 : Vec Ideal S2048x1024 .bf16) (a : Fin 256) (b : Fin 1024) :
    part x0 x1 (ix2 a b) = ∑ i : Fin 2048, x0 (ix2 i a) * x1 (ix2 i b) := by
  unfold part k0_pay1
  rw [shapeCast_self]
  exact mm_tn x0 x1 a b

section Points

variable (t : Fin cfg0.N)

/-- A point's addition to the buffer. -/
def added : FVec Ideal S256x1024 .f32 := part (iblk m c 0 t) (iblk m c 1 t)

/-- The buffer after a point. -/
abbrev buffer (u : Nat) (h : u < cfg0.N) : FVec Ideal S256x1024 .f32 := (outsAt0 m c u h).2

theorem scratch_A (h0 : t.val % 4 = 0) : (outsAt0 m c t.val t.isLt).2 = added m c t := by
  rw [outsAt0_A m c t h0 (by omega) (by omega)]
  dsimp only
  frame_out
  unfold added part k0_pay2
  rw [shapeCast_self]

theorem scratch_B (h1 : 1 ≤ t.val % 4) (h2 : ¬t.val % 4 = 3) :
    (outsAt0 m c t.val t.isLt).2 = addf (buffer m c (t.val - 1) (Nat.lt_of_le_of_lt (Nat.sub_le _ _) t.isLt)) (added m c t) := by
  rw [outsAt0_B m c t (by omega) h1 h2]
  dsimp only
  frame_out
  unfold added part k0_pay3
  dsimp only
  rw [shapeCast_self, read_unread_whole]

theorem output_C (h2 : t.val % 4 = 3) :
    (outsAt0 m c t.val t.isLt).1
      = truncf .bf16 (addf (buffer m c (t.val - 1) (Nat.lt_of_le_of_lt (Nat.sub_le _ _) t.isLt)) (added m c t)) bitsLt_bf16_f32 := by
  rw [outsAt0_C m c t (by omega) (by omega) h2]
  dsimp only
  frame_out
  unfold added part k0_pay4 k0_pay3
  simp only [shapeCast_self, read_unread_whole]

end Points

/-! ## The result -/

theorem iblk_0 (t : Fin cfg0.N) : iblk m c 0 t = ((cfg0.win 0).blk t).view.read (Elt Ideal) (left m c) := by unfold iblk left; rfl
theorem iblk_1 (t : Fin cfg0.N) : iblk m c 1 t = ((cfg0.win 1).blk t).view.read (Elt Ideal) (right m c) := by unfold iblk right; rfl

theorem added_apply (t : Fin cfg0.N) (a : Fin 256) (b : Fin 1024) :
    added m c t (ix2 a b) = ∑ i : Fin 2048, argX m c (ix2 (posOf (runOf t) i) (rowOf t a))
      * argCt m c (ix2 (posOf (runOf t) i) (colOf t b)) := by
  refine (part_apply (iblk m c 0 t) (iblk m c 1 t) a b).trans (Finset.sum_congr rfl fun i _ => congrArg₂ (· * ·) ?_ ?_)
  · exact (congrFun (iblk_0 m c t) (ix2 i a)).trans ((block_0 (F := Ideal) t (left m c) i a).trans (congrFun (left_eq m c) _))
  · exact (congrFun (iblk_1 m c t) (ix2 i b)).trans ((block_1 (F := Ideal) t (right m c) i b).trans (congrFun (right_eq m c) _))

theorem flushed_2 (t : Fin cfg0.N) (hf : (cfg0.win 2).flush t = true) :
    (dats m 0 c).flushed 2 t = ((cfg0.win 2).blk t).view.read (Elt Ideal) (gradOf (argX m c) (argCt m c)) := by
  have h3 : t.val % 4 = 3 := (flush0_2 t).mp hf
  rw [Value.flushed2]
  refine funext fun (y : S256x1024.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_2 (F := Ideal) t (gradOf (argX m c) (argCt m c)) a b).symm
  -- the run's four points
  have hN : t.val < cfg0.N := t.isLt
  have b2 : t.val - 1 < cfg0.N := by omega
  have b1 : t.val - 1 - 1 < cfg0.N := by omega
  have b0 : t.val - 1 - 1 - 1 < cfg0.N := by omega
  have s0 := scratch_A m c ⟨t.val - 1 - 1 - 1, b0⟩ (by show (t.val - 1 - 1 - 1) % 4 = 0; omega)
  have s1 := scratch_B m c ⟨t.val - 1 - 1, b1⟩ (by show 1 ≤ (t.val - 1 - 1) % 4; omega) (by show ¬(t.val - 1 - 1) % 4 = 3; omega)
  have s2 := scratch_B m c ⟨t.val - 1, b2⟩ (by show 1 ≤ (t.val - 1) % 4; omega) (by show ¬(t.val - 1) % 4 = 3; omega)
  have s3 := output_C m c t h3
  dsimp only at s0 s1 s2
  have val : (outsAt0 m c t.val t.isLt).1 (ix2 a b)
      = ((added m c ⟨t.val - 1 - 1 - 1, b0⟩ (ix2 a b) + added m c ⟨t.val - 1 - 1, b1⟩ (ix2 a b)) + added m c ⟨t.val - 1, b2⟩ (ix2 a b)) + added m c t (ix2 a b) := by
    rw [s3]; unfold buffer; rw [s2]; unfold buffer; rw [s1]; unfold buffer; rw [s0]; rfl
  refine Eq.trans (show _ = (outsAt0 m c t.val t.isLt).1 (ix2 a b) from rfl) (val.trans ?_)
  -- each run's part, in the block's own row and column
  have p : ∀ (u : Fin cfg0.N) (k : Fin 4), u.val / 4 = t.val / 4 → u.val % 4 = k.val →
      added m c u (ix2 a b) = ∑ i, argX m c (ix2 (posOf k i) (rowOf t a)) * argCt m c (ix2 (posOf k i) (colOf t b)) := by
    intro u k hq hk
    have e0 : runOf u = k := Fin.ext hk
    have e1 : rowOf u a = rowOf t a := Fin.ext (by show 256 * (u.val / 8) + a.val = 256 * (t.val / 8) + a.val; omega)
    have e2 : colOf u b = colOf t b := Fin.ext (by show 1024 * (u.val / 4 % 2) + b.val = 1024 * (t.val / 4 % 2) + b.val; omega)
    rw [added_apply, e0, e1, e2]
  rw [p ⟨t.val - 1 - 1 - 1, b0⟩ 0 (by show (t.val - 1 - 1 - 1) / 4 = _; omega) (by show (t.val - 1 - 1 - 1) % 4 = 0; omega),
    p ⟨t.val - 1 - 1, b1⟩ 1 (by show (t.val - 1 - 1) / 4 = _; omega) (by show (t.val - 1 - 1) % 4 = 1; omega),
    p ⟨t.val - 1, b2⟩ 2 (by show (t.val - 1) / 4 = _; omega) (by show (t.val - 1) % 4 = 2; omega),
    p t 3 rfl h3]
  exact (sum_runs fun n => argX m c (ix2 n (rowOf t a)) * argCt m c (ix2 n (colOf t b))).symm

theorem final_2 : (dats m 0 c).arrAt 2 cfg0.N = gradOf (argX m c) (argCt m c) :=
  (dats m 0 c).arrAt_eq_of_cover 2 (gradOf (argX m c) (argCt m c)) (fun t hf => flushed_2 m c t hf) fun i => by
    have h0 : (i 0 : Nat) < 256 := (i 0).isLt
    have h1 : (i 1 : Nat) < 2048 := (i 1).isLt
    let t : Fin cfg0.N := ⟨8 * ((i 0 : Nat) / 256) + 4 * ((i 1 : Nat) / 1024) + 3, lt_of_lt_of_eq (by omega : _ < 8) N_0.symm⟩
    have ht : t.val = 8 * ((i 0 : Nat) / 256) + 4 * ((i 1 : Nat) / 1024) + 3 := rfl
    refine ⟨t, (flush0_2 t).mpr (by omega), ?_⟩
    show i ∈ ((View.whole main_v1).slice (win0_2.rect t)).set
    rw [View.set_slice_whole, Rect.mem_set_unit]
    obtain ⟨e0, e1⟩ := place_2 t
    intro a
    match a with
    | ⟨0, _⟩ => show win0_2.index t 0 * 256 ≤ (i 0 : Nat) ∧ (i 0 : Nat) < win0_2.index t 0 * 256 + 256; rw [e0]; omega
    | ⟨1, _⟩ => show win0_2.index t 1 * 1024 ≤ (i 1 : Nat) ∧ (i 1 : Nat) < win0_2.index t 1 * 1024 + 1024; rw [e1]; omega

/-! ## The reference -/

open Cert.Reference7Ideal.Read in
/-- The reference's gradient by the weight. -/
theorem reference_eq (x : FVec Ideal S8192x256 .f32) (ct : FVec Ideal S8192x2048 .f32) : val_main_v4 (F := Ideal) x ct = gradOf x ct := by
  refine funext fun (y : Cert.Kernel7Ideal.S256x2048.Idx) => ?_
  obtain ⟨i, j, rfl⟩ : ∃ i j, y = ix2 i j := ⟨y 0, y 1, funext fun x => Fin.ext (match x with
    | ⟨0, _⟩ => rfl
    | ⟨1, _⟩ => rfl)⟩
  refine Eq.trans (show _ = val_main_v2 (F := Ideal) x ct (ix2 i j) from rfl) ?_
  rw [val_main_v2_apply, val_main_v1_apply]
  refine Finset.sum_congr rfl fun n _ => (mul_comm _ _).trans (congrArg₂ (· * ·) (congrArg x (funext fun a => Fin.ext ?_)) (congrArg ct (funext fun a => Fin.ext ?_)))
  · match a with
    | ⟨0, _⟩ => rfl
    | ⟨1, _⟩ => rfl
  · match a with
    | ⟨0, _⟩ => rfl
    | ⟨1, _⟩ => rfl

end Cert.Kernel7Ideal.Product

end
-- ==== Proof.ForwardRef.lean ====
/-
  THE FORWARD REFERENCE'S RESULTS. Where the queries and the keys are real (`Scores`) the softmax weights are the real
  functions of Proof.Reals; the values stay any extended reals. The reference's first result is each row's weighted sum of
  the values, its second the row log-sum in units of log 2.
-/
module

public import proofs.«01_k».proof.Proof.Reference
public import proofs.«01_k».proof.Proof.Gen.Reference8Ideal.Read

@[expose] public section

noncomputable section

namespace Cert.Reference8Ideal.Attention

open Cert.Reference8Ideal Cert.Reference8Ideal.Gen Cert.Reference8Ideal.Read Cert.Attention Idealize.ShloMosaic Idealize.ShloMosaic.ValueIdx
open Cert.ReferenceIdeal.Attention (QKArr VArr exists_holds score_of div_real log_two)

/-- The queries and the keys are those of `A`, and `A.top` is each row's greatest score. -/
structure Scores (A : Args) (x0 x1 : QKArr) : Prop where
  q : ∀ i, x0 i = ((A.q (i 0) (i 1) (i 2) : ℝ) : EReal)
  k : ∀ i, x1 i = ((A.k (i 0) (i 1) (i 2) : ℝ) : EReal)
  top : ∀ i, Cert.ReferenceIdeal.Read.val_main_v3 (F := Ideal) x0 x1 i = ((A.top (i 0) (i 1) : ℝ) : EReal)

theorem exists_scores {x0 x1 : QKArr} (h0 : ∀ i, ∃ r : ℝ, x0 i = (r : EReal)) (h1 : ∀ i, ∃ r : ℝ, x1 i = (r : EReal)) :
    ∃ A : Args, Scores A x0 x1 := by
  obtain ⟨A, H⟩ := exists_holds (x2 := fun _ => ((0 : ℝ) : EReal)) (x3 := fun _ => ((0 : ℝ) : EReal)) h0 h1 (fun _ => ⟨0, rfl⟩) (fun _ => ⟨0, rfl⟩)
  exact ⟨A, H.q, H.k, H.top⟩

/-- The head and the place in it of a column of all the heads' outputs. -/
def headOf (x : Fin 1024) : Fin 8 := ⟨x.val / 128, by omega⟩
def dimOf (x : Fin 1024) : Fin 128 := ⟨x.val % 128, by omega⟩

/-- Row `i` of run `n`. -/
def rowIn (n : Fin 2) (i : Fin 4096) : Fin 8192 := ⟨4096 * n.val + i.val, by omega⟩

/-- Each row's weighted sum of the values. -/
def attended (A : Args) (v : VArr) : FVec Ideal S8192x1024 .f32 :=
  fun i => ∑ j : Fin 8192, v (ix3 j (headOf (i 1)) (dimOf (i 1))) * ((A.w (headOf (i 1)) (i 0) j : ℝ) : EReal)

/-- The row log-sum in units of log 2. -/
def logSum (A : Args) : FVec Ideal S8x2x1x4096 .f32 :=
  fun i => (((A.top (i 0) (rowIn (i 1) (i 3)) + Real.log (A.tot (i 0) (rowIn (i 1) (i 3)))) / Real.log 2 : ℝ) : EReal)

theorem minus_inf : (FloatOps.ofBits .f32 0xFF800000#32 : Ideal .f32) = (⊥ : EReal) := by
  show Ideal.ofBits .f32 0xFF800000#32 = ⊥
  simp [Ideal.ofBits, Ideal.ieee]

theorem sum_over_log (t u : ℝ) (hu : 0 < u) :
    Ideal.div ((t : EReal) + Ideal.log (u : EReal)) (Ideal.log (Ideal.ofBits .f32 0x40000000#32)) = (((t + Real.log u) / Real.log 2 : ℝ) : EReal) := by
  rw [log_two, Ideal.log_coe, if_neg (not_le.mpr hu), ← EReal.coe_add, div_real _ _ log_two_pos.ne']

theorem v2_same (x0 x1 : QKArr) : val_main_v2 (F := Ideal) x0 x1 = Cert.ReferenceIdeal.Read.val_main_v2 (F := Ideal) x0 x1 := rfl
theorem v3_same (x0 x1 : QKArr) : val_main_v3 (F := Ideal) x0 x1 = Cert.ReferenceIdeal.Read.val_main_v3 (F := Ideal) x0 x1 := rfl
theorem v17_same (x0 x1 : QKArr) : val_main_v17 (F := Ideal) x0 x1 = Cert.ReferenceIdeal.Read.val_main_v2 (F := Ideal) x0 x1 := rfl
theorem v18_same (x0 x1 : QKArr) : val_main_v18 (F := Ideal) x0 x1 = Cert.ReferenceIdeal.Read.val_main_v3 (F := Ideal) x0 x1 := rfl

section
variable {A : Args} {x0 x1 : QKArr} (H : Scores A x0 x1)
include H

/-- A row's greatest score, as the fold over the keys. -/
theorem top_fold (h : Fin 8) (i : Fin 8192) :
    (Finset.univ : Finset (Fin 8192)).fold max (⊥ : EReal) (fun j => ((A.score h i j : ℝ) : EReal)) = ((A.top h i : ℝ) : EReal) := by
  rw [← show _ = ((A.top h i : ℝ) : EReal) from H.top (ix2 h i)]
  have e : Cert.ReferenceIdeal.Read.val_main_v2 (F := Ideal) x0 x1 = fun i => ((A.score (i 0) (i 1) (i 2) : ℝ) : EReal) := funext (score_of H.q H.k)
  unfold Cert.ReferenceIdeal.Read.val_main_v3 Cert.ReferenceIdeal.Read.val_main_cst_0
  rw [e, hostReduce_maximumf_eq_multiReduction _ _ Cert.ReferenceIdeal.Gen.facts.reducesTo_S8x8192x8192_S8x8192_d2 h_S_ (by decide) (by decide) (by decide),
    Ideal.multiReduction_maximumf_single, minus_inf]
  rfl

theorem ex_of (h : Fin 8) (i j : Fin 8192) :
    Ideal.exp (((A.score h i j : ℝ) : EReal) - ((A.top h i : ℝ) : EReal)) = ((A.ex h i j : ℝ) : EReal) := by
  rw [← EReal.coe_sub, Ideal.exp_coe]
  rfl

theorem v7_eq (i : S8x8192x8192.Idx) : val_main_v7 (F := Ideal) x0 x1 i = ((A.ex (i 0) (i 1) (i 2) : ℝ) : EReal) := by
  rw [val_main_v7_apply, val_main_v6_apply, val_main_v5_apply, val_main_v4_apply, v3_same, v2_same, H.top, score_of H.q H.k]
  exact ex_of H _ _ _

theorem v8_eq (i : S8x8192.Idx) : val_main_v8 (F := Ideal) x0 x1 i = ((A.tot (i 0) (i 1) : ℝ) : EReal) := by
  rw [val_main_v8_apply, val_main_cst_1_apply]
  simp only [v7_eq H]
  show Ideal.ofBits .f32 0x00000000#32 + (∑ j : Fin 8192, ((A.ex (i 0) (i 1) j : ℝ) : EReal)) = _
  rw [Ideal.ofBits_zero_f32, zero_add, ← coe_sum]
  rfl

theorem v14_eq (i : S8x8192.Idx) : val_main_v14 (F := Ideal) x0 x1 i
    = (((A.top (i 0) (i 1) + Real.log (A.tot (i 0) (i 1))) / Real.log 2 : ℝ) : EReal) := by
  rw [val_main_v14_apply, val_main_v13_apply, val_main_v12_apply, val_main_v11_apply, val_main_cst_2_apply, val_main_v10_apply, val_main_v9_apply,
    v8_eq H, v3_same, H.top]
  exact sum_over_log _ _ (A.tot_pos _ _)

/-- The reference's second result. -/
theorem result_logSum : val_main_v32 (F := Ideal) x0 x1 = logSum A := by
  refine funext fun i => ?_
  rw [val_main_v32_apply, v14_eq H]
  have h0 : (i 0).val < 8 := (i 0).isLt
  have h1 : (i 1).val < 2 := (i 1).isLt
  have h2 : (i 2).val < 1 := (i 2).isLt
  have h3 : (i 3).val < 4096 := (i 3).isLt
  have e0 : idx_main_v32 i 0 = i 0 := Fin.ext (by
    show ((((i 0).val * 2 + (i 1).val) * 1 + (i 2).val) * 4096 + (i 3).val) / 8192 = (i 0).val; omega)
  have e1 : idx_main_v32 i 1 = rowIn (i 1) (i 3) := Fin.ext (by
    show ((((i 0).val * 2 + (i 1).val) * 1 + (i 2).val) * 4096 + (i 3).val) % 8192 = 4096 * (i 1).val + (i 3).val; omega)
  rw [e0, e1]
  rfl

theorem v24_eq (i : S8x8192x8192.Idx) : val_main_v24 (F := Ideal) x0 x1 i = ((A.ex (i 0) (i 1) (i 2) : ℝ) : EReal) := by
  rw [val_main_v24_apply, val_main_v23_apply, val_main_v22_apply, val_main_v21_apply, val_main_v20_apply, val_main_v19_apply, val_main_cst_5_apply,
    v18_same, v17_same, H.top, score_of H.q H.k, minus_inf]
  show Ideal.exp (((A.score (i 0) (i 1) (i 2) : ℝ) : EReal) - max ⊥ ((A.top (i 0) (i 1) : ℝ) : EReal)) = _
  rw [max_eq_right bot_le]
  exact ex_of H _ _ _

theorem v25_eq (i : S8x8192.Idx) : val_main_v25 (F := Ideal) x0 x1 i = ((A.tot (i 0) (i 1) : ℝ) : EReal) := by
  rw [val_main_v25_apply, val_main_cst_6_apply]
  simp only [v24_eq H]
  show Ideal.ofBits .f32 0x00000000#32 + (∑ j : Fin 8192, ((A.ex (i 0) (i 1) j : ℝ) : EReal)) = _
  rw [Ideal.ofBits_zero_f32, zero_add, ← coe_sum]
  rfl

theorem v28_eq (i : S8x8192x8192.Idx) : val_main_v28 (F := Ideal) x0 x1 i = ((A.w (i 0) (i 1) (i 2) : ℝ) : EReal) := by
  rw [val_main_v28_apply, val_main_v27_apply, val_main_v26_apply, v25_eq H, v24_eq H]
  exact div_real _ _ (A.tot_pos _ _).ne'

/-- The reference's first result. -/
theorem result_attended (v : VArr) : val_main_v31 (F := Ideal) x0 x1 v = attended A v := by
  refine funext fun i => ?_
  rw [val_main_v31_apply, val_main_v30_apply, val_main_v29_apply]
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  refine Finset.sum_congr rfl fun j _ => congrArg₂ (· * ·) (congrArg v (funext fun a => Fin.ext ?_)) ?_
  · match a with
    | ⟨0, _⟩ => rfl
    | ⟨1, _⟩ => exact e1
    | ⟨2, _⟩ => exact e2
  · rw [v28_eq H]
    exact congrArg₂ (fun a b => ((A.w a b j : ℝ) : EReal)) (Fin.ext e1) (Fin.ext e0)

end

end Cert.Reference8Ideal.Attention

end
-- ==== Proof.Forward.lean ====
/-
  THE ATTENTION'S FORWARD CALL. Each point of the launch takes one head and 512 of its queries against all its keys: it
  puts down the queries' weighted sums of the values and their row log-sums. Scores here are in units of log 2 and the
  powers are of two, which are the reference's exponentials; the sum of the values is divided by the row's total last,
  which is the weighted sum since the total is a positive real.
-/
module

public import proofs.«01_k».proof.Proof.Tile
public import proofs.«01_k».proof.Proof.ForwardRef
public import proofs.«01_k».proof.Proof.Gen.Kernel8Ideal.Value

@[expose] public section

set_option maxRecDepth 16384

noncomputable section

namespace Cert.Kernel8Ideal.Attention

open Cert.Kernel8Ideal Cert.Kernel8Ideal.Gen Cert.Attention Idealize.ShloMosaic Idealize.ShloMosaic.TcCoe Idealize.ShloMosaic.ValueIdx
open Idealize.SL.Sem
open Cert.KernelIdeal.Attention (mm_nt mm_nn)
open Cert.Reference8Ideal.Attention (Scores attended logSum headOf dimOf rowIn top_fold minus_inf)
open Idealize.ShloMosaic.Pipeline (Dat)

/-! ## Sums and greatest values -/

/-- Scaling by a positive real moves into a greatest value. -/
theorem fold_max_scaled {ι : Type} (s : Finset ι) (hs : s.Nonempty) (f : ι → ℝ) (r c : ℝ) (hc : 0 < c)
    (h : s.fold max (⊥ : EReal) (fun i => (f i : EReal)) = (r : EReal)) :
    s.fold max (⊥ : EReal) (fun i => ((f i * c : ℝ) : EReal)) = ((r * c : ℝ) : EReal) := by
  have h' : s.sup (fun i => (f i : EReal)) = (r : EReal) := h
  show s.sup (fun i => ((f i * c : ℝ) : EReal)) = _
  apply le_antisymm
  · refine Finset.sup_le fun i hi => EReal.coe_le_coe_iff.mpr (mul_le_mul_of_nonneg_right ?_ hc.le)
    exact EReal.coe_le_coe_iff.mp (h' ▸ Finset.le_sup (f := fun i => (f i : EReal)) hi)
  · obtain ⟨i, hi, e⟩ := Finset.exists_mem_eq_sup s hs (fun i => (f i : EReal))
    have e2 : r = f i := EReal.coe_injective (h'.symm.trans e)
    rw [e2]
    exact Finset.le_sup (f := fun i => ((f i * c : ℝ) : EReal)) hi

/-- A positive real factor moves into a sum of extended reals. -/
theorem sum_mul_real {ι : Type} (s : Finset ι) (f : ι → EReal) (c : ℝ) (hc : 0 < c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc.le) (EReal.coe_ne_top c), ih]

/-- The weighted sum, its division by the total taken last. -/
theorem weighted (f : Fin 8192 → EReal) (g : Fin 8192 → ℝ) (t : ℝ) (ht : 0 < t) :
    Ideal.div (∑ j, f j * (g j : EReal)) (t : EReal) = ∑ j, f j * ((g j / t : ℝ) : EReal) := by
  rw [Ideal.div_coe ht.ne', sum_mul_real _ _ _ (one_div_pos.mpr ht)]
  refine Finset.sum_congr rfl fun j _ => ?_
  rw [mul_assoc, ← EReal.coe_mul, mul_one_div]

/-- The score of a query scaled beforehand, in units of log 2. -/
theorem score_units (A : Args) (h : Fin 8) (i j : Fin 8192) :
    ∑ d, A.k j h d * (A.q i h d * (scale * (1 / Real.log 2))) = A.score h i j * (1 / Real.log 2) := by
  unfold Args.score
  rw [Finset.sum_mul, Finset.sum_mul]
  exact Finset.sum_congr rfl fun d _ => by ring

/-- Two to the power of a difference in units of log 2. -/
theorem pow_units (A : Args) (h : Fin 8) (i j : Fin 8192) :
    Real.rpow 2 (A.score h i j * (1 / Real.log 2) - A.top h i * (1 / Real.log 2)) = A.ex h i j := by
  have hl := log_two_pos.ne'
  rw [Real.rpow_eq_pow, Real.rpow_def_of_pos (by norm_num)]
  unfold Args.ex
  refine congrArg Real.exp ?_
  field_simp

/-! ## The body's values -/

/-- The query of row `a` of tile `n`. -/
def rowOf (n : Fin 16) (a : Fin 512) : Fin 8192 := ⟨512 * n.val + a.val, by omega⟩

/-- The blocks of head `h` and tile `n`. -/
structure Blocks (A : Args) (v : FVec Ideal S8192x8x128 .f32) (h : Fin 8) (n : Fin 16) (x0 : Vec Ideal S1x512x192 .bf16) (x1 : Vec Ideal S1x8192x192 .bf16)
    (x2 : Vec Ideal S1x1x128x8192 .bf16) : Prop where
  q : ∀ a d, x0 (ix3 0 a d) = ((A.q (rowOf n a) h d * (scale * (1 / Real.log 2)) : ℝ) : EReal)
  k : ∀ j d, x1 (ix3 0 j d) = ((A.k j h d : ℝ) : EReal)
  v : ∀ d j, x2 (ix4 0 0 d j) = v (ix3 j h d)
  top : ∀ i, (Finset.univ : Finset (Fin 8192)).fold max (⊥ : EReal) (fun j => ((A.score h i j : ℝ) : EReal)) = ((A.top h i : ℝ) : EReal)

/-- A row spread down a column of rows. -/
theorem spread_keys (y : FVec Ideal S1x512 .f32) (j : Fin 8192) (a : Fin 512) :
    broadcastTo S8192x512 y broadcasts_S1x512_S8192x512 (ix2 j a) = y (ix2 0 a) :=
  broadcastTo_apply _ broadcasts_S1x512_S8192x512 (ix2 j a) (ix2 0 a) (fun x => match x with
    | ⟨0, _⟩ => by show 0 = if (1 : Nat) = 1 then 0 else _; rw [if_pos rfl]
    | ⟨1, _⟩ => by show a.val = if (512 : Nat) = 1 then 0 else a.val; rw [if_neg (by decide)])

theorem spread_dims (y : FVec Ideal S1x512 .f32) (d : Fin 128) (a : Fin 512) :
    broadcastTo S128x512 y broadcasts_S1x512_S128x512 (ix2 d a) = y (ix2 0 a) :=
  broadcastTo_apply _ broadcasts_S1x512_S128x512 (ix2 d a) (ix2 0 a) (fun x => match x with
    | ⟨0, _⟩ => by show 0 = if (1 : Nat) = 1 then 0 else _; rw [if_pos rfl]
    | ⟨1, _⟩ => by show a.val = if (512 : Nat) = 1 then 0 else a.val; rw [if_neg (by decide)])

theorem row_of (y : FVec Ideal S512 .f32) (a : Fin 512) : shapeCast S1x512 y shapeCasts_S512_S1x512 (ix2 0 a) = y (ix1 a) :=
  shapeCast_apply _ _ (ix2 0 a) (ix1 a) (by rw [Shape.rowMajor_val_two, Shape.rowMajor_val_one]; simp)

/-- A column's sum. -/
theorem sum_keys (y : FVec Ideal S8192x512 .f32) (a : Fin 512) :
    shapeCast S1x512 (multiReduction .add [0] S512 y 0x00000000#32 reduces_S8192x512_S512 (.inl rfl) rfl) shapeCasts_S512_S1x512 (ix2 0 a)
      = ∑ j : Fin 8192, y (ix2 j a) := by
  refine (row_of _ a).trans ((Ideal.multiReduction_add_single y _ reduces_S8192x512_S512 (.inl rfl) rfl (ix1 a)).trans ?_)
  refine Finset.sum_congr rfl fun (j : Fin 8192) _ => congrArg y (funext fun x => Fin.ext ?_)
  match x with
  | ⟨0, _⟩ => rfl
  | ⟨1, _⟩ => rfl

/-- A column's greatest value. -/
theorem top_keys (y : FVec Ideal S8192x512 .f32) (a : Fin 512) :
    shapeCast S1x512 (multiReduction .maximumf [0] S512 y 0xFF800000#32 reduces_S8192x512_S512 (.inl rfl) rfl) shapeCasts_S512_S1x512 (ix2 0 a)
      = (Finset.univ : Finset (Fin 8192)).fold max (⊥ : EReal) (fun j => y (ix2 j a)) := by
  refine (row_of _ a).trans ((Ideal.multiReduction_maximumf_single y _ reduces_S8192x512_S512 (.inl rfl) rfl (ix1 a)).trans ?_)
  refine congrArg₂ (fun b f => (Finset.univ : Finset (Fin 8192)).fold max (b : EReal) f) minus_inf (funext fun (j : Fin 8192) => congrArg y (funext fun x => Fin.ext ?_))
  match x with
  | ⟨0, _⟩ => rfl
  | ⟨1, _⟩ => rfl

theorem off_zero2 : (![0, 0] : Fin 2 → Nat) = fun _ => 0 := by decide
theorem off_zero3 : (![0, 0, 0] : Fin 3 → Nat) = fun _ => 0 := by decide
theorem off_zero4 : (![0, 0, 0, 0] : Fin 4 → Nat) = fun _ => 0 := by decide
theorem off_keys : k0_off1 = fun _ => 0 := by decide

/-- The running greatest value, at minus infinity before the one tile of keys, is the tile's. -/
theorem max_row (u : FVec Ideal S1x512 .f32) (a : Fin 512) : maximumf (k0_pay2 (F := Ideal)) u (ix2 0 a) = u (ix2 0 a) := by
  show max (FloatOps.ofBits .f32 0xFF800000#32 : Ideal .f32) (u (ix2 0 a)) = _
  rw [minus_inf]
  exact max_eq_right bot_le

/-! ## Each of the body's values at a place, from earlier ones -/

section At

variable (x0 : Vec Ideal S1x512x192 .bf16) (x1 : Vec Ideal S1x8192x192 .bf16) (x2 : Vec Ideal S1x1x128x8192 .bf16)

theorem keys_at (j : Fin 8192) (d : Fin 192) : shapeCast S8192x192 x1 shapeCasts_S1x8192x192_S8192x192 (ix2 j d) = x1 (ix3 0 j d) :=
  shapeCast_apply _ _ (ix2 j d) (ix3 0 j d) (by rw [Shape.rowMajor_val_two, Shape.rowMajor_val_three]; simp)

theorem queries_at (a : Fin 512) (d : Fin 192) : shapeCast S512x192 x0 shapeCasts_S1x512x192_S512x192 (ix2 a d) = x0 (ix3 0 a d) :=
  shapeCast_apply _ _ (ix2 a d) (ix3 0 a d) (by rw [Shape.rowMajor_val_two, Shape.rowMajor_val_three]; simp)

theorem values_at (d : Fin 128) (j : Fin 8192) : shapeCast S128x8192 x2 shapeCasts_S1x1x128x8192_S128x8192 (ix2 d j) = x2 (ix4 0 0 d j) :=
  shapeCast_apply _ _ (ix2 d j) (ix4 0 0 d j) (by rw [Shape.rowMajor_val_two, Shape.rowMajor_val_four]; simp)

theorem pay3_at (j : Fin 8192) (a : Fin 512) : k0_pay3 (F := Ideal) x0 x1 (ix2 j a) = ∑ d : Fin 192, x1 (ix3 0 j d) * x0 (ix3 0 a d) := by
  unfold k0_pay3
  refine (mm_nt (φ₁ := .bf16) (φ₂ := .bf16) (shapeCast S8192x192 x1 shapeCasts_S1x8192x192_S8192x192) (shapeCast S512x192 x0 shapeCasts_S1x512x192_S512x192) j a).trans ?_
  exact Finset.sum_congr rfl fun d _ => congrArg₂ (fun p q : EReal => p * q) (keys_at x1 j d) (queries_at x0 a d)

theorem pay4_at (a : Fin 512) : k0_pay4 (F := Ideal) x0 x1 (ix2 0 a)
    = (Finset.univ : Finset (Fin 8192)).fold max (⊥ : EReal) (fun j => k0_pay3 (F := Ideal) x0 x1 (ix2 j a)) := by
  unfold k0_pay4
  generalize k0_pay3 (F := Ideal) x0 x1 = y
  exact (max_row _ a).trans (top_keys y a)

theorem pay5_at (j : Fin 8192) (a : Fin 512) : k0_pay5 (F := Ideal) x0 x1 (ix2 j a)
    = Ideal.exp2 (k0_pay3 (F := Ideal) x0 x1 (ix2 j a) - k0_pay4 (F := Ideal) x0 x1 (ix2 0 a)) := by
  unfold k0_pay5
  generalize k0_pay3 (F := Ideal) x0 x1 = y
  generalize k0_pay4 (F := Ideal) x0 x1 = z
  exact congrArg (fun e => Ideal.exp2 (y (ix2 j a) - e)) (spread_keys z j a)

theorem pay7_at (a : Fin 512) : k0_pay7 (F := Ideal) x0 x1 (ix2 0 a) = ∑ j : Fin 8192, k0_pay5 (F := Ideal) x0 x1 (ix2 j a) := by
  unfold k0_pay7
  generalize k0_pay5 (F := Ideal) x0 x1 = y
  generalize k0_pay6 (F := Ideal) x0 x1 = z
  refine Eq.trans (congrArg₂ (fun p q : EReal => z (ix2 0 a) * p + q) Ideal.ofBits_zero_f32 (sum_keys y a)) ?_
  rw [mul_zero, zero_add]

theorem pay8_at (a : Fin 512) (d : Fin 128) : k0_pay8 (F := Ideal) x0 x1 x2 (ix2 a d)
    = Ideal.div (∑ j : Fin 8192, x2 (ix4 0 0 d j) * k0_pay5 (F := Ideal) x0 x1 (ix2 j a)) (k0_pay7 (F := Ideal) x0 x1 (ix2 0 a)) := by
  unfold k0_pay8
  refine (transpose_apply [1, 0] _ transposes_S128x512_p1_0_S512x128 (ix2 a d) (ix2 d a) (fun b => match b with
    | ⟨0, _⟩ => rfl
    | ⟨1, _⟩ => rfl)).trans ?_
  generalize k0_pay5 (F := Ideal) x0 x1 = y
  generalize k0_pay6 (F := Ideal) x0 x1 = z
  generalize k0_pay7 (F := Ideal) x0 x1 = u
  have e1 : matmul (φ₁ := .bf16) dot_S128x8192_S8192x512_S128x512_1_0_0_1_n_n none (shapeCast S128x8192 x2 shapeCasts_S1x1x128x8192_S128x8192)
      (truncf .bf16 y bitsLt_bf16_f32) (constant S128x512 .f32 0x00000000#32) (ix2 d a) = ∑ j : Fin 8192, x2 (ix4 0 0 d j) * y (ix2 j a) := by
    refine (mm_nn (φ₁ := .bf16) (φ₂ := .bf16) (shapeCast S128x8192 x2 shapeCasts_S1x1x128x8192_S128x8192) (truncf .bf16 y bitsLt_bf16_f32) d a).trans ?_
    exact Finset.sum_congr rfl fun j _ => congrArg (fun p : EReal => p * y (ix2 j a)) (values_at x2 d j)
  refine Eq.trans (congrArg₂ (fun p q : EReal => Ideal.div (broadcastTo S128x512 z broadcasts_S1x512_S128x512 (ix2 d a) * p + q)
    (broadcastTo S128x512 u broadcasts_S1x512_S128x512 (ix2 d a))) Ideal.ofBits_zero_f32 e1) ?_
  rw [mul_zero, zero_add]
  exact congrArg (Ideal.div _) (spread_dims u d a)

theorem pay9_at (a : Fin 512) : k0_pay9 (F := Ideal) x0 x1 (ix2 0 a) = Ideal.log (k0_pay7 (F := Ideal) x0 x1 (ix2 0 a)) := by
  unfold k0_pay9
  generalize k0_pay7 (F := Ideal) x0 x1 = y
  rfl

theorem pay1_at (y z : FVec Ideal S1x512 .f32) (e : Ideal .f32) (a : Fin 512) :
    k0_pay1 (F := Ideal) y z e (ix4 0 0 0 a) = (y (ix2 0 a) : EReal) + z (ix2 0 a) * e := by
  unfold k0_pay1
  exact shapeCast_apply _ _ (ix4 0 0 0 a) (ix2 0 a) (by rw [Shape.rowMajor_val_two, Shape.rowMajor_val_four]; simp)

end At

section Point

variable {A : Args} {v : FVec Ideal S8192x8x128 .f32} {h : Fin 8} {n : Fin 16} {x0 : Vec Ideal S1x512x192 .bf16} {x1 : Vec Ideal S1x8192x192 .bf16}
  {x2 : Vec Ideal S1x1x128x8192 .bf16} (B : Blocks A v h n x0 x1 x2)
include B

/-- The scores in units of log 2. -/
theorem pay3_eq (j : Fin 8192) (a : Fin 512) :
    k0_pay3 (F := Ideal) x0 x1 (ix2 j a) = ((A.score h (rowOf n a) j * (1 / Real.log 2) : ℝ) : EReal) := by
  rw [pay3_at, ← score_units, coe_sum]
  refine Finset.sum_congr rfl fun d _ => ?_
  rw [B.k, B.q, ← EReal.coe_mul]

/-- The greatest score of a query. -/
theorem pay4_eq (a : Fin 512) : k0_pay4 (F := Ideal) x0 x1 (ix2 0 a) = ((A.top h (rowOf n a) * (1 / Real.log 2) : ℝ) : EReal) := by
  rw [pay4_at]
  simp only [pay3_eq B]
  exact fold_max_scaled _ ⟨(0 : Fin 8192), Finset.mem_univ _⟩ _ _ _ (one_div_pos.mpr log_two_pos) (B.top _)

/-- The exponentials. -/
theorem pay5_eq (j : Fin 8192) (a : Fin 512) : k0_pay5 (F := Ideal) x0 x1 (ix2 j a) = ((A.ex h (rowOf n a) j : ℝ) : EReal) := by
  rw [pay5_at, pay3_eq B, pay4_eq B, ← EReal.coe_sub, Ideal.exp2_coe, pow_units]

/-- The rows' totals. -/
theorem pay7_eq (a : Fin 512) : k0_pay7 (F := Ideal) x0 x1 (ix2 0 a) = ((A.tot h (rowOf n a) : ℝ) : EReal) := by
  rw [pay7_at]
  simp only [pay5_eq B]
  exact (coe_sum _ _).symm

/-- The weighted sums of the values. -/
theorem pay8_eq (a : Fin 512) (d : Fin 128) :
    k0_pay8 (F := Ideal) x0 x1 x2 (ix2 a d) = ∑ j : Fin 8192, v (ix3 j h d) * ((A.w h (rowOf n a) j : ℝ) : EReal) := by
  rw [pay8_at, pay7_eq B]
  simp only [pay5_eq B, B.v]
  exact weighted (fun j => v (ix3 j h d)) (A.ex h (rowOf n a)) (A.tot h (rowOf n a)) (A.tot_pos _ _)

/-- The row log-sums in units of log 2. -/
theorem pay1_eq (a : Fin 512) :
    k0_pay1 (F := Ideal) (k0_pay4 x0 x1) (k0_pay9 x0 x1) (Named.named κ "per_ln2" 0x3FB8AA3B#32) (ix4 0 0 0 a)
      = (((A.top h (rowOf n a) + Real.log (A.tot h (rowOf n a))) / Real.log 2 : ℝ) : EReal) := by
  have e3 : (Named.named (F := Ideal) κ "per_ln2" 0x3FB8AA3B#32 : Ideal .f32) = (((Real.log 2)⁻¹ : ℝ) : EReal) :=
    IdealRules.named_const.ideal_named_scalar _ _ _ _ rfl
  rw [pay1_at, pay9_at, e3, pay4_eq B, pay7_eq B, Ideal.log_coe, if_neg (not_le.mpr (A.tot_pos _ _)), ← EReal.coe_mul, ← EReal.coe_add]
  refine congrArg Real.toEReal ?_
  rw [one_div, ← add_mul, div_eq_mul_inv]

theorem out_3_eq (a : Fin 512) (d : Fin 128) :
    out0_3 (F := Ideal) x0 x1 x2 (ix2 a d) = ∑ j : Fin 8192, v (ix3 j h d) * ((A.w h (rowOf n a) j : ℝ) : EReal) := by
  unfold out0_3
  rw [View.canon_cons_unit_zero off_zero2 inb_S512x128_S512x128_0_0, View.ld_unit_zero off_zero3, View.ld_unit_zero off_keys, View.ld_unit_zero off_zero4]
  exact pay8_eq B a d

theorem out_4_eq (a : Fin 512) :
    out0_4 (F := Ideal) x0 x1 x2 (ix4 0 0 0 a) = (((A.top h (rowOf n a) + Real.log (A.tot h (rowOf n a))) / Real.log 2 : ℝ) : EReal) := by
  unfold out0_4
  rw [View.canon_cons_unit_zero off_zero4 inb_S1x1x1x512_S1x1x1x512_0_0_0_0, View.ld_unit_zero off_zero3, View.ld_unit_zero off_keys]
  exact pay1_eq B a

end Point

end Cert.Kernel8Ideal.Attention

end
-- ==== Proof.ForwardRun.lean ====
/-
  THE FORWARD CALL'S RESULTS. What the host hands the kernel (the scaled queries and the keys by heads, the values by
  heads with their columns first), the block each point reads and writes, and so the two arrays after the run.
-/
module

public import proofs.«01_k».proof.Proof.Forward

@[expose] public section

set_option maxRecDepth 16384

noncomputable section

namespace Cert.Kernel8Ideal.Attention

open Cert.Kernel8Ideal Cert.Kernel8Ideal.Gen Cert.Attention Idealize.ShloMosaic Idealize.ShloMosaic.TcCoe Idealize.ShloMosaic.ValueIdx
open Idealize.SL.Sem
open Cert.ReferenceIdeal.Attention (div_real log_two)
open Cert.Reference8Ideal.Attention (Scores attended logSum headOf dimOf rowIn top_fold)
open Idealize.ShloMosaic.Pipeline (Dat)

variable (m : (ℓ : Loc nD τ sig) → Buf (Elt Ideal) ℓ) (c : Dev nD)

/-- The queries, the keys and the values in the initial memory. -/
abbrev argQ : FVec Ideal S8192x8x192 .f32 := m ((c.tc : Thread nD τ).loc main_arg0)
abbrev argK : FVec Ideal S8192x8x192 .f32 := m ((c.tc : Thread nD τ).loc main_arg1)
abbrev argV : FVec Ideal S8192x8x128 .f32 := m ((c.tc : Thread nD τ).loc main_arg2)

/-! ## What the host hands over -/

def queries : FVec Ideal S8x8192x192 .bf16 := V m c main_v6
def keys : FVec Ideal S8x8192x192 .bf16 := V m c main_v8
def byHead : FVec Ideal S8x8192x128 .bf16 := V m c main_v10
def values : FVec Ideal S8x1x128x8192 .bf16 := V m c main_v12

theorem queries_eq : queries m c = truncf .bf16 (mulf (transpose S8x8192x192 [1, 0, 2] (argQ m c) transposes_S8192x8x192_S8x8192x192_1_0_2)
    (broadcastInDim S8x8192x192 ![] bcast_S_S8x8192x192 (Host.divf (constant S_ .f32 0x3D93CD3A#32) (Host.log (constant S_ .f32 0x40000000#32)))))
    bitsLt_bf16_f32 := by
  unfold queries V
  after_results_simp <;> rfl

theorem keys_eq : keys m c = truncf (F := Ideal) .bf16 (transpose S8x8192x192 [1, 0, 2] (argK m c) transposes_S8192x8x192_S8x8192x192_1_0_2) bitsLt_bf16_f32 := by
  unfold keys V
  after_results_simp <;> rfl

theorem byHead_eq : byHead m c = truncf (F := Ideal) .bf16 (transpose S8x8192x128 [1, 0, 2] (argV m c) transposes_S8192x8x128_S8x8192x128_1_0_2) bitsLt_bf16_f32 := by
  unfold byHead V
  after_results_simp <;> rfl

theorem values_eq : values m c = transpose S8x1x128x8192 [0, 1, 3, 2] (shapeCast S8x1x8192x128 (byHead m c) shapeCasts_S8x8192x128_S8x1x8192x128)
    transposes_S8x1x8192x128_S8x1x128x8192_0_1_3_2 := by
  unfold values byHead V
  after_results_simp <;> rfl

theorem scaled_at (a : FVec Ideal S8x8192x192 .f32) (j : S8x8192x192.Idx) :
    (truncf .bf16 (mulf a (broadcastInDim S8x8192x192 ![] bcast_S_S8x8192x192
      (Host.divf (constant S_ .f32 0x3D93CD3A#32) (Host.log (constant S_ .f32 0x40000000#32))))) bitsLt_bf16_f32 : FVec Ideal S8x8192x192 .bf16) j
      = a j * Ideal.div (Ideal.ofBits .f32 0x3D93CD3A#32) (Ideal.log (Ideal.ofBits .f32 0x40000000#32)) := rfl

theorem per_log : Ideal.div (Ideal.ofBits .f32 0x3D93CD3A#32) (Ideal.log (Ideal.ofBits .f32 0x40000000#32)) = ((scale * (1 / Real.log 2) : ℝ) : EReal) := by
  rw [log_two, scale_word, div_real _ _ log_two_pos.ne', mul_one_div]

theorem values_at_head (h : Fin 8) (d : Fin 128) (j : Fin 8192) : values m c (ix4 h 0 d j) = argV m c (ix3 j h d) := by
  rw [values_eq, transpose_apply [0, 1, 3, 2] _ transposes_S8x1x8192x128_S8x1x128x8192_0_1_3_2 (ix4 h 0 d j) (ix4 h 0 j d) (fun b => match b with
      | ⟨0, _⟩ => rfl
      | ⟨1, _⟩ => rfl
      | ⟨2, _⟩ => rfl
      | ⟨3, _⟩ => rfl),
    shapeCast_apply (byHead m c) shapeCasts_S8x8192x128_S8x1x8192x128 (ix4 h 0 j d) (ix3 h j d)
      (by rewrite [Shape.rowMajor_val_four, Shape.rowMajor_val_three]
          show (h.val * 8192 + j.val) * 128 + d.val = ((h.val * 1 + 0) * 8192 + j.val) * 128 + d.val; omega), byHead_eq]
  exact transpose_apply [1, 0, 2] (argV m c) transposes_S8192x8x128_S8x8192x128_1_0_2 (ix3 h j d) (ix3 j h d) (fun b => match b with
      | ⟨0, _⟩ => rfl
      | ⟨1, _⟩ => rfl
      | ⟨2, _⟩ => rfl)

section
variable {m c} {A : Args} (H : Scores A (argQ m c) (argK m c))
include H

theorem queries_at_head (h : Fin 8) (i : Fin 8192) (d : Fin 192) : queries m c (ix3 h i d) = ((A.q i h d * (scale * (1 / Real.log 2)) : ℝ) : EReal) := by
  rw [queries_eq]
  have e := transpose_apply [1, 0, 2] (argQ m c) transposes_S8192x8x192_S8x8192x192_1_0_2 (ix3 h i d) (ix3 i h d) (fun b => match b with
      | ⟨0, _⟩ => rfl
      | ⟨1, _⟩ => rfl
      | ⟨2, _⟩ => rfl)
  rw [scaled_at, e, per_log, H.q, ← EReal.coe_mul]

theorem keys_at_head (h : Fin 8) (j : Fin 8192) (d : Fin 192) : keys m c (ix3 h j d) = ((A.k j h d : ℝ) : EReal) := by
  rw [keys_eq]
  exact (transpose_apply [1, 0, 2] (argK m c) transposes_S8192x8x192_S8x8192x192_1_0_2 (ix3 h j d) (ix3 j h d) (fun b => match b with
      | ⟨0, _⟩ => rfl
      | ⟨1, _⟩ => rfl
      | ⟨2, _⟩ => rfl)).trans (H.k _)

end

/-! ## The blocks -/

theorem place_0 (t : Fin cfg0.N) : win0_0.index t 0 = t.val / 16 ∧ win0_0.index t 1 = t.val % 16 ∧ win0_0.index t 2 = 0 := by
  have h : ∀ t : Fin grid0.N, win0_0.index t 0 = t.val / 16 ∧ win0_0.index t 1 = t.val % 16 ∧ win0_0.index t 2 = 0 := by decide +kernel
  exact h t
theorem place_1 (t : Fin cfg0.N) : win0_1.index t 0 = t.val / 16 ∧ win0_1.index t 1 = 0 ∧ win0_1.index t 2 = 0 := by
  have h : ∀ t : Fin grid0.N, win0_1.index t 0 = t.val / 16 ∧ win0_1.index t 1 = 0 ∧ win0_1.index t 2 = 0 := by decide +kernel
  exact h t
theorem place_2 (t : Fin cfg0.N) : win0_2.index t 0 = t.val / 16 ∧ win0_2.index t 1 = 0 ∧ win0_2.index t 2 = 0 ∧ win0_2.index t 3 = 0 := by
  have h : ∀ t : Fin grid0.N, win0_2.index t 0 = t.val / 16 ∧ win0_2.index t 1 = 0 ∧ win0_2.index t 2 = 0 ∧ win0_2.index t 3 = 0 := by decide +kernel
  exact h t
theorem place_3 (t : Fin cfg0.N) : win0_3.index t 0 = t.val % 16 ∧ win0_3.index t 1 = t.val / 16 := by
  have h : ∀ t : Fin grid0.N, win0_3.index t 0 = t.val % 16 ∧ win0_3.index t 1 = t.val / 16 := by decide +kernel
  exact h t
theorem place_4 (t : Fin cfg0.N) :
    win0_4.index t 0 = t.val / 16 ∧ win0_4.index t 1 = t.val % 16 / 8 ∧ win0_4.index t 2 = 0 ∧ win0_4.index t 3 = t.val % 8 := by
  have h : ∀ t : Fin grid0.N, win0_4.index t 0 = t.val / 16 ∧ win0_4.index t 1 = t.val % 16 / 8 ∧ win0_4.index t 2 = 0 ∧ win0_4.index t 3 = t.val % 8 := by
    decide +kernel
  exact h t

/-- A point's head and its tile of queries. -/
def headAt (t : Fin cfg0.N) : Fin 8 := ⟨t.val / 16, by
  have : t.val < 128 := lt_of_lt_of_eq t.isLt N_0
  omega⟩
def tileAt (t : Fin cfg0.N) : Fin 16 := ⟨t.val % 16, by omega⟩

/-- The run of queries a tile lies in, and a row's place there. -/
def runAt (n : Fin 16) : Fin 2 := ⟨n.val / 8, by omega⟩
def spotAt (n : Fin 16) (a : Fin 512) : Fin 4096 := ⟨512 * (n.val % 8) + a.val, by omega⟩

theorem rowIn_spot (n : Fin 16) (a : Fin 512) : rowIn (runAt n) (spotAt n a) = rowOf n a := Fin.ext (by
  show 4096 * (n.val / 8) + (512 * (n.val % 8) + a.val) = 512 * n.val + a.val
  omega)

section Reads

variable {F : FTy → Type} [FloatOps F] (t : Fin cfg0.N)

theorem block_0 (G : Vec F S8x8192x192 .bf16) (a : Fin 512) (d : Fin 192) :
    ((cfg0.win 0).blk t).view.read (Elt F) G (ix3 0 a d) = G (ix3 (headAt t) (rowOf (tileAt t) a) d) := by
  rw [View.read_apply]
  refine congrArg G (funext fun x => Fin.ext ?_)
  obtain ⟨e0, e1, e2⟩ := place_0 t
  match x with
  | ⟨0, _⟩ => show win0_0.index t 0 * 1 + 1 * 0 = t.val / 16; rw [e0]; omega
  | ⟨1, _⟩ => show win0_0.index t 1 * 512 + 1 * a.val = 512 * (t.val % 16) + a.val; rw [e1]; omega
  | ⟨2, _⟩ => show win0_0.index t 2 * 192 + 1 * d.val = d.val; rw [e2]; omega

theorem block_1 (G : Vec F S8x8192x192 .bf16) (j : Fin 8192) (d : Fin 192) :
    ((cfg0.win 1).blk t).view.read (Elt F) G (ix3 0 j d) = G (ix3 (headAt t) j d) := by
  rw [View.read_apply]
  refine congrArg G (funext fun x => Fin.ext ?_)
  obtain ⟨e0, e1, e2⟩ := place_1 t
  match x with
  | ⟨0, _⟩ => show win0_1.index t 0 * 1 + 1 * 0 = t.val / 16; rw [e0]; omega
  | ⟨1, _⟩ => show win0_1.index t 1 * 8192 + 1 * j.val = j.val; rw [e1]; omega
  | ⟨2, _⟩ => show win0_1.index t 2 * 192 + 1 * d.val = d.val; rw [e2]; omega

theorem block_2 (G : Vec F S8x1x128x8192 .bf16) (d : Fin 128) (j : Fin 8192) :
    ((cfg0.win 2).blk t).view.read (Elt F) G (ix4 0 0 d j) = G (ix4 (headAt t) 0 d j) := by
  rw [View.read_apply]
  refine congrArg G (funext fun x => Fin.ext ?_)
  obtain ⟨e0, e1, e2, e3⟩ := place_2 t
  match x with
  | ⟨0, _⟩ => show win0_2.index t 0 * 1 + 1 * 0 = t.val / 16; rw [e0]; omega
  | ⟨1, _⟩ => show win0_2.index t 1 * 1 + 1 * 0 = 0; rw [e1]
  | ⟨2, _⟩ => show win0_2.index t 2 * 128 + 1 * d.val = d.val; rw [e2]; omega
  | ⟨3, _⟩ => show win0_2.index t 3 * 8192 + 1 * j.val = j.val; rw [e3]; omega

theorem block_3 (G : Vec F S8192x1024 .f32) (a : Fin 512) (d : Fin 128) :
    ((cfg0.win 3).blk t).view.read (Elt F) G (ix2 a d) = G (ix2 (rowOf (tileAt t) a) (col (headAt t) d)) := by
  rw [View.read_apply]
  refine congrArg G (funext fun x => Fin.ext ?_)
  obtain ⟨e0, e1⟩ := place_3 t
  match x with
  | ⟨0, _⟩ => show win0_3.index t 0 * 512 + 1 * a.val = 512 * (t.val % 16) + a.val; rw [e0]; omega
  | ⟨1, _⟩ => show win0_3.index t 1 * 128 + 1 * d.val = 128 * (t.val / 16) + d.val; rw [e1]; omega

theorem block_4 (G : Vec F S8x2x1x4096 .f32) (a : Fin 512) :
    ((cfg0.win 4).blk t).view.read (Elt F) G (ix4 0 0 0 a) = G (ix4 (headAt t) (runAt (tileAt t)) 0 (spotAt (tileAt t) a)) := by
  rw [View.read_apply]
  refine congrArg G (funext fun x => Fin.ext ?_)
  obtain ⟨e0, e1, e2, e3⟩ := place_4 t
  match x with
  | ⟨0, _⟩ => show win0_4.index t 0 * 1 + 1 * 0 = t.val / 16; rw [e0]; omega
  | ⟨1, _⟩ => show win0_4.index t 1 * 1 + 1 * 0 = t.val % 16 / 8; rw [e1]; omega
  | ⟨2, _⟩ => show win0_4.index t 2 * 1 + 1 * 0 = 0; rw [e2]
  | ⟨3, _⟩ => show win0_4.index t 3 * 512 + 1 * a.val = 512 * (t.val % 16 % 8) + a.val; rw [e3]; omega

end Reads

theorem iblk_0 (t : Fin cfg0.N) : iblk m c 0 t = ((cfg0.win 0).blk t).view.read (Elt Ideal) (queries m c) := by unfold iblk queries; rfl
theorem iblk_1 (t : Fin cfg0.N) : iblk m c 1 t = ((cfg0.win 1).blk t).view.read (Elt Ideal) (keys m c) := by unfold iblk keys; rfl
theorem iblk_2 (t : Fin cfg0.N) : iblk m c 2 t = ((cfg0.win 2).blk t).view.read (Elt Ideal) (values m c) := by unfold iblk values; rfl

theorem headOf_col (h : Fin 8) (d : Fin 128) : headOf (col h d) = h := Fin.ext (by show (128 * h.val + d.val) / 128 = h.val; omega)
theorem dimOf_col (h : Fin 8) (d : Fin 128) : dimOf (col h d) = d := Fin.ext (by show (128 * h.val + d.val) % 128 = d.val; omega)

section
variable {m c} {A : Args} (H : Scores A (argQ m c) (argK m c))
include H

theorem blocks_of (t : Fin cfg0.N) : Blocks A (argV m c) (headAt t) (tileAt t) (iblk m c 0 t) (iblk m c 1 t) (iblk m c 2 t) where
  q a d := (congrFun (iblk_0 m c t) (ix3 0 a d)).trans ((block_0 (F := Ideal) t (queries m c) a d).trans (queries_at_head H _ _ _))
  k j d := (congrFun (iblk_1 m c t) (ix3 0 j d)).trans ((block_1 (F := Ideal) t (keys m c) j d).trans (keys_at_head H _ _ _))
  v d j := (congrFun (iblk_2 m c t) (ix4 0 0 d j)).trans ((block_2 (F := Ideal) t (values m c) d j).trans (values_at_head m c _ _ _))
  top i := top_fold H _ _

theorem flushed_3 (t : Fin cfg0.N) :
    (dats m 0 c).flushed 3 t = ((cfg0.win 3).blk t).view.read (Elt Ideal) (attended A (argV m c)) := by
  rw [Value.flushed3]
  refine funext fun (y : S512x128.Idx) => ?_
  obtain ⟨a, d, rfl⟩ : ∃ a d, y = ix2 a d := ⟨y 0, y 1, funext fun x => Fin.ext (match x with
    | ⟨0, _⟩ => rfl
    | ⟨1, _⟩ => rfl)⟩
  refine Eq.trans ?_ (block_3 (F := Ideal) t (attended A (argV m c)) a d).symm
  refine (out_3_eq (blocks_of H t) a d).trans ?_
  show _ = ∑ j : Fin 8192, argV m c (ix3 j (headOf (col (headAt t) d)) (dimOf (col (headAt t) d)))
    * ((A.w (headOf (col (headAt t) d)) (rowOf (tileAt t) a) j : ℝ) : EReal)
  rw [headOf_col, dimOf_col]

theorem flushed_4 (t : Fin cfg0.N) :
    (dats m 0 c).flushed 4 t = ((cfg0.win 4).blk t).view.read (Elt Ideal) (logSum A) := by
  rw [Value.flushed4]
  refine funext fun (y : S1x1x1x512.Idx) => ?_
  obtain ⟨a, rfl⟩ : ∃ a, y = ix4 0 0 0 a := ⟨y 3, funext fun x => Fin.ext (match x with
    | ⟨0, _⟩ => Nat.lt_one_iff.mp (y 0).isLt
    | ⟨1, _⟩ => Nat.lt_one_iff.mp (y 1).isLt
    | ⟨2, _⟩ => Nat.lt_one_iff.mp (y 2).isLt
    | ⟨3, _⟩ => rfl)⟩
  refine Eq.trans ?_ (block_4 (F := Ideal) t (logSum A) a).symm
  refine (out_4_eq (blocks_of H t) a).trans ?_
  show _ = (((A.top (headAt t) (rowIn (runAt (tileAt t)) (spotAt (tileAt t) a))
    + Real.log (A.tot (headAt t) (rowIn (runAt (tileAt t)) (spotAt (tileAt t) a)))) / Real.log 2 : ℝ) : EReal)
  rw [rowIn_spot]

/-- The first result after the run. -/
theorem final_3 : (dats m 0 c).arrAt 3 cfg0.N = attended A (argV m c) :=
  (dats m 0 c).arrAt_eq_of_cover 3 (attended A (argV m c)) (fun t _ => flushed_3 H t) fun i => by
    have h0 : (i 0 : Nat) < 8192 := (i 0).isLt
    have h1 : (i 1 : Nat) < 1024 := (i 1).isLt
    let t : Fin cfg0.N := ⟨(i 1 : Nat) / 128 * 16 + (i 0 : Nat) / 512, lt_of_lt_of_eq (by omega : _ < 128) N_0.symm⟩
    refine ⟨t, flush0_3 t, ?_⟩
    show i ∈ ((View.whole main_v13_0).slice (win0_3.rect t)).set
    rw [View.set_slice_whole, Rect.mem_set_unit]
    obtain ⟨e0, e1⟩ := place_3 t
    have ht : t.val = (i 1 : Nat) / 128 * 16 + (i 0 : Nat) / 512 := rfl
    intro a
    match a with
    | ⟨0, _⟩ => show win0_3.index t 0 * 512 ≤ (i 0 : Nat) ∧ (i 0 : Nat) < win0_3.index t 0 * 512 + 512; rw [e0]; omega
    | ⟨1, _⟩ => show win0_3.index t 1 * 128 ≤ (i 1 : Nat) ∧ (i 1 : Nat) < win0_3.index t 1 * 128 + 128; rw [e1]; omega

/-- The second result after the run. -/
theorem final_4 : (dats m 0 c).arrAt 4 cfg0.N = logSum A :=
  (dats m 0 c).arrAt_eq_of_cover 4 (logSum A) (fun t _ => flushed_4 H t) fun i => by
    have h0 : (i 0 : Nat) < 8 := (i 0).isLt
    have h1 : (i 1 : Nat) < 2 := (i 1).isLt
    have h2 : (i 2 : Nat) < 1 := (i 2).isLt
    have h3 : (i 3 : Nat) < 4096 := (i 3).isLt
    let t : Fin cfg0.N := ⟨(i 0 : Nat) * 16 + ((i 1 : Nat) * 8 + (i 3 : Nat) / 512), lt_of_lt_of_eq (by omega : _ < 128) N_0.symm⟩
    refine ⟨t, flush0_4 t, ?_⟩
    show i ∈ ((View.whole main_v13_1).slice (win0_4.rect t)).set
    rw [View.set_slice_whole, Rect.mem_set_unit]
    obtain ⟨e0, e1, e2, e3⟩ := place_4 t
    have ht : t.val = (i 0 : Nat) * 16 + ((i 1 : Nat) * 8 + (i 3 : Nat) / 512) := rfl
    intro a
    match a with
    | ⟨0, _⟩ => show win0_4.index t 0 * 1 ≤ (i 0 : Nat) ∧ (i 0 : Nat) < win0_4.index t 0 * 1 + 1; rw [e0]; omega
    | ⟨1, _⟩ => show win0_4.index t 1 * 1 ≤ (i 1 : Nat) ∧ (i 1 : Nat) < win0_4.index t 1 * 1 + 1; rw [e1]; omega
    | ⟨2, _⟩ => show win0_4.index t 2 * 1 ≤ (i 2 : Nat) ∧ (i 2 : Nat) < win0_4.index t 2 * 1 + 1; rw [e2]; omega
    | ⟨3, _⟩ => show win0_4.index t 3 * 512 ≤ (i 3 : Nat) ∧ (i 3 : Nat) < win0_4.index t 3 * 512 + 512; rw [e3]; omega

end

end Cert.Kernel8Ideal.Attention

end
-- ==== Proof.Norm.lean ====
/-
  A ROW'S NORM. The calls and the reference divide a row by the root of its mean square plus a small number, and scale it
  by the gains; both are read here at one place of the row.
-/
module

public import Idealize.ShloMosaic.Lib.Pipeline.Value
public import Idealize.ShloMosaic.Lib.ValueIdx
public import Idealize.ShloMosaic.PureOps.Ideal.Laws

@[expose] public section

set_option maxRecDepth 16384

noncomputable section

namespace Cert.Norm

open Idealize.ShloMosaic Idealize.ShloMosaic.ValueIdx

/-- One over the root of the row's mean square plus the small number. -/
def scale (x : Fin 2048 → EReal) : EReal :=
  Ideal.rsqrt (Ideal.div (∑ k, x k * x k) (Ideal.ofBits .f32 0x45000000#32) + Ideal.ofBits .f32 0x358637BD#32)

/-- The row scaled, times the gains. -/
def normed (x g : Fin 2048 → EReal) (k : Fin 2048) : EReal := x k * scale x * g k

section Rows

variable {R : ℕ}

theorem column_of (y : FVec Ideal ⟨1, ![R]⟩ .f32) (h : Shape.ShapeCasts ⟨1, ![R]⟩ ⟨2, ![R, 1]⟩) (a : Fin R) :
    shapeCast ⟨2, ![R, 1]⟩ y h (ix2 a 0) = y (ix1 a) :=
  shapeCast_apply _ _ (ix2 a 0) (ix1 a) (by rw [Shape.rowMajor_val_two, Shape.rowMajor_val_one]; simp; rfl)

theorem sum_row (y : FVec Ideal ⟨2, ![R, 2048]⟩ .f32) (hr : Shape.Reduces ⟨2, ![R, 2048]⟩ [1] ⟨1, ![R]⟩)
    (h : Shape.ShapeCasts ⟨1, ![R]⟩ ⟨2, ![R, 1]⟩) (a : Fin R) :
    shapeCast ⟨2, ![R, 1]⟩ (multiReduction .add [1] ⟨1, ![R]⟩ y 0x00000000#32 hr (.inl rfl) rfl) h (ix2 a 0) = ∑ k : Fin 2048, y (ix2 a k) := by
  refine (column_of _ h a).trans ((Ideal.multiReduction_add_single y _ hr (.inl rfl) rfl (ix1 a)).trans ?_)
  refine Finset.sum_congr rfl fun (k : Fin 2048) _ => congrArg y (funext fun x => Fin.ext ?_)
  match x with
  | ⟨0, _⟩ => rfl
  | ⟨1, _⟩ => rfl

theorem spread_column (y : FVec Ideal ⟨2, ![R, 1]⟩ .f32) (h : Shape.Broadcasts ⟨2, ![R, 1]⟩ ⟨2, ![R, 2048]⟩) (a : Fin R) (k : Fin 2048) :
    broadcastTo ⟨2, ![R, 2048]⟩ y h (ix2 a k) = y (ix2 a 0) :=
  broadcastTo_apply _ h (ix2 a k) (ix2 a 0) (fun x => match x with
    | ⟨0, _⟩ => by
      show a.val = if R = 1 then 0 else a.val
      have := a.isLt
      split_ifs <;> omega
    | ⟨1, _⟩ => by show 0 = if (1 : Nat) = 1 then 0 else _; rw [if_pos rfl])

theorem spread_gain (y : FVec Ideal ⟨2, ![1, 2048]⟩ .f32) (h : Shape.Broadcasts ⟨2, ![1, 2048]⟩ ⟨2, ![R, 2048]⟩) (a : Fin R) (k : Fin 2048) :
    broadcastTo ⟨2, ![R, 2048]⟩ y h (ix2 a k) = y (ix2 0 k) :=
  broadcastTo_apply _ h (ix2 a k) (ix2 0 k) (fun x => match x with
    | ⟨0, _⟩ => by show 0 = if (1 : Nat) = 1 then 0 else _; rw [if_pos rfl]
    | ⟨1, _⟩ => by show k.val = if (2048 : Nat) = 1 then 0 else k.val; rw [if_neg (by decide)])

/-- The column of the rows' scales, as a call's body computes it. -/
theorem scale_of (x : FVec Ideal ⟨2, ![R, 2048]⟩ .f32) (hr : Shape.Reduces ⟨2, ![R, 2048]⟩ [1] ⟨1, ![R]⟩)
    (h : Shape.ShapeCasts ⟨1, ![R]⟩ ⟨2, ![R, 1]⟩) (a : Fin R) :
    rsqrt (addf (divf (shapeCast ⟨2, ![R, 1]⟩ (multiReduction .add [1] ⟨1, ![R]⟩ (mulf x x) 0x00000000#32 hr (.inl rfl) rfl) h)
        (broadcast ⟨2, ![R, 1]⟩ (Scalar.ofBits (F := Ideal) .f32 0x45000000#32))) (broadcast ⟨2, ![R, 1]⟩ (Scalar.ofBits (F := Ideal) .f32 0x358637BD#32))) (ix2 a 0)
      = scale fun k => x (ix2 a k) := by
  unfold scale
  refine congrArg (fun y : EReal => Ideal.rsqrt (Ideal.div y (Ideal.ofBits .f32 0x45000000#32) + Ideal.ofBits .f32 0x358637BD#32)) ?_
  exact sum_row (mulf x x) hr h a

/-- The rows' norm, as a call's body computes it. -/
theorem normed_of (x : FVec Ideal ⟨2, ![R, 2048]⟩ .f32) (g : FVec Ideal ⟨2, ![1, 2048]⟩ .f32) (hr : Shape.Reduces ⟨2, ![R, 2048]⟩ [1] ⟨1, ![R]⟩)
    (h : Shape.ShapeCasts ⟨1, ![R]⟩ ⟨2, ![R, 1]⟩) (hs : Shape.Broadcasts ⟨2, ![R, 1]⟩ ⟨2, ![R, 2048]⟩)
    (hg : Shape.Broadcasts ⟨2, ![1, 2048]⟩ ⟨2, ![R, 2048]⟩) (a : Fin R) (k : Fin 2048) :
    mulf (mulf x (broadcastTo ⟨2, ![R, 2048]⟩ (rsqrt (addf (divf (shapeCast ⟨2, ![R, 1]⟩ (multiReduction .add [1] ⟨1, ![R]⟩ (mulf x x) 0x00000000#32 hr (.inl rfl) rfl) h)
        (broadcast ⟨2, ![R, 1]⟩ (Scalar.ofBits (F := Ideal) .f32 0x45000000#32))) (broadcast ⟨2, ![R, 1]⟩ (Scalar.ofBits (F := Ideal) .f32 0x358637BD#32)))) hs))
        (broadcastTo ⟨2, ![R, 2048]⟩ g hg) (ix2 a k)
      = normed (fun k => x (ix2 a k)) (fun k => g (ix2 0 k)) k :=
  congrArg₂ (fun p q : EReal => x (ix2 a k) * p * q) ((spread_column _ hs a k).trans (scale_of x hr h a)) (spread_gain g hg a k)

end Rows

end Cert.Norm

end
-- ==== Proof.Embedding.lean ====
/-
  THE PER-LAYER EMBEDDING GOING FORWARD. Each of the sixteen points of the launch takes 512 rows of the stream: it norms
  them, takes the gate's product and its logistic, the embedding's projection, and adds their product to the rows.
-/
module

public import proofs.«01_k».proof.Proof.Norm
public import proofs.«01_k».proof.Proof.Tile
public import proofs.«01_k».proof.Proof.Reference
public import proofs.«01_k».proof.Proof.Gen.Kernel11Ideal.Value
public import proofs.«01_k».proof.Proof.Gen.Reference11Ideal.Read
public import Idealize.ShloMosaic.Lib.Pipeline.ValueKit.Acc
public import Idealize.ShloMosaic.Lib.Pipeline.ReadBack

@[expose] public section

set_option maxRecDepth 16384

noncomputable section

namespace Cert.Kernel11Ideal.Embedding

open Cert.Kernel11Ideal Cert.Kernel11Ideal.Gen Idealize.ShloMosaic Idealize.ShloMosaic.TcCoe Idealize.ShloMosaic.ValueIdx
open Idealize.SL.Sem
open Cert.KernelIdeal.Attention (mm_nn)
open Cert.Norm (normed normed_of)
open Idealize.ShloMosaic.Pipeline (Dat)

variable (m : (ℓ : Loc nD τ sig) → Buf (Elt Ideal) ℓ) (c : Dev nD)

/-- The rows' norm at a place. -/
theorem pay1_apply (x : Vec Ideal S512x2048 .f32) (g : Vec Ideal S1x2048 .f32) (a : Fin 512) (k : Fin 2048) :
    k0_pay1 x g (ix2 a k) = normed (fun k => x (ix2 a k)) (fun k => g (ix2 0 k)) k := by
  unfold k0_pay1
  rw [shapeCast_self]
  exact normed_of x g reduces_S512x2048_S512 shapeCasts_S512_S512x1 broadcasts_S512x1_S512x2048 broadcasts_S1x2048_S512x2048 a k

theorem pay2_apply (x : Vec Ideal S512x2048 .bf16) (w : Vec Ideal S2048x2048 .bf16) (a : Fin 512) (b : Fin 2048) :
    k0_pay2 x w (ix2 a b) = Ideal.logistic (∑ k : Fin 2048, x (ix2 a k) * w (ix2 k b)) := by
  unfold k0_pay2
  rw [shapeCast_self, shapeCast_self]
  exact congrArg Ideal.logistic (mm_nn x w a b)

theorem pay3_apply (x : Vec Ideal S512x256 .f32) (w : Vec Ideal S256x2048 .bf16) (a : Fin 512) (b : Fin 2048) :
    k0_pay3 x w (ix2 a b) = ∑ k : Fin 256, x (ix2 a k) * w (ix2 k b) := by
  unfold k0_pay3
  rw [shapeCast_self]
  exact mm_nn (φ₁ := .bf16) (truncf .bf16 x bitsLt_bf16_f32) w a b

theorem off_zero (t : Fin cfg0.N) : k0_off1 (grid0.coords t) = fun _ => 0 := by
  have h : ∀ t : Fin grid0.N, k0_off1 (grid0.coords t) = fun _ => 0 := by decide +kernel
  exact h t

/-! ## What the body leaves -/

section Points

variable (t : Fin cfg0.N)

theorem outs_5 : (outsAt0 m c t).1
    = k0_pay4 (k0_pay1 (iblk m c 0 t) (iblk m c 1 t)) (iblk m c 3 t) (iblk m c 2 t) (iblk m c 4 t) (iblk m c 0 t) := by
  unfold outsAt0
  dsimp only
  frame_out
  exact congrArg (k0_pay4 (k0_pay1 (iblk m c 0 t) (iblk m c 1 t)) (iblk m c 3 t) (iblk m c 2 t) (iblk m c 4 t)) (View.ld_unit_zero (off_zero t) _ _)

theorem outs_6 : (outsAt0 m c t).2.1 = k0_pay1 (iblk m c 0 t) (iblk m c 1 t) := by
  unfold outsAt0
  dsimp only
  frame_out

theorem outs_7 : (outsAt0 m c t).2.2.1 = k0_pay5 (k0_pay1 (iblk m c 0 t) (iblk m c 1 t)) (iblk m c 3 t) := by
  unfold outsAt0
  dsimp only
  frame_out

theorem outs_8 : (outsAt0 m c t).2.2.2 = k0_pay6 (iblk m c 2 t) (iblk m c 4 t) := by
  unfold outsAt0
  dsimp only
  frame_out

end Points

/-! ## The arrays the kernel reads -/

/-- The stream, the gains, the embedding, and the gate's and the projection's weights in the initial memory. -/
abbrev argH : FVec Ideal S8192x2048 .f32 := m ((c.tc : Thread nD τ).loc main_arg0)
abbrev argG : FVec Ideal S2048 .f32 := m ((c.tc : Thread nD τ).loc main_arg1)
abbrev argP : FVec Ideal S8192x256 .f32 := m ((c.tc : Thread nD τ).loc main_arg2)
abbrev argGate : FVec Ideal S2048x2048 .f32 := m ((c.tc : Thread nD τ).loc main_arg3)
abbrev argProj : FVec Ideal S256x2048 .f32 := m ((c.tc : Thread nD τ).loc main_arg4)

def at0 : FVec Ideal S8192x2048 .f32 := V m c main_arg0
def at1 : FVec Ideal S1x2048 .f32 := V m c main_v0
def at2 : FVec Ideal S8192x256 .f32 := V m c main_arg2
def at3 : FVec Ideal S2048x2048 .bf16 := V m c main_v1
def at4 : FVec Ideal S256x2048 .bf16 := V m c main_v2

theorem at0_eq : at0 m c = argH m c := by
  unfold at0 V
  after_results_simp <;> rfl

theorem at1_eq : at1 m c = broadcastInDim S1x2048 ![1] bcast_S2048_S1x2048_1 (argG m c) := by
  unfold at1 V
  after_results_simp <;> rfl

theorem at2_eq : at2 m c = argP m c := by
  unfold at2 V
  after_results_simp <;> rfl

theorem at3_eq : at3 m c = truncf .bf16 (argGate m c) bitsLt_bf16_f32 := by
  unfold at3 V
  after_results_simp <;> rfl

theorem at4_eq : at4 m c = truncf .bf16 (argProj m c) bitsLt_bf16_f32 := by
  unfold at4 V
  after_results_simp <;> rfl

theorem at1_apply (k : Fin 2048) : at1 m c (ix2 0 k) = argG m c (ix1 k) :=
  (congrFun (at1_eq m c) (ix2 0 k)).trans (broadcastInDim_apply _ bcast_S2048_S1x2048_1 (argG m c) (ix2 0 k) (ix1 k) (fun a => match a with
    | ⟨0, _⟩ => by show k.val = if (2048 : Nat) = 1 then 0 else k.val; rw [if_neg (by decide)]))

/-! ## The blocks -/

theorem place_0 (t : Fin cfg0.N) : win0_0.index t 0 = t.val ∧ win0_0.index t 1 = 0 := by
  have h : ∀ t : Fin grid0.N, win0_0.index t 0 = t.val ∧ win0_0.index t 1 = 0 := by decide +kernel
  exact h t
theorem place_1 (t : Fin cfg0.N) : win0_1.index t 0 = 0 ∧ win0_1.index t 1 = 0 := by
  have h : ∀ t : Fin grid0.N, win0_1.index t 0 = 0 ∧ win0_1.index t 1 = 0 := by decide +kernel
  exact h t
theorem place_2 (t : Fin cfg0.N) : win0_2.index t 0 = t.val ∧ win0_2.index t 1 = 0 := by
  have h : ∀ t : Fin grid0.N, win0_2.index t 0 = t.val ∧ win0_2.index t 1 = 0 := by decide +kernel
  exact h t
theorem place_3 (t : Fin cfg0.N) : win0_3.index t 0 = 0 ∧ win0_3.index t 1 = 0 := by
  have h : ∀ t : Fin grid0.N, win0_3.index t 0 = 0 ∧ win0_3.index t 1 = 0 := by decide +kernel
  exact h t
theorem place_4 (t : Fin cfg0.N) : win0_4.index t 0 = 0 ∧ win0_4.index t 1 = 0 := by
  have h : ∀ t : Fin grid0.N, win0_4.index t 0 = 0 ∧ win0_4.index t 1 = 0 := by decide +kernel
  exact h t
theorem place_5 (t : Fin cfg0.N) : win0_5.index t 0 = t.val ∧ win0_5.index t 1 = 0 := by
  have h : ∀ t : Fin grid0.N, win0_5.index t 0 = t.val ∧ win0_5.index t 1 = 0 := by decide +kernel
  exact h t
theorem place_6 (t : Fin cfg0.N) : win0_6.index t 0 = t.val ∧ win0_6.index t 1 = 0 := by
  have h : ∀ t : Fin grid0.N, win0_6.index t 0 = t.val ∧ win0_6.index t 1 = 0 := by decide +kernel
  exact h t
theorem place_7 (t : Fin cfg0.N) : win0_7.index t 0 = t.val ∧ win0_7.index t 1 = 0 := by
  have h : ∀ t : Fin grid0.N, win0_7.index t 0 = t.val ∧ win0_7.index t 1 = 0 := by decide +kernel
  exact h t
theorem place_8 (t : Fin cfg0.N) : win0_8.index t 0 = t.val ∧ win0_8.index t 1 = 0 := by
  have h : ∀ t : Fin grid0.N, win0_8.index t 0 = t.val ∧ win0_8.index t 1 = 0 := by decide +kernel
  exact h t

/-- The row of the arrays a point's block holds at a place. -/
def rowOf (t : Fin cfg0.N) (a : Fin 512) : Fin 8192 := ⟨512 * t.val + a.val, by
  have : t.val < 16 := lt_of_lt_of_eq t.isLt N_0
  omega⟩

section Reads

variable (t : Fin cfg0.N)

theorem block_0 (G : Vec Ideal S8192x2048 .f32) (a : Fin 512) (j : Fin 2048) :
    ((cfg0.win 0).blk t).view.read (Elt Ideal) G (ix2 a j) = G (ix2 (rowOf t a) j) := by
  rw [View.read_apply]
  refine congrArg G (funext fun x => Fin.ext ?_)
  obtain ⟨e0, e1⟩ := place_0 t
  match x with
  | ⟨0, _⟩ => show win0_0.index t 0 * 512 + 1 * a.val = 512 * t.val + a.val; rw [e0]; omega
  | ⟨1, _⟩ => show win0_0.index t 1 * 2048 + 1 * j.val = j.val; rw [e1]; omega

theorem block_1 (G : Vec Ideal S1x2048 .f32) (a : Fin 1) (j : Fin 2048) :
    ((cfg0.win 1).blk t).view.read (Elt Ideal) G (ix2 a j) = G (ix2 a j) := by
  rw [View.read_apply]
  refine congrArg G (funext fun x => Fin.ext ?_)
  obtain ⟨e0, e1⟩ := place_1 t
  match x with
  | ⟨0, _⟩ => show win0_1.index t 0 * 1 + 1 * a.val = a.val; rw [e0]; omega
  | ⟨1, _⟩ => show win0_1.index t 1 * 2048 + 1 * j.val = j.val; rw [e1]; omega

theorem block_2 (G : Vec Ideal S8192x256 .f32) (a : Fin 512) (j : Fin 256) :
    ((cfg0.win 2).blk t).view.read (Elt Ideal) G (ix2 a j) = G (ix2 (rowOf t a) j) := by
  rw [View.read_apply]
  refine congrArg G (funext fun x => Fin.ext ?_)
  obtain ⟨e0, e1⟩ := place_2 t
  match x with
  | ⟨0, _⟩ => show win0_2.index t 0 * 512 + 1 * a.val = 512 * t.val + a.val; rw [e0]; omega
  | ⟨1, _⟩ => show win0_2.index t 1 * 256 + 1 * j.val = j.val; rw [e1]; omega

theorem block_3 (G : Vec Ideal S2048x2048 .bf16) (a : Fin 2048) (j : Fin 2048) :
    ((cfg0.win 3).blk t).view.read (Elt Ideal) G (ix2 a j) = G (ix2 a j) := by
  rw [View.read_apply]
  refine congrArg G (funext fun x => Fin.ext ?_)
  obtain ⟨e0, e1⟩ := place_3 t
  match x with
  | ⟨0, _⟩ => show win0_3.index t 0 * 2048 + 1 * a.val = a.val; rw [e0]; omega
  | ⟨1, _⟩ => show win0_3.index t 1 * 2048 + 1 * j.val = j.val; rw [e1]; omega

theorem block_4 (G : Vec Ideal S256x2048 .bf16) (a : Fin 256) (j : Fin 2048) :
    ((cfg0.win 4).blk t).view.read (Elt Ideal) G (ix2 a j) = G (ix2 a j) := by
  rw [View.read_apply]
  refine congrArg G (funext fun x => Fin.ext ?_)
  obtain ⟨e0, e1⟩ := place_4 t
  match x with
  | ⟨0, _⟩ => show win0_4.index t 0 * 256 + 1 * a.val = a.val; rw [e0]; omega
  | ⟨1, _⟩ => show win0_4.index t 1 * 2048 + 1 * j.val = j.val; rw [e1]; omega

theorem block_5 (G : Vec Ideal S8192x2048 .f32) (a : Fin 512) (j : Fin 2048) :
    ((cfg0.win 5).blk t).view.read (Elt Ideal) G (ix2 a j) = G (ix2 (rowOf t a) j) := by
  rw [View.read_apply]
  refine congrArg G (funext fun x => Fin.ext ?_)
  obtain ⟨e0, e1⟩ := place_5 t
  match x with
  | ⟨0, _⟩ => show win0_5.index t 0 * 512 + 1 * a.val = 512 * t.val + a.val; rw [e0]; omega
  | ⟨1, _⟩ => show win0_5.index t 1 * 2048 + 1 * j.val = j.val; rw [e1]; omega

theorem block_6 (G : Vec Ideal S8192x2048 .bf16) (a : Fin 512) (j : Fin 2048) :
    ((cfg0.win 6).blk t).view.read (Elt Ideal) G (ix2 a j) = G (ix2 (rowOf t a) j) := by
  rw [View.read_apply]
  refine congrArg G (funext fun x => Fin.ext ?_)
  obtain ⟨e0, e1⟩ := place_6 t
  match x with
  | ⟨0, _⟩ => show win0_6.index t 0 * 512 + 1 * a.val = 512 * t.val + a.val; rw [e0]; omega
  | ⟨1, _⟩ => show win0_6.index t 1 * 2048 + 1 * j.val = j.val; rw [e1]; omega

theorem block_7 (G : Vec Ideal S8192x2048 .bf16) (a : Fin 512) (j : Fin 2048) :
    ((cfg0.win 7).blk t).view.read (Elt Ideal) G (ix2 a j) = G (ix2 (rowOf t a) j) := by
  rw [View.read_apply]
  refine congrArg G (funext fun x => Fin.ext ?_)
  obtain ⟨e0, e1⟩ := place_7 t
  match x with
  | ⟨0, _⟩ => show win0_7.index t 0 * 512 + 1 * a.val = 512 * t.val + a.val; rw [e0]; omega
  | ⟨1, _⟩ => show win0_7.index t 1 * 2048 + 1 * j.val = j.val; rw [e1]; omega

theorem block_8 (G : Vec Ideal S8192x2048 .bf16) (a : Fin 512) (j : Fin 2048) :
    ((cfg0.win 8).blk t).view.read (Elt Ideal) G (ix2 a j) = G (ix2 (rowOf t a) j) := by
  rw [View.read_apply]
  refine congrArg G (funext fun x => Fin.ext ?_)
  obtain ⟨e0, e1⟩ := place_8 t
  match x with
  | ⟨0, _⟩ => show win0_8.index t 0 * 512 + 1 * a.val = 512 * t.val + a.val; rw [e0]; omega
  | ⟨1, _⟩ => show win0_8.index t 1 * 2048 + 1 * j.val = j.val; rw [e1]; omega

end Reads

/-! ## The results -/

theorem iblk_0 (t : Fin cfg0.N) : iblk m c 0 t = ((cfg0.win 0).blk t).view.read (Elt Ideal) (at0 m c) := by unfold iblk at0; rfl
theorem iblk_1 (t : Fin cfg0.N) : iblk m c 1 t = ((cfg0.win 1).blk t).view.read (Elt Ideal) (at1 m c) := by unfold iblk at1; rfl
theorem iblk_2 (t : Fin cfg0.N) : iblk m c 2 t = ((cfg0.win 2).blk t).view.read (Elt Ideal) (at2 m c) := by unfold iblk at2; rfl
theorem iblk_3 (t : Fin cfg0.N) : iblk m c 3 t = ((cfg0.win 3).blk t).view.read (Elt Ideal) (at3 m c) := by unfold iblk at3; rfl
theorem iblk_4 (t : Fin cfg0.N) : iblk m c 4 t = ((cfg0.win 4).blk t).view.read (Elt Ideal) (at4 m c) := by unfold iblk at4; rfl

theorem rows_0 (t : Fin cfg0.N) (a : Fin 512) (k : Fin 2048) : iblk m c 0 t (ix2 a k) = argH m c (ix2 (rowOf t a) k) :=
  (congrFun (iblk_0 m c t) (ix2 a k)).trans ((block_0 t (at0 m c) a k).trans (congrFun (at0_eq m c) _))
theorem rows_1 (t : Fin cfg0.N) (k : Fin 2048) : iblk m c 1 t (ix2 0 k) = argG m c (ix1 k) :=
  (congrFun (iblk_1 m c t) (ix2 0 k)).trans ((block_1 t (at1 m c) 0 k).trans (at1_apply m c k))
theorem rows_2 (t : Fin cfg0.N) (a : Fin 512) (k : Fin 256) : iblk m c 2 t (ix2 a k) = argP m c (ix2 (rowOf t a) k) :=
  (congrFun (iblk_2 m c t) (ix2 a k)).trans ((block_2 t (at2 m c) a k).trans (congrFun (at2_eq m c) _))
theorem rows_3 (t : Fin cfg0.N) (k j : Fin 2048) : iblk m c 3 t (ix2 k j) = argGate m c (ix2 k j) :=
  (congrFun (iblk_3 m c t) (ix2 k j)).trans ((block_3 t (at3 m c) k j).trans (congrFun (at3_eq m c) _))
theorem rows_4 (t : Fin cfg0.N) (k : Fin 256) (j : Fin 2048) : iblk m c 4 t (ix2 k j) = argProj m c (ix2 k j) :=
  (congrFun (iblk_4 m c t) (ix2 k j)).trans ((block_4 t (at4 m c) k j).trans (congrFun (at4_eq m c) _))

/-- The stream's norm. -/
def norms (h : FVec Ideal S8192x2048 .f32) (g : FVec Ideal S2048 .f32) : FVec Ideal S8192x2048 .bf16 :=
  fun i => normed (fun k => h (ix2 (i 0) k)) (fun k => g (ix1 k)) (i 1)

/-- The gate. -/
def gates (h : FVec Ideal S8192x2048 .f32) (g : FVec Ideal S2048 .f32) (w : FVec Ideal S2048x2048 .f32) : FVec Ideal S8192x2048 .bf16 :=
  fun i => Ideal.logistic (∑ k : Fin 2048, normed (fun k => h (ix2 (i 0) k)) (fun k => g (ix1 k)) k * w (ix2 k (i 1)))

/-- The embedding's projection. -/
def projections (p : FVec Ideal S8192x256 .f32) (w : FVec Ideal S256x2048 .f32) : FVec Ideal S8192x2048 .bf16 :=
  fun i => ∑ k : Fin 256, p (ix2 (i 0) k) * w (ix2 k (i 1))

/-- The stream after the embedding. -/
def streamed (h : FVec Ideal S8192x2048 .f32) (g : FVec Ideal S2048 .f32) (p : FVec Ideal S8192x256 .f32) (wg : FVec Ideal S2048x2048 .f32)
    (wp : FVec Ideal S256x2048 .f32) : FVec Ideal S8192x2048 .f32 :=
  fun i => h i + gates h g wg i * projections p wp i

section Places

variable (t : Fin cfg0.N) (a : Fin 512) (b : Fin 2048)

theorem norm_at : k0_pay1 (iblk m c 0 t) (iblk m c 1 t) (ix2 a b) = norms (argH m c) (argG m c) (ix2 (rowOf t a) b) :=
  (pay1_apply (iblk m c 0 t) (iblk m c 1 t) a b).trans
    (congrArg₂ (fun x g => normed x g b) (funext fun k => rows_0 m c t a k) (funext fun k => rows_1 m c t k))

theorem gate_at : k0_pay2 (k0_pay1 (iblk m c 0 t) (iblk m c 1 t)) (iblk m c 3 t) (ix2 a b)
    = gates (argH m c) (argG m c) (argGate m c) (ix2 (rowOf t a) b) :=
  (pay2_apply (k0_pay1 (iblk m c 0 t) (iblk m c 1 t)) (iblk m c 3 t) a b).trans
    (congrArg Ideal.logistic (Finset.sum_congr rfl fun k _ => congrArg₂ (· * ·) (norm_at m c t a k) (rows_3 m c t k b)))

theorem proj_at : k0_pay3 (iblk m c 2 t) (iblk m c 4 t) (ix2 a b) = projections (argP m c) (argProj m c) (ix2 (rowOf t a) b) :=
  (pay3_apply (iblk m c 2 t) (iblk m c 4 t) a b).trans
    (Finset.sum_congr rfl fun k _ => congrArg₂ (· * ·) (rows_2 m c t a k) (rows_4 m c t k b))

theorem stream_at : k0_pay4 (k0_pay1 (iblk m c 0 t) (iblk m c 1 t)) (iblk m c 3 t) (iblk m c 2 t) (iblk m c 4 t) (iblk m c 0 t) (ix2 a b)
    = streamed (argH m c) (argG m c) (argP m c) (argGate m c) (argProj m c) (ix2 (rowOf t a) b) := by
  unfold k0_pay4
  exact congrArg₂ (fun x y : EReal => x + y) (rows_0 m c t a b) (congrArg₂ (fun x y : EReal => x * y) (gate_at m c t a b) (proj_at m c t a b))

end Places

theorem flushed_5 (t : Fin cfg0.N) :
    (dats m 0 c).flushed 5 t = ((cfg0.win 5).blk t).view.read (Elt Ideal) (streamed (argH m c) (argG m c) (argP m c) (argGate m c) (argProj m c)) := by
  rw [Value.flushed5, outs_5]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (stream_at m c t a b).trans (block_5 t (streamed (argH m c) (argG m c) (argP m c) (argGate m c) (argProj m c)) a b).symm

theorem final_5 : (dats m 0 c).arrAt 5 cfg0.N = streamed (argH m c) (argG m c) (argP m c) (argGate m c) (argProj m c) :=
  (dats m 0 c).arrAt_eq_of_cover 5 (streamed (argH m c) (argG m c) (argP m c) (argGate m c) (argProj m c)) (fun t _ => flushed_5 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_5 t, ?_⟩
    show i ∈ ((View.whole main_v3_0).slice (win0_5.rect t)).set
    rw [View.set_slice_whole, Rect.mem_set_unit]
    obtain ⟨e0, e1⟩ := place_5 t
    have ht : t.val = (i 0 : Nat) / 512 := rfl
    intro a
    match a with
    | ⟨0, _⟩ => show win0_5.index t 0 * 512 ≤ (i 0 : Nat) ∧ (i 0 : Nat) < win0_5.index t 0 * 512 + 512; rw [e0]; omega
    | ⟨1, _⟩ => show win0_5.index t 1 * 2048 ≤ (i 1 : Nat) ∧ (i 1 : Nat) < win0_5.index t 1 * 2048 + 2048; rw [e1]; omega

theorem flushed_6 (t : Fin cfg0.N) :
    (dats m 0 c).flushed 6 t = ((cfg0.win 6).blk t).view.read (Elt Ideal) (norms (argH m c) (argG m c)) := by
  rw [Value.flushed6, outs_6]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (norm_at m c t a b).trans (block_6 t (norms (argH m c) (argG m c)) a b).symm

theorem final_6 : (dats m 0 c).arrAt 6 cfg0.N = norms (argH m c) (argG m c) :=
  (dats m 0 c).arrAt_eq_of_cover 6 (norms (argH m c) (argG m c)) (fun t _ => flushed_6 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_6 t, ?_⟩
    show i ∈ ((View.whole main_v3_1).slice (win0_6.rect t)).set
    rw [View.set_slice_whole, Rect.mem_set_unit]
    obtain ⟨e0, e1⟩ := place_6 t
    have ht : t.val = (i 0 : Nat) / 512 := rfl
    intro a
    match a with
    | ⟨0, _⟩ => show win0_6.index t 0 * 512 ≤ (i 0 : Nat) ∧ (i 0 : Nat) < win0_6.index t 0 * 512 + 512; rw [e0]; omega
    | ⟨1, _⟩ => show win0_6.index t 1 * 2048 ≤ (i 1 : Nat) ∧ (i 1 : Nat) < win0_6.index t 1 * 2048 + 2048; rw [e1]; omega

theorem flushed_7 (t : Fin cfg0.N) :
    (dats m 0 c).flushed 7 t = ((cfg0.win 7).blk t).view.read (Elt Ideal) (gates (argH m c) (argG m c) (argGate m c)) := by
  rw [Value.flushed7, outs_7]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (gate_at m c t a b).trans (block_7 t (gates (argH m c) (argG m c) (argGate m c)) a b).symm

theorem final_7 : (dats m 0 c).arrAt 7 cfg0.N = gates (argH m c) (argG m c) (argGate m c) :=
  (dats m 0 c).arrAt_eq_of_cover 7 (gates (argH m c) (argG m c) (argGate m c)) (fun t _ => flushed_7 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_7 t, ?_⟩
    show i ∈ ((View.whole main_v3_2).slice (win0_7.rect t)).set
    rw [View.set_slice_whole, Rect.mem_set_unit]
    obtain ⟨e0, e1⟩ := place_7 t
    have ht : t.val = (i 0 : Nat) / 512 := rfl
    intro a
    match a with
    | ⟨0, _⟩ => show win0_7.index t 0 * 512 ≤ (i 0 : Nat) ∧ (i 0 : Nat) < win0_7.index t 0 * 512 + 512; rw [e0]; omega
    | ⟨1, _⟩ => show win0_7.index t 1 * 2048 ≤ (i 1 : Nat) ∧ (i 1 : Nat) < win0_7.index t 1 * 2048 + 2048; rw [e1]; omega

theorem flushed_8 (t : Fin cfg0.N) :
    (dats m 0 c).flushed 8 t = ((cfg0.win 8).blk t).view.read (Elt Ideal) (projections (argP m c) (argProj m c)) := by
  rw [Value.flushed8, outs_8]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (proj_at m c t a b).trans (block_8 t (projections (argP m c) (argProj m c)) a b).symm

theorem final_8 : (dats m 0 c).arrAt 8 cfg0.N = projections (argP m c) (argProj m c) :=
  (dats m 0 c).arrAt_eq_of_cover 8 (projections (argP m c) (argProj m c)) (fun t _ => flushed_8 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_8 t, ?_⟩
    show i ∈ ((View.whole main_v3_3).slice (win0_8.rect t)).set
    rw [View.set_slice_whole, Rect.mem_set_unit]
    obtain ⟨e0, e1⟩ := place_8 t
    have ht : t.val = (i 0 : Nat) / 512 := rfl
    intro a
    match a with
    | ⟨0, _⟩ => show win0_8.index t 0 * 512 ≤ (i 0 : Nat) ∧ (i 0 : Nat) < win0_8.index t 0 * 512 + 512; rw [e0]; omega
    | ⟨1, _⟩ => show win0_8.index t 1 * 2048 ≤ (i 1 : Nat) ∧ (i 1 : Nat) < win0_8.index t 1 * 2048 + 2048; rw [e1]; omega

/-! ## The reference's results -/

section Reference

open Cert.Reference11Ideal.Read

variable (h : FVec Ideal S8192x2048 .f32) (g : FVec Ideal S2048 .f32) (p : FVec Ideal S8192x256 .f32) (wg : FVec Ideal S2048x2048 .f32)
  (wp : FVec Ideal S256x2048 .f32)

theorem ref_norm (i : S8192x2048.Idx) : val_main_v12 (F := Ideal) h g i = normed (fun k => h (ix2 (i 0) k)) (fun k => g (ix1 k)) (i 1) := by
  have hs : val_main_v1 (F := Ideal) h (idx_main_v2 (idx_main_v8 i)) = ∑ k : Fin 2048, h (ix2 (i 0) k) * h (ix2 (i 0) k) := by
    rw [val_main_v1_apply]
    refine (congrArg (fun z : EReal => z + _) (show val_main_cst (F := Ideal) (Shape.Idx.first Cert.Reference11Ideal.Gen.h_S_) = (0 : EReal) from Ideal.ofBits_zero_f32)).trans ?_
    rw [zero_add]
    refine Finset.sum_congr rfl fun k _ => ?_
    have e : idx_main_v1 (idx_main_v2 (idx_main_v8 i)) k = ix2 (i 0) k := funext fun a => Fin.ext (match a with
      | ⟨0, _⟩ => rfl
      | ⟨1, _⟩ => rfl)
    exact (congrArg (val_main_v0 (F := Ideal) h) e).trans (val_main_v0_apply (F := Ideal) h _)
  have hr : val_main_v8 (F := Ideal) h i = Cert.Norm.scale fun k => h (ix2 (i 0) k) := by
    rw [val_main_v8_apply, val_main_v7_apply, val_main_v6_apply, val_main_v4_apply, val_main_v2_apply, hs, val_main_v3_apply, val_main_v5_apply]
    rfl
  have hg : val_main_v11 (F := Ideal) g i = g (ix1 (i 1)) := by
    rw [val_main_v11_apply, val_main_v10_apply]
    exact congrArg g (funext fun a => Fin.ext (match a with | ⟨0, _⟩ => rfl))
  rw [val_main_v12_apply, val_main_v9_apply, hr, hg]
  refine congrArg (fun z : EReal => z * _ * _) (congrArg h (funext fun a => Fin.ext ?_))
  match a with
  | ⟨0, _⟩ => rfl
  | ⟨1, _⟩ => rfl

theorem ref_gate (i : S8192x2048.Idx) : val_main_v19 (F := Ideal) h g wg i
    = Ideal.logistic (∑ k : Fin 2048, normed (fun k => h (ix2 (i 0) k)) (fun k => g (ix1 k)) k * wg (ix2 k (i 1))) := by
  have hs : val_main_v13 (F := Ideal) h g wg i = ∑ k : Fin 2048, normed (fun k => h (ix2 (i 0) k)) (fun k => g (ix1 k)) k * wg (ix2 k (i 1)) := by
    rw [val_main_v13_apply]
    refine Finset.sum_congr rfl fun k _ => congrArg₂ (· * ·) (ref_norm h g (lidx_main_v13 i k)) (congrArg wg (funext fun a => Fin.ext ?_))
    match a with
    | ⟨0, _⟩ => rfl
    | ⟨1, _⟩ => rfl
  have h1 : Ideal.ofBits .f32 0x3F800000#32 = (1 : EReal) := Cert.ReferenceIdeal.Attention.one_word.trans EReal.coe_one
  rw [val_main_v19_apply, val_main_v17_apply, val_main_v15_apply, val_main_v14_apply, hs, val_main_v18_apply, val_main_v16_apply]
  exact congrArg₂ (fun p q : EReal => Ideal.div p (q + Ideal.exp (-_))) h1 h1

theorem ref_proj (i : S8192x2048.Idx) : val_main_v20 (F := Ideal) p wp i = projections p wp i := by
  rw [val_main_v20_apply]
  refine Finset.sum_congr rfl fun k _ => congrArg₂ (· * ·) (congrArg p (funext fun a => Fin.ext ?_)) (congrArg wp (funext fun a => Fin.ext ?_))
  · match a with
    | ⟨0, _⟩ => rfl
    | ⟨1, _⟩ => rfl
  · match a with
    | ⟨0, _⟩ => rfl
    | ⟨1, _⟩ => rfl

theorem reference_5 : val_main_v22 (F := Ideal) h g p wg wp = streamed h g p wg wp := funext fun i => by
  rw [val_main_v22_apply, val_main_v21_apply, ref_gate, ref_proj]
  rfl

theorem reference_6 : val_main_v23 (F := Ideal) h g = norms h g := funext fun i => (val_main_v23_apply (F := Ideal) h g i).trans (ref_norm h g i)
theorem reference_7 : val_main_v24 (F := Ideal) h g wg = gates h g wg := funext fun i => (val_main_v24_apply (F := Ideal) h g wg i).trans (ref_gate h g wg i)
theorem reference_8 : val_main_v25 (F := Ideal) p wp = projections p wp := funext fun i => (val_main_v25_apply (F := Ideal) p wp i).trans (ref_proj p wp i)

end Reference

end Cert.Kernel11Ideal.Embedding

end
-- ==== Proof.NormRun.lean ====
/-
  THE RUN OF THE NORM AND THE INPUT PROJECTIONS. A row of nine grid points holds one block of 1024 positions. Its first
  point norms the block and leaves it in the second result's buffer; every point multiplies what stands there by its own
  columns of the weight. So the proof data say that the second result's buffer holds the norm of the row's block at
  each of its points, and the first result's the product; the launch runs to its end with the arguments unchanged and
  the counters at zero, for any reading of the floats.
-/
module

public import proofs.«01_k».proof.Proof.Gen.Kernel9Ideal.Skeleton
public import proofs.«01_k».proof.Proof.Gen.Kernel9Ideal.Frame
public import Idealize.ShloMosaic.Lib.WritesUnit
public import Idealize.ShloMosaic.Lib.ValueIdxCore
public import Idealize.ShloMosaic.Lib.Pipeline.Value
public import Idealize.ShloMosaic.Lib.Pipeline.Frame
public import Idealize.ShloMosaic.Lib.Pipeline.FrameBody
public import Idealize.ShloMosaic.Lib.Pipeline.TableIdle
public import Idealize.ShloMosaic.Lib.Claim

@[expose] public section

set_option maxRecDepth 16384

noncomputable section

namespace Cert.Kernel9Ideal.Projection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel9Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

theorem cond1_iff (i : grid0.Coords) : k0_cond1 i = 1#1 ↔ (i 1).val = 0 := by
  have h : ∀ b : Fin 9, (Scalar.cmpi .ne (Scalar.extui (Scalar.cmpi .eq (BitVec.ofNat 32 b.val) 0#32) : BitVec 32) 0#32 = 1#1)
      ↔ b.val = 0 := by decide
  exact h (i 1)

/-- A whole buffer reads what was stored over all of it. -/
theorem read_stored {s : Shape} {e : EltTy} (v : View sig .tc .vmem s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w := by
  funext y
  exact View.read_writes_cons_unit_of_mem v f inb w [] y y h (fun a => (Nat.zero_add _).symm)

/-- So does a load of all of it. -/
theorem load_stored {s : Shape} {e : EltTy} (v : View sig .tc .vmem s e) {off : Fin s.rank → ℕ}
    (inb : ∀ a, off a + s.size a ≤ s.size a) (w : s.Idx → Elt F e) :
    v.readCov [⟨Rect.unit off s.size inb, w⟩] (Rect.unit off s.size inb).toLoadRect = w :=
  View.readCov_cons_toLoadRect v (Rect.unit off s.size inb) w []

section Body

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x768 .bf16) (harg4 : arg4.IsWhole) (arg5 : Memref sig .tc .vmem S1024x768 .bf16) (harg5 : arg5.IsWhole)
  (arg6 : Memref sig .tc .vmem S1024x2048 .bf16) (harg6 : arg6.IsWhole)
  (x0 : Vec F S1024x2048 .f32) (x1 : Vec F S1x2048 .f32) (x2 : Vec F S2048x768 .bf16) (x4 : Vec F S1024x2048 .bf16)

/-- At a row's first point the body leaves the norm and its product. -/
theorem body_first (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e0 : View.readAt (Elt F) arg2.view (Rect.unit (s := S1024x2048) ![0, 0] S1024x2048.size inb_S1024x2048_S1024x2048_0_0).toLoadRect (harg2.unread x0) = x0 := by
    rw [View.readAt_eq_ld, harg2.read_unread]; exact View.ld_unit_zero (by decide) _ _
  have e1 : View.readAt (Elt F) arg3.view (Rect.unit (s := S1x2048) ![0, 0] S1x2048.size inb_S1x2048_S1x2048_0_0).toLoadRect (harg3.unread x1) = x1 := by
    rw [View.readAt_eq_ld, harg3.read_unread]; exact View.ld_unit_zero (by decide) _ _
  have e2 : View.readAt (Elt F) arg4.view (Rect.unit (s := S2048x768) ![0, 0] S2048x768.size inb_S2048x768_S2048x768_0_0).toLoadRect (harg4.unread x2) = x2 := by
    rw [View.readAt_eq_ld, harg4.read_unread]; exact View.ld_unit_zero (by decide) _ _
  isplitl [H3]
  · iexists _; isplitr; swap; · iexact H3
    ipureintro
    sl_unfold_words
    refine (read_stored _ _ (by decide) _ _).trans ?_
    rw [load_stored, e0, e1, e2]
  iexists _; isplitr; swap; · iexact H4
  ipureintro
  sl_unfold_words
  refine (read_stored _ _ (by decide) _ _).trans ?_
  rw [e0, e1]

/-- At a later one it leaves the product of what stands in the norm's buffer. -/
theorem body_later (hc : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x4 x2) ∗ owns (c : Thread nD τ) arg6 fullShare x4) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e2 : View.readAt (Elt F) arg4.view (Rect.unit (s := S2048x768) ![0, 0] S2048x768.size inb_S2048x768_S2048x768_0_0).toLoadRect (harg4.unread x2) = x2 := by
    rw [View.readAt_eq_ld, harg4.read_unread]; exact View.ld_unit_zero (by decide) _ _
  have e4 : View.readAt (Elt F) arg6.view (Rect.unit (s := S1024x2048) ![0, 0] S1024x2048.size inb_S1024x2048_S1024x2048_0_0).toLoadRect (harg6.unread x4) = x4 := by
    rw [View.readAt_eq_ld, harg6.read_unread]; exact View.ld_unit_zero (by decide) _ _
  isplitl [H3]
  · iexists _; isplitr; swap; · iexact H3
    ipureintro
    sl_unfold_words
    refine (read_stored _ _ (by decide) _ _).trans ?_
    rw [e2, e4]
  iexists _; isplitr; · ipureintro; exact harg6.read_unread _
  iexact H4

end Body

/-! ## The grid points -/

theorem coords_cols (t : Fin cfg0.N) : (grid0.coords t 1).val = t.val % 9 := by
  have h : ∀ t : Fin grid0.N, (grid0.coords t 1).val = t.val % 9 := by decide +kernel
  exact h t

/-- The first point of a point's row. -/
def firstOf (t : Fin cfg0.N) : Fin cfg0.N := ⟨9 * (t.val / 9), Nat.lt_of_le_of_lt (Nat.mul_div_le _ _) t.isLt⟩

/-- The norm of the row's block. -/
def normAt (c : Dev nD) (t : Fin cfg0.N) : FVec F S1024x2048 .bf16 := k0_pay1 (iblk m c 0 (firstOf t)) (iblk m c 1 (firstOf t))

theorem normAt_first (c : Dev nD) (t : Fin cfg0.N) (h : t.val % 9 = 0) : normAt m c t = k0_pay1 (iblk m c 0 t) (iblk m c 1 t) := by
  have e : firstOf t = t := Fin.ext (show 9 * (t.val / 9) = t.val by omega)
  unfold normAt
  rw [e]

theorem normAt_later (c : Dev nD) (t : Fin cfg0.N) (h : ¬t.val % 9 = 0) (hp : t.val - 1 < cfg0.N) : normAt m c t = normAt m c ⟨t.val - 1, hp⟩ := by
  have e : firstOf t = firstOf ⟨t.val - 1, hp⟩ := Fin.ext (show 9 * (t.val / 9) = 9 * ((t.val - 1) / 9) by omega)
  unfold normAt
  rw [e]

/-! ## The proof data -/

/-- What each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normAt m c t) (iblk m c 2 t)
    | ⟨4, _⟩ => normAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (normAt m c t) (iblk m c 2 t) := by dsimp only [dats]
theorem after_4 (c : Dev nD) (t : Fin cfg0.N) : (dats m 0 c).after 4 t = normAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The norm's buffer is stored into at a row's first point only. -/
theorem idle_4 (t : Fin cfg0.N) : cfg0.idle 4 (grid0.coords t) = !decide (t.val % 9 = 0) := by
  show (!(k0_cond1 (grid0.coords t) == 1#1)) = _
  by_cases h : t.val % 9 = 0
  · rw [(cond1_iff (grid0.coords t)).mpr ((coords_cols t).trans h), decide_eq_true h]; rfl
  · have hc : ¬k0_cond1 (grid0.coords t) = 1#1 := fun e => h ((coords_cols t).symm.trans ((cond1_iff _).mp e))
    rw [decide_eq_false h, beq_eq_false_iff_ne.mpr hc]

/-- It holds nothing of the row's at the row's first point. -/
theorem fresh_4 (n : ℕ) (h : n ≤ cfg0.N) : cfg0.fresh 4 n = decide (n % 9 = 0) :=
  cfg0.fresh_tab 4 (fun n => decide (n % 9 = 0)) rfl (fun t => by
    have e : (cfg0.win 4).flush t = decide (t.val % 9 = 8) := by
      rw [Bool.eq_iff_iff, decide_eq_true_iff]; exact flush0_4 t
    show decide ((t.val + 1) % 9 = 0) = ((cfg0.win 4).flush t || (cfg0.idle 4 (grid0.coords t) && decide (t.val % 9 = 0)))
    rw [e, idle_4]
    by_cases h0 : t.val % 9 = 0
    · rw [decide_eq_true h0, decide_eq_false (show ¬t.val % 9 = 8 by omega), decide_eq_false (show ¬(t.val + 1) % 9 = 0 by omega)]; rfl
    · rw [decide_eq_false h0, Bool.and_false, Bool.or_false]
      exact decide_eq_decide.mpr (by omega)) n h

/-- What a later point finds in the norm's buffer. -/
theorem before_4 (c : Dev nD) (t : Fin cfg0.N) (h : ¬t.val % 9 = 0) (d) : (dats m 0 c).before 4 t d = normAt m c t := by
  refine ((dats m 0 c).before_out_traj 4 rfl (fun _ _ => rfl) (fun u hu hi hf => ?_) t.val t rfl d).trans ?_
  · have h0 : ¬u.val % 9 = 0 := by
      rw [fresh_4 _ (Nat.le_of_lt u.isLt)] at hf
      exact of_decide_eq_false hf
    rw [after_4, after_4]
    exact normAt_later m c u h0 _
  · rw [fresh_4 _ (Nat.le_of_lt t.isLt), decide_eq_false h, if_neg Bool.false_ne_true, after_4]
    exact (normAt_later m c t h _).symm

/-! ## The body's obligation -/

/-- Each window's staging buffer at a point. -/
abbrev buf_0 (t : Fin cfg0.N) : Memref sig .tc .vmem S1024x2048 .f32 := win0_0.stage (cfg0.slots t 0)
abbrev buf_1 (t : Fin cfg0.N) : Memref sig .tc .vmem S1x2048 .f32 := win0_1.stage (cfg0.slots t 1)
abbrev buf_2 (t : Fin cfg0.N) : Memref sig .tc .vmem S2048x768 .bf16 := win0_2.stage (cfg0.slots t 2)
abbrev buf_3 (t : Fin cfg0.N) : Memref sig .tc .vmem S1024x768 .bf16 := win0_3.stage (cfg0.slots t 3)
abbrev buf_4 (t : Fin cfg0.N) : Memref sig .tc .vmem S1024x2048 .bf16 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The norm's buffer at what the data say is what the obligation asks of it. -/
theorem leaves_4 (c : Dev nD) (t : Fin cfg0.N) (d : ((cfg0.win 4).xblock (cfg0.grid.coords t)).Idx → Elt F (cfg0.win 4).elt) :
    owns (c : Thread nD τ) (buf_4 t) fullShare (normAt m c t) ⊢ ((dats m 0 c).leavesExact 4 t : sProp 𝕄) := by
  by_cases h : t.val % 9 = 0
  · rw [show (dats m 0 c).leavesExact 4 t = owns (c : Thread nD τ) (buf_4 t) fullShare ((dats m 0 c).after 4 t) from by
      unfold Dat.leavesExact; rw [show cfg0.idle 4 (grid0.coords t) = false from by rw [idle_4, decide_eq_true h]; rfl], after_4]
  · have hi : cfg0.idle 4 (grid0.coords t) = true := by rw [idle_4, decide_eq_false h]; rfl
    by_cases h8 : t.val % 9 = 8
    · rw [show (dats m 0 c).leavesExact 4 t = owns (c : Thread nD τ) (buf_4 t) fullShare ((dats m 0 c).after 4 t) from by
        unfold Dat.leavesExact; rw [hi, (flush0_4 t).mpr h8], after_4]
    · rw [(dats m 0 c).leavesExact_idle 4 t hi (by rw [Bool.eq_false_iff]; exact fun e => h8 ((flush0_4 t).mp e))]
      iintro H
      iexists d
      rw [before_4 m c t h d]
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (buf_0 t) fullShare ((dats m 0 c).after 0 t) from by
      unfold Dat.leavesExact; rw [show cfg0.idle 0 (grid0.coords t) = false from rfl], after_0]
  rw [show (dats m 0 c).leavesExact 1 t = owns (c : Thread nD τ) (buf_1 t) fullShare ((dats m 0 c).after 1 t) from by
      unfold Dat.leavesExact; rw [show cfg0.idle 1 (grid0.coords t) = false from rfl], after_1]
  rw [show (dats m 0 c).leavesExact 2 t = owns (c : Thread nD τ) (buf_2 t) fullShare ((dats m 0 c).after 2 t) from by
      unfold Dat.leavesExact; rw [show cfg0.idle 2 (grid0.coords t) = false from rfl], after_2]
  rw [show (dats m 0 c).leavesExact 3 t = owns (c : Thread nD τ) (buf_3 t) fullShare ((dats m 0 c).after 3 t) from by
      unfold Dat.leavesExact; rw [show cfg0.idle 3 (grid0.coords t) = false from rfl], after_3]
  iintro ⟨HΦ, Ho, ⟨%d0, H0⟩, ⟨%d1, H1⟩, ⟨%d2, H2⟩, ⟨%d3, H3⟩, ⟨%d4, H4⟩⟩
  by_cases h : t.val % 9 = 0
  · iapply ((body_first c (grid0.coords t) _ _ _ _ _ _ _ _ _ _ (iblk m c 0 t) (iblk m c 1 t) (iblk m c 2 t)
      ((cond1_iff (grid0.coords t)).mpr ((coords_cols t).trans h))) Set.univ _)
    isplitl [H0]; · iexact H0
    isplitl [H1]; · iexact H1
    isplitl [H2]; · iexact H2
    isplitl [H3]; · iexists _; iexact H3
    isplitl [H4]; · iexists _; iexact H4
    rw [← normAt_first m c t h]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t d4)
    iexact H4
  · rw [before_4 m c t h d4]
    iapply ((body_later c (grid0.coords t) _ _ _ _ _ _ _ _ _ _ (iblk m c 0 t) (iblk m c 1 t) (iblk m c 2 t) (normAt m c t)
      (fun e => h ((coords_cols t).symm.trans ((cond1_iff _).mp e)))) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t d4)
    iexact H4

/-- The body the pipeline calls at point `t` is the one stated. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the launch theorem's implicit arguments are found by unifying its conclusion with this one, which takes unfolding
-- plain definitions in a metavariable's type
set_option backward.isDefEq.respectTransparency.types false in
/-- The launch ends, every window's array at what its blocks make of it, every other array as it was, and the
    counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they were and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel9Ideal.Projection

end
-- ==== Proof.NormProduct.lean ====
/-
  THE NORM AND THE INPUT PROJECTIONS. A row of nine grid points norms 1024 rows of the stream and multiplies them by nine
  blocks of 768 columns of the weight, whose columns stand in the call's order; so the first result ends at the product
  in that order, and the second at the norm.
-/
module

public import proofs.«01_k».proof.Proof.Columns
public import proofs.«01_k».proof.Proof.Embedding
public import proofs.«01_k».proof.Proof.NormRun
public import proofs.«01_k».proof.Proof.Gen.Reference9Ideal.Read

@[expose] public section

set_option maxRecDepth 16384

noncomputable section

namespace Cert.Kernel9Ideal.Projection

open Cert.Kernel9Ideal Cert.Kernel9Ideal.Gen Cert.Columns Idealize.ShloMosaic Idealize.ShloMosaic.TcCoe Idealize.ShloMosaic.ValueIdx
open Idealize.SL.Sem
open Cert.KernelIdeal.Attention (mm_nn)
open Cert.Norm (normed normed_of)
open Cert.Kernel11Ideal.Embedding (norms)
open Idealize.ShloMosaic.Pipeline (Dat)

variable (m : (ℓ : Loc nD τ sig) → Buf (Elt Ideal) ℓ) (c : Dev nD)

theorem pay1_apply (x : Vec Ideal S1024x2048 .f32) (g : Vec Ideal S1x2048 .f32) (a : Fin 1024) (k : Fin 2048) :
    k0_pay1 x g (ix2 a k) = normed (fun k => x (ix2 a k)) (fun k => g (ix2 0 k)) k := by
  unfold k0_pay1
  rw [shapeCast_self]
  exact normed_of x g reduces_S1024x2048_S1024 shapeCasts_S1024_S1024x1 broadcasts_S1024x1_S1024x2048 broadcasts_S1x2048_S1024x2048 a k

theorem pay2_apply (x : Vec Ideal S1024x2048 .bf16) (w : Vec Ideal S2048x768 .bf16) (a : Fin 1024) (b : Fin 768) :
    k0_pay2 x w (ix2 a b) = ∑ k : Fin 2048, x (ix2 a k) * w (ix2 k b) := by
  unfold k0_pay2
  rw [shapeCast_self, shapeCast_self]
  exact mm_nn (φ₁ := .bf16) (φ₂ := .bf16) x w a b

/-! ## The arrays the kernel reads -/

/-- The stream, the gains and the weight in the initial memory. -/
abbrev argH : FVec Ideal S8192x2048 .f32 := m ((c.tc : Thread nD τ).loc main_arg0)
abbrev argG : FVec Ideal S2048 .f32 := m ((c.tc : Thread nD τ).loc main_arg1)
abbrev argW : FVec Ideal S2048x6720 .f32 := m ((c.tc : Thread nD τ).loc main_arg2)

def at0 : FVec Ideal S8192x2048 .f32 := V m c main_arg0
def at1 : FVec Ideal S1x2048 .f32 := V m c main_v0
def at14 : FVec Ideal S2048x6912 .bf16 := V m c main_v14

theorem at0_eq : at0 m c = argH m c := by
  unfold at0 V
  after_results_simp <;> rfl

theorem at1_eq : at1 m c = broadcastInDim S1x2048 ![1] bcast_S2048_S1x2048_1 (argG m c) := by
  unfold at1 V
  after_results_simp <;> rfl

theorem at1_apply (k : Fin 2048) : at1 m c (ix2 0 k) = argG m c (ix1 k) :=
  (congrFun (at1_eq m c) (ix2 0 k)).trans (broadcastInDim_apply _ bcast_S2048_S1x2048_1 (argG m c) (ix2 0 k) (ix1 k) (fun a => match a with
    | ⟨0, _⟩ => by show k.val = if (2048 : Nat) = 1 then 0 else k.val; rw [if_neg (by decide)]))

theorem at14_eq (i : Fin 2048) (j : Fin 6912) : at14 m c (ix2 i j) = ordered (fun k => argW m c (ix2 i k)) j := by
  refine Eq.trans ?_ (concat_apply (argW m c) (broadcastInDim S2048x192 ![] bcast_S_S2048x192 (constant (F := Ideal) S_ .f32 0x00000000#32)) (fun _ => Ideal.ofBits_zero_f32)
    slices_S2048x6720_S2048x2048_0_1536 slices_S2048x6720_S2048x1024_0_5696 slices_S2048x6720_S2048x1536_0_0 slices_S2048x6720_S2048x1536_0_3584
    shapeCasts_S2048x1536_S2048x8x192 slices_S2048x8x192_S2048x8x128_0_0_0 shapeCasts_S2048x8x128_S2048x1024 slices_S2048x8x192_S2048x8x64_0_0_128
    shapeCasts_S2048x8x64_S2048x512 slices_S2048x6720_S2048x512_0_5120 slices_S2048x6720_S2048x64_0_5632 _ rfl
    concatenates_S2048x2048_S2048x1024_S2048x1536_S2048x1024_S2048x512_S2048x512_S2048x64_S2048x192_S2048x6912_d1 i j)
  refine congrFun (?_ : at14 m c = _) (ix2 i j)
  unfold at14 V
  after_results_simp <;> rfl

/-! ## The blocks -/

theorem place_0 (t : Fin cfg0.N) : win0_0.index t 0 = t.val / 9 ∧ win0_0.index t 1 = 0 := by
  have h : ∀ t : Fin grid0.N, win0_0.index t 0 = t.val / 9 ∧ win0_0.index t 1 = 0 := by decide +kernel
  exact h t
theorem place_1 (t : Fin cfg0.N) : win0_1.index t 0 = 0 ∧ win0_1.index t 1 = 0 := by
  have h : ∀ t : Fin grid0.N, win0_1.index t 0 = 0 ∧ win0_1.index t 1 = 0 := by decide +kernel
  exact h t
theorem place_2 (t : Fin cfg0.N) : win0_2.index t 0 = 0 ∧ win0_2.index t 1 = t.val % 9 := by
  have h : ∀ t : Fin grid0.N, win0_2.index t 0 = 0 ∧ win0_2.index t 1 = t.val % 9 := by decide +kernel
  exact h t
theorem place_3 (t : Fin cfg0.N) : win0_3.index t 0 = t.val / 9 ∧ win0_3.index t 1 = t.val % 9 := by
  have h : ∀ t : Fin grid0.N, win0_3.index t 0 = t.val / 9 ∧ win0_3.index t 1 = t.val % 9 := by decide +kernel
  exact h t
theorem place_4 (t : Fin cfg0.N) : win0_4.index t 0 = t.val / 9 ∧ win0_4.index t 1 = 0 := by
  have h : ∀ t : Fin grid0.N, win0_4.index t 0 = t.val / 9 ∧ win0_4.index t 1 = 0 := by decide +kernel
  exact h t

/-- The row of the stream and the column in the call's order a point's block holds at a place. -/
def rowOf (t : Fin cfg0.N) (a : Fin 1024) : Fin 8192 := ⟨1024 * (t.val / 9) + a.val, by
  have : t.val < 72 := lt_of_lt_of_eq t.isLt N_0
  omega⟩
def colOf (t : Fin cfg0.N) (b : Fin 768) : Fin 6912 := ⟨768 * (t.val % 9) + b.val, by omega⟩

theorem rowOf_first (t : Fin cfg0.N) (a : Fin 1024) : rowOf (firstOf t) a = rowOf t a :=
  Fin.ext (show 1024 * (9 * (t.val / 9) / 9) + a.val = 1024 * (t.val / 9) + a.val by omega)

section Reads

variable (t : Fin cfg0.N)

theorem block_0 (G : Vec Ideal S8192x2048 .f32) (a : Fin 1024) (j : Fin 2048) :
    ((cfg0.win 0).blk t).view.read (Elt Ideal) G (ix2 a j) = G (ix2 (rowOf t a) j) := by
  rw [View.read_apply]
  refine congrArg G (funext fun x => Fin.ext ?_)
  obtain ⟨e0, e1⟩ := place_0 t
  match x with
  | ⟨0, _⟩ => show win0_0.index t 0 * 1024 + 1 * a.val = 1024 * (t.val / 9) + a.val; rw [e0]; omega
  | ⟨1, _⟩ => show win0_0.index t 1 * 2048 + 1 * j.val = j.val; rw [e1]; omega

theorem block_1 (G : Vec Ideal S1x2048 .f32) (a : Fin 1) (j : Fin 2048) :
    ((cfg0.win 1).blk t).view.read (Elt Ideal) G (ix2 a j) = G (ix2 a j) := by
  rw [View.read_apply]
  refine congrArg G (funext fun x => Fin.ext ?_)
  obtain ⟨e0, e1⟩ := place_1 t
  match x with
  | ⟨0, _⟩ => show win0_1.index t 0 * 1 + 1 * a.val = a.val; rw [e0]; omega
  | ⟨1, _⟩ => show win0_1.index t 1 * 2048 + 1 * j.val = j.val; rw [e1]; omega

theorem block_2 (G : Vec Ideal S2048x6912 .bf16) (k : Fin 2048) (b : Fin 768) :
    ((cfg0.win 2).blk t).view.read (Elt Ideal) G (ix2 k b) = G (ix2 k (colOf t b)) := by
  rw [View.read_apply]
  refine congrArg G (funext fun x => Fin.ext ?_)
  obtain ⟨e0, e1⟩ := place_2 t
  match x with
  | ⟨0, _⟩ => show win0_2.index t 0 * 2048 + 1 * k.val = k.val; rw [e0]; omega
  | ⟨1, _⟩ => show win0_2.index t 1 * 768 + 1 * b.val = 768 * (t.val % 9) + b.val; rw [e1]; omega

theorem block_3 (G : Vec Ideal S8192x6912 .bf16) (a : Fin 1024) (b : Fin 768) :
    ((cfg0.win 3).blk t).view.read (Elt Ideal) G (ix2 a b) = G (ix2 (rowOf t a) (colOf t b)) := by
  rw [View.read_apply]
  refine congrArg G (funext fun x => Fin.ext ?_)
  obtain ⟨e0, e1⟩ := place_3 t
  match x with
  | ⟨0, _⟩ => show win0_3.index t 0 * 1024 + 1 * a.val = 1024 * (t.val / 9) + a.val; rw [e0]; omega
  | ⟨1, _⟩ => show win0_3.index t 1 * 768 + 1 * b.val = 768 * (t.val % 9) + b.val; rw [e1]; omega

theorem block_4 (G : Vec Ideal S8192x2048 .bf16) (a : Fin 1024) (j : Fin 2048) :
    ((cfg0.win 4).blk t).view.read (Elt Ideal) G (ix2 a j) = G (ix2 (rowOf t a) j) := by
  rw [View.read_apply]
  refine congrArg G (funext fun x => Fin.ext ?_)
  obtain ⟨e0, e1⟩ := place_4 t
  match x with
  | ⟨0, _⟩ => show win0_4.index t 0 * 1024 + 1 * a.val = 1024 * (t.val / 9) + a.val; rw [e0]; omega
  | ⟨1, _⟩ => show win0_4.index t 1 * 2048 + 1 * j.val = j.val; rw [e1]; omega

end Reads

/-! ## The results -/

theorem iblk_0 (t : Fin cfg0.N) : iblk m c 0 t = ((cfg0.win 0).blk t).view.read (Elt Ideal) (at0 m c) := by unfold iblk at0; rfl
theorem iblk_1 (t : Fin cfg0.N) : iblk m c 1 t = ((cfg0.win 1).blk t).view.read (Elt Ideal) (at1 m c) := by unfold iblk at1; rfl
theorem iblk_2 (t : Fin cfg0.N) : iblk m c 2 t = ((cfg0.win 2).blk t).view.read (Elt Ideal) (at14 m c) := by unfold iblk at14; rfl

theorem rows_0 (t : Fin cfg0.N) (a : Fin 1024) (k : Fin 2048) : iblk m c 0 t (ix2 a k) = argH m c (ix2 (rowOf t a) k) :=
  (congrFun (iblk_0 m c t) (ix2 a k)).trans ((block_0 t (at0 m c) a k).trans (congrFun (at0_eq m c) _))
theorem rows_1 (t : Fin cfg0.N) (k : Fin 2048) : iblk m c 1 t (ix2 0 k) = argG m c (ix1 k) :=
  (congrFun (iblk_1 m c t) (ix2 0 k)).trans ((block_1 t (at1 m c) 0 k).trans (at1_apply m c k))
theorem rows_2 (t : Fin cfg0.N) (k : Fin 2048) (b : Fin 768) : iblk m c 2 t (ix2 k b) = ordered (fun l => argW m c (ix2 k l)) (colOf t b) :=
  (congrFun (iblk_2 m c t) (ix2 k b)).trans ((block_2 t (at14 m c) k b).trans (at14_eq m c _ _))

/-- The norm's product with the weight, in the call's order of the columns. -/
def projected (h : FVec Ideal S8192x2048 .f32) (g : FVec Ideal S2048 .f32) (w : FVec Ideal S2048x6720 .f32) : FVec Ideal S8192x6912 .bf16 :=
  fun i => ordered (fun l => ∑ k : Fin 2048, norms h g (ix2 (i 0) k) * w (ix2 k l)) (i 1)

theorem norm_at (t : Fin cfg0.N) (a : Fin 1024) (b : Fin 2048) : normAt m c t (ix2 a b) = norms (argH m c) (argG m c) (ix2 (rowOf t a) b) := by
  unfold normAt
  refine (pay1_apply (iblk m c 0 (firstOf t)) (iblk m c 1 (firstOf t)) a b).trans
    (congrArg₂ (fun x g => normed x g b) (funext fun k => (rows_0 m c (firstOf t) a k).trans ?_) (funext fun k => rows_1 m c (firstOf t) k))
  rw [rowOf_first]

theorem product_at (t : Fin cfg0.N) (a : Fin 1024) (b : Fin 768) :
    k0_pay2 (normAt m c t) (iblk m c 2 t) (ix2 a b) = projected (argH m c) (argG m c) (argW m c) (ix2 (rowOf t a) (colOf t b)) :=
  (pay2_apply (normAt m c t) (iblk m c 2 t) a b).trans
    ((Finset.sum_congr rfl fun k _ => congrArg₂ (· * ·) (norm_at m c t a k) (rows_2 m c t k b)).trans
      (sum_mul_ordered (fun k => norms (argH m c) (argG m c) (ix2 (rowOf t a) k)) (fun k l => argW m c (ix2 k l)) (colOf t b)))

theorem flushed_3 (t : Fin cfg0.N) :
    (dats m 0 c).flushed 3 t = ((cfg0.win 3).blk t).view.read (Elt Ideal) (projected (argH m c) (argG m c) (argW m c)) := by
  show (cfg0.win 3).cut (grid0.coords t) ((dats m 0 c).after 3 t) = _
  rw [after_3]
  refine funext fun (y : S1024x768.Idx) => ?_
  obtain ⟨a, b, rfl⟩ : ∃ a b, y = ix2 a b := ⟨y 0, y 1, funext fun x => Fin.ext (match x with
    | ⟨0, _⟩ => rfl
    | ⟨1, _⟩ => rfl)⟩
  exact (product_at m c t a b).trans (block_3 t (projected (argH m c) (argG m c) (argW m c)) a b).symm

theorem final_3 : (dats m 0 c).arrAt 3 cfg0.N = projected (argH m c) (argG m c) (argW m c) :=
  (dats m 0 c).arrAt_eq_of_cover 3 (projected (argH m c) (argG m c) (argW m c)) (fun t _ => flushed_3 m c t) fun i => by
    have h0 : (i 0 : Nat) < 8192 := (i 0).isLt
    have h1 : (i 1 : Nat) < 6912 := (i 1).isLt
    let t : Fin cfg0.N := ⟨9 * ((i 0 : Nat) / 1024) + (i 1 : Nat) / 768, lt_of_lt_of_eq (by omega : _ < 72) N_0.symm⟩
    refine ⟨t, flush0_3 t, ?_⟩
    show i ∈ ((View.whole main_v15_0).slice (win0_3.rect t)).set
    rw [View.set_slice_whole, Rect.mem_set_unit]
    obtain ⟨e0, e1⟩ := place_3 t
    have ht : t.val = 9 * ((i 0 : Nat) / 1024) + (i 1 : Nat) / 768 := rfl
    intro a
    match a with
    | ⟨0, _⟩ => show win0_3.index t 0 * 1024 ≤ (i 0 : Nat) ∧ (i 0 : Nat) < win0_3.index t 0 * 1024 + 1024; rw [e0]; omega
    | ⟨1, _⟩ => show win0_3.index t 1 * 768 ≤ (i 1 : Nat) ∧ (i 1 : Nat) < win0_3.index t 1 * 768 + 768; rw [e1]; omega

theorem flushed_4 (t : Fin cfg0.N) :
    (dats m 0 c).flushed 4 t = ((cfg0.win 4).blk t).view.read (Elt Ideal) (norms (argH m c) (argG m c)) := by
  show (cfg0.win 4).cut (grid0.coords t) ((dats m 0 c).after 4 t) = _
  rw [after_4]
  refine funext fun (y : S1024x2048.Idx) => ?_
  obtain ⟨a, b, rfl⟩ : ∃ a b, y = ix2 a b := ⟨y 0, y 1, funext fun x => Fin.ext (match x with
    | ⟨0, _⟩ => rfl
    | ⟨1, _⟩ => rfl)⟩
  exact (norm_at m c t a b).trans (block_4 t (norms (argH m c) (argG m c)) a b).symm

theorem final_4 : (dats m 0 c).arrAt 4 cfg0.N = norms (argH m c) (argG m c) :=
  (dats m 0 c).arrAt_eq_of_cover 4 (norms (argH m c) (argG m c)) (fun t _ => flushed_4 m c t) fun i => by
    have h0 : (i 0 : Nat) < 8192 := (i 0).isLt
    have h1 : (i 1 : Nat) < 2048 := (i 1).isLt
    let t : Fin cfg0.N := ⟨9 * ((i 0 : Nat) / 1024) + 8, lt_of_lt_of_eq (by omega : _ < 72) N_0.symm⟩
    have ht : t.val = 9 * ((i 0 : Nat) / 1024) + 8 := rfl
    refine ⟨t, (flush0_4 t).mpr (by omega), ?_⟩
    show i ∈ ((View.whole main_v15_1).slice (win0_4.rect t)).set
    rw [View.set_slice_whole, Rect.mem_set_unit]
    obtain ⟨e0, e1⟩ := place_4 t
    intro a
    match a with
    | ⟨0, _⟩ => show win0_4.index t 0 * 1024 ≤ (i 0 : Nat) ∧ (i 0 : Nat) < win0_4.index t 0 * 1024 + 1024; rw [e0]; omega
    | ⟨1, _⟩ => show win0_4.index t 1 * 2048 ≤ (i 1 : Nat) ∧ (i 1 : Nat) < win0_4.index t 1 * 2048 + 2048; rw [e1]; omega

/-! ## The reference's results -/

section Reference

open Cert.Reference9Ideal Cert.Reference9Ideal.Gen Cert.Reference9Ideal.Read

variable (h : FVec Ideal S8192x2048 .f32) (g : FVec Ideal S2048 .f32) (w : FVec Ideal S2048x6720 .f32)

/-- It norms the stream as the per-layer embedding's reference does. -/
theorem ref_norm (i : S8192x2048.Idx) : val_main_v12 (F := Ideal) h g i = norms h g i :=
  Cert.Kernel11Ideal.Embedding.ref_norm h g i

theorem ref_product (i : Fin 8192) (l : Fin 6720) :
    val_main_v13 (F := Ideal) h g w (ix2 i l) = ∑ k : Fin 2048, norms h g (ix2 i k) * w (ix2 k l) := by
  rw [val_main_v13_apply]
  refine Finset.sum_congr rfl fun k _ => congrArg₂ (· * ·) ((ref_norm h g _).trans (congrArg (norms h g) (funext fun a => Fin.ext ?_))) (congrArg w (funext fun a => Fin.ext ?_))
  · match a with
    | ⟨0, _⟩ => rfl
    | ⟨1, _⟩ => rfl
  · match a with
    | ⟨0, _⟩ => rfl
    | ⟨1, _⟩ => rfl

theorem reference_3 : val_main_v27 (F := Ideal) h g w = projected h g w := by
  refine funext fun (y : Cert.Kernel9Ideal.S8192x6912.Idx) => ?_
  obtain ⟨i, j, rfl⟩ : ∃ i j, y = ix2 i j := ⟨y 0, y 1, funext fun x => Fin.ext (match x with
    | ⟨0, _⟩ => rfl
    | ⟨1, _⟩ => rfl)⟩
  refine Eq.trans (show _ = val_main_v26 (F := Ideal) h g w (ix2 i j) from rfl) ?_
  refine Eq.trans ?_ ((concat_apply (val_main_v13 (F := Ideal) h g w) (val_main_v25 (F := Ideal)) (fun _ => Ideal.ofBits_zero_f32)
    slices_S8192x6720_S8192x2048_0_1536 slices_S8192x6720_S8192x1024_0_5696 slices_S8192x6720_S8192x1536_0_0 slices_S8192x6720_S8192x1536_0_3584
    shapeCasts_S8192x1536_S8192x8x192 slices_S8192x8x192_S8192x8x128_0_0_0 shapeCasts_S8192x8x128_S8192x1024 slices_S8192x8x192_S8192x8x64_0_0_128
    shapeCasts_S8192x8x64_S8192x512 slices_S8192x6720_S8192x512_0_5120 slices_S8192x6720_S8192x64_0_5632 _ rfl
    concatenates_S8192x2048_S8192x1024_S8192x1536_S8192x1024_S8192x512_S8192x512_S8192x64_S8192x192_S8192x6912_d1 i j).trans ?_)
  · rfl
  · exact congrFun (congrArg ordered (funext fun l => ref_product h g w i l)) j

theorem reference_4 : val_main_v28 (F := Ideal) h g = norms h g := funext fun i => (val_main_v28_apply (F := Ideal) h g i).trans (ref_norm h g i)

end Reference

end Cert.Kernel9Ideal.Projection

end
-- ==== Proof.ProductStream.lean ====
/-
  THE OUTPUT PROJECTION GOING FORWARD. Each of the sixteen points of the launch adds to 512 rows of the stream the product
  of the mixers' output's rows by the projection's columns; so the array ends at the stream plus the projection.
-/
module

public import proofs.«01_k».proof.Proof.Tile
public import proofs.«01_k».proof.Proof.Gen.Kernel10Ideal.Value
public import proofs.«01_k».proof.Proof.Gen.Reference10Ideal.Read

@[expose] public section

set_option maxRecDepth 16384

noncomputable section

namespace Cert.Kernel10Ideal.Product

open Cert.Kernel10Ideal Cert.Kernel10Ideal.Gen Idealize.ShloMosaic Idealize.ShloMosaic.TcCoe Idealize.ShloMosaic.ValueIdx
open Idealize.SL.Sem
open Cert.KernelIdeal.Attention (mm_nn)
open Idealize.ShloMosaic.Pipeline (Dat)

variable (m : (ℓ : Loc nD τ sig) → Buf (Elt Ideal) ℓ) (c : Dev nD)

/-- The stream, the mixers' output and the weight in the initial memory. -/
abbrev argH : FVec Ideal S8192x2048 .f32 := m ((c.tc : Thread nD τ).loc main_arg0)
abbrev argY : FVec Ideal S8192x2048 .f32 := m ((c.tc : Thread nD τ).loc main_arg1)
abbrev argW : FVec Ideal S2048x2048 .f32 := m ((c.tc : Thread nD τ).loc main_arg2)

/-- The arrays the kernel reads. -/
def stream : FVec Ideal S8192x2048 .f32 := V m c main_arg0
def left : FVec Ideal S8192x2048 .bf16 := V m c main_v0
def right : FVec Ideal S2048x2048 .bf16 := V m c main_v1

theorem stream_eq : stream m c = argH m c := by
  unfold stream V
  after_results_simp <;> rfl

theorem left_eq : left m c = truncf .bf16 (argY m c) bitsLt_bf16_f32 := by
  unfold left V
  after_results_simp <;> rfl

theorem right_eq : right m c = truncf .bf16 (argW m c) bitsLt_bf16_f32 := by
  unfold right V
  after_results_simp <;> rfl

/-! ## The blocks -/

theorem place_0 (t : Fin cfg0.N) : win0_0.index t 0 = t.val ∧ win0_0.index t 1 = 0 := by
  have h : ∀ t : Fin grid0.N, win0_0.index t 0 = t.val ∧ win0_0.index t 1 = 0 := by decide +kernel
  exact h t
theorem place_1 (t : Fin cfg0.N) : win0_1.index t 0 = t.val ∧ win0_1.index t 1 = 0 := by
  have h : ∀ t : Fin grid0.N, win0_1.index t 0 = t.val ∧ win0_1.index t 1 = 0 := by decide +kernel
  exact h t
theorem place_2 (t : Fin cfg0.N) : win0_2.index t 0 = 0 ∧ win0_2.index t 1 = 0 := by
  have h : ∀ t : Fin grid0.N, win0_2.index t 0 = 0 ∧ win0_2.index t 1 = 0 := by decide +kernel
  exact h t
theorem place_3 (t : Fin cfg0.N) : win0_3.index t 0 = t.val ∧ win0_3.index t 1 = 0 := by
  have h : ∀ t : Fin grid0.N, win0_3.index t 0 = t.val ∧ win0_3.index t 1 = 0 := by decide +kernel
  exact h t

/-- The row of the arrays a point's block holds at a place. -/
def rowOf (t : Fin cfg0.N) (a : Fin 512) : Fin 8192 := ⟨512 * t.val + a.val, by
  have : t.val < 16 := lt_of_lt_of_eq t.isLt N_0
  omega⟩

section Reads

variable {F : FTy → Type} [FloatOps F] (t : Fin cfg0.N)

theorem block_0 (G : Vec F S8192x2048 .f32) (a : Fin 512) (j : Fin 2048) :
    ((cfg0.win 0).blk t).view.read (Elt F) G (ix2 a j) = G (ix2 (rowOf t a) j) := by
  rw [View.read_apply]
  refine congrArg G (funext fun x => Fin.ext ?_)
  obtain ⟨e0, e1⟩ := place_0 t
  match x with
  | ⟨0, _⟩ => show win0_0.index t 0 * 512 + 1 * a.val = 512 * t.val + a.val; rw [e0]; omega
  | ⟨1, _⟩ => show win0_0.index t 1 * 2048 + 1 * j.val = j.val; rw [e1]; omega

theorem block_1 (G : Vec F S8192x2048 .bf16) (a : Fin 512) (j : Fin 2048) :
    ((cfg0.win 1).blk t).view.read (Elt F) G (ix2 a j) = G (ix2 (rowOf t a) j) := by
  rw [View.read_apply]
  refine congrArg G (funext fun x => Fin.ext ?_)
  obtain ⟨e0, e1⟩ := place_1 t
  match x with
  | ⟨0, _⟩ => show win0_1.index t 0 * 512 + 1 * a.val = 512 * t.val + a.val; rw [e0]; omega
  | ⟨1, _⟩ => show win0_1.index t 1 * 2048 + 1 * j.val = j.val; rw [e1]; omega

theorem block_2 (G : Vec F S2048x2048 .bf16) (k : Fin 2048) (j : Fin 2048) :
    ((cfg0.win 2).blk t).view.read (Elt F) G (ix2 k j) = G (ix2 k j) := by
  rw [View.read_apply]
  refine congrArg G (funext fun x => Fin.ext ?_)
  obtain ⟨e0, e1⟩ := place_2 t
  match x with
  | ⟨0, _⟩ => show win0_2.index t 0 * 2048 + 1 * k.val = k.val; rw [e0]; omega
  | ⟨1, _⟩ => show win0_2.index t 1 * 2048 + 1 * j.val = j.val; rw [e1]; omega

theorem block_3 (G : Vec F S8192x2048 .f32) (a : Fin 512) (j : Fin 2048) :
    ((cfg0.win 3).blk t).view.read (Elt F) G (ix2 a j) = G (ix2 (rowOf t a) j) := by
  rw [View.read_apply]
  refine congrArg G (funext fun x => Fin.ext ?_)
  obtain ⟨e0, e1⟩ := place_3 t
  match x with
  | ⟨0, _⟩ => show win0_3.index t 0 * 512 + 1 * a.val = 512 * t.val + a.val; rw [e0]; omega
  | ⟨1, _⟩ => show win0_3.index t 1 * 2048 + 1 * j.val = j.val; rw [e1]; omega

end Reads

theorem zero_off : (![0, 0] : Fin 2 → Nat) = fun _ => 0 := by decide

/-- What the body leaves: the stream's rows plus the product. -/
theorem out_apply (x0 : Vec Ideal S512x2048 .f32) (x1 : Vec Ideal S512x2048 .bf16) (x2 : Vec Ideal S2048x2048 .bf16) (a : Fin 512) (b : Fin 2048) :
    out0_3 x0 x1 x2 (ix2 a b) = x0 (ix2 a b) + ∑ j : Fin 2048, x1 (ix2 a j) * x2 (ix2 j b) := by
  unfold out0_3
  rw [View.canon_cons_unit_zero zero_off inb_S512x2048_S512x2048_0_0, View.ld_unit_zero zero_off, View.ld_unit_zero zero_off,
    View.ld_unit_zero zero_off]
  unfold k0_pay1
  rw [shapeCast_self, shapeCast_self]
  exact congrArg (x0 (ix2 a b) + ·) (mm_nn x1 x2 a b)

/-! ## The result -/

theorem iblk_0 (t : Fin cfg0.N) : iblk m c 0 t = ((cfg0.win 0).blk t).view.read (Elt Ideal) (stream m c) := by unfold iblk stream; rfl
theorem iblk_1 (t : Fin cfg0.N) : iblk m c 1 t = ((cfg0.win 1).blk t).view.read (Elt Ideal) (left m c) := by unfold iblk left; rfl
theorem iblk_2 (t : Fin cfg0.N) : iblk m c 2 t = ((cfg0.win 2).blk t).view.read (Elt Ideal) (right m c) := by unfold iblk right; rfl

/-- The stream plus the projection of the mixers' output. -/
def projected (h y : FVec Ideal S8192x2048 .f32) (w : FVec Ideal S2048x2048 .f32) : FVec Ideal S8192x2048 .f32 :=
  fun i => h i + ∑ k : Fin 2048, y (ix2 (i 0) k) * w (ix2 k (i 1))

theorem flushed_3 (t : Fin cfg0.N) :
    (dats m 0 c).flushed 3 t = ((cfg0.win 3).blk t).view.read (Elt Ideal) (projected (argH m c) (argY m c) (argW m c)) := by
  rw [Value.flushed3]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  refine Eq.trans ?_ (block_3 (F := Ideal) t (projected (argH m c) (argY m c) (argW m c)) a b).symm
  refine (out_apply (iblk m c 0 t) (iblk m c 1 t) (iblk m c 2 t) a b).trans ?_
  refine congrArg₂ (· + ·) ?_ (Finset.sum_congr rfl fun j _ => congrArg₂ (· * ·) ?_ ?_)
  · exact (congrFun (iblk_0 m c t) (ix2 a b)).trans ((block_0 (F := Ideal) t (stream m c) a b).trans (congrFun (stream_eq m c) _))
  · exact (congrFun (iblk_1 m c t) (ix2 a j)).trans ((block_1 (F := Ideal) t (left m c) a j).trans (congrFun (left_eq m c) _))
  · exact (congrFun (iblk_2 m c t) (ix2 j b)).trans ((block_2 (F := Ideal) t (right m c) j b).trans (congrFun (right_eq m c) _))

theorem final_3 : (dats m 0 c).arrAt 3 cfg0.N = projected (argH m c) (argY m c) (argW m c) :=
  (dats m 0 c).arrAt_eq_of_cover 3 (projected (argH m c) (argY m c) (argW m c)) (fun t _ => flushed_3 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_3 t, ?_⟩
    show i ∈ ((View.whole main_v2).slice (win0_3.rect t)).set
    rw [View.set_slice_whole, Rect.mem_set_unit]
    obtain ⟨e0, e1⟩ := place_3 t
    have ht : t.val = (i 0 : Nat) / 512 := rfl
    intro a
    match a with
    | ⟨0, _⟩ => show win0_3.index t 0 * 512 ≤ (i 0 : Nat) ∧ (i 0 : Nat) < win0_3.index t 0 * 512 + 512; rw [e0]; omega
    | ⟨1, _⟩ => show win0_3.index t 1 * 2048 ≤ (i 1 : Nat) ∧ (i 1 : Nat) < win0_3.index t 1 * 2048 + 2048; rw [e1]; omega

/-- The reference's result. -/
theorem reference_eq (h y : FVec Ideal S8192x2048 .f32) (w : FVec Ideal S2048x2048 .f32) :
    Cert.Reference10Ideal.Read.val_main_v1 (F := Ideal) h y w = projected h y w := by
  refine funext fun i => ?_
  rw [Cert.Reference10Ideal.Read.val_main_v1_apply, Cert.Reference10Ideal.Read.val_main_v0_apply]
  refine congrArg (h i + ·) (Finset.sum_congr rfl fun k _ => congrArg₂ (· * ·) (congrArg y (funext fun a => Fin.ext ?_)) (congrArg w (funext fun a => Fin.ext ?_)))
  · match a with
    | ⟨0, _⟩ => rfl
    | ⟨1, _⟩ => rfl
  · match a with
    | ⟨0, _⟩ => rfl
    | ⟨1, _⟩ => rfl

end Cert.Kernel10Ideal.Product

end
-- ==== Proof.RowGrad.lean ====
/-
  A ROW'S NORM GOING BACKWARD. What the calls and the references compute of a row and of the gradient by its scaled values,
  read at one place: the gradient by the row, and what the rows together give to the gains' gradient.
-/
module

public import proofs.«01_k».proof.Proof.Norm

@[expose] public section

set_option maxRecDepth 16384

noncomputable section

namespace Cert.Norm

open Idealize.ShloMosaic Idealize.ShloMosaic.ValueIdx

/-- The row's mean square plus the small number. -/
def spread (x : Fin 2048 → EReal) : EReal :=
  Ideal.div (∑ k, x k * x k) (Ideal.ofBits .f32 0x45000000#32) + Ideal.ofBits .f32 0x358637BD#32

/-- The scale's derivative by it. -/
def slope (x : Fin 2048 → EReal) : EReal := Ideal.ofBits .f32 0xBF000000#32 * Ideal.div (scale x) (spread x)

/-- What every place of the row receives through the scale. -/
def portion (x w : Fin 2048 → EReal) : EReal := Ideal.div ((∑ k, x k * w k) * slope x) (Ideal.ofBits .f32 0x45000000#32)

/-- The gradient by the row, `w` being the gradient by the scaled row. -/
def pulled (x w : Fin 2048 → EReal) (k : Fin 2048) : EReal := (w k * scale x + x k * portion x w) + portion x w * x k

section Rows

variable {R : ℕ}

/-- The column of the rows' mean squares plus the small number, as a call's body computes it. -/
theorem spread_of (x : FVec Ideal ⟨2, ![R, 2048]⟩ .f32) (hr : Shape.Reduces ⟨2, ![R, 2048]⟩ [1] ⟨1, ![R]⟩)
    (h : Shape.ShapeCasts ⟨1, ![R]⟩ ⟨2, ![R, 1]⟩) (a : Fin R) :
    addf (divf (shapeCast ⟨2, ![R, 1]⟩ (multiReduction .add [1] ⟨1, ![R]⟩ (mulf x x) 0x00000000#32 hr (.inl rfl) rfl) h)
        (broadcast ⟨2, ![R, 1]⟩ (Scalar.ofBits (F := Ideal) .f32 0x45000000#32))) (broadcast ⟨2, ![R, 1]⟩ (Scalar.ofBits (F := Ideal) .f32 0x358637BD#32)) (ix2 a 0)
      = spread fun k => x (ix2 a k) :=
  congrArg (fun y : EReal => Ideal.div y (Ideal.ofBits .f32 0x45000000#32) + Ideal.ofBits .f32 0x358637BD#32) (sum_row (mulf x x) hr h a)

/-- The column of the slopes, from that of the scales and the one before. -/
theorem slope_of (x : FVec Ideal ⟨2, ![R, 2048]⟩ .f32) (r s : FVec Ideal ⟨2, ![R, 1]⟩ .f32) (a : Fin R)
    (er : r (ix2 a 0) = scale fun k => x (ix2 a k)) (es : s (ix2 a 0) = spread fun k => x (ix2 a k)) :
    mulf (broadcast ⟨2, ![R, 1]⟩ (Scalar.ofBits (F := Ideal) .f32 0xBF000000#32)) (divf r s) (ix2 a 0) = slope fun k => x (ix2 a k) :=
  congrArg₂ (fun p q : EReal => Ideal.ofBits .f32 0xBF000000#32 * Ideal.div p q) er es

/-- A sum along an axis of one place. -/
theorem sum_one (y : FVec Ideal ⟨2, ![R, 1]⟩ .f32) (hr : Shape.Reduces ⟨2, ![R, 1]⟩ [1] ⟨1, ![R]⟩)
    (h : Shape.ShapeCasts ⟨1, ![R]⟩ ⟨2, ![R, 1]⟩) (a : Fin R) :
    shapeCast ⟨2, ![R, 1]⟩ (multiReduction .add [1] ⟨1, ![R]⟩ y 0x00000000#32 hr (.inl rfl) rfl) h (ix2 a 0) = y (ix2 a 0) := by
  refine (column_of _ h a).trans ((Ideal.multiReduction_add_single y _ hr (.inl rfl) rfl (ix1 a)).trans ?_)
  refine (Fin.sum_univ_one (M := EReal) _).trans (congrArg y (funext fun z => Fin.ext ?_))
  match z with
  | ⟨0, _⟩ => rfl
  | ⟨1, _⟩ => rfl

/-- The gradient by the rows, as a call's body computes it: `w` is the gradient by the scaled rows, `r` and `s` are the
    columns of the scales and of the slopes. -/
theorem pulled_of (x w : FVec Ideal ⟨2, ![R, 2048]⟩ .f32) (r s : FVec Ideal ⟨2, ![R, 1]⟩ .f32)
    (hr : Shape.Reduces ⟨2, ![R, 2048]⟩ [1] ⟨1, ![R]⟩) (hr1 : Shape.Reduces ⟨2, ![R, 1]⟩ [1] ⟨1, ![R]⟩)
    (h : Shape.ShapeCasts ⟨1, ![R]⟩ ⟨2, ![R, 1]⟩) (hb : Shape.Broadcasts ⟨2, ![R, 1]⟩ ⟨2, ![R, 2048]⟩) (a : Fin R) (k : Fin 2048)
    (er : r (ix2 a 0) = scale fun k => x (ix2 a k)) (es : s (ix2 a 0) = slope fun k => x (ix2 a k)) :
    addf (addf (mulf w (broadcastTo ⟨2, ![R, 2048]⟩ r hb)) (mulf x (broadcastTo ⟨2, ![R, 2048]⟩
          (shapeCast ⟨2, ![R, 1]⟩ (multiReduction .add [1] ⟨1, ![R]⟩ (divf (mulf (shapeCast ⟨2, ![R, 1]⟩ (multiReduction .add [1] ⟨1, ![R]⟩ (mulf x w) 0x00000000#32 hr (.inl rfl) rfl) h) s)
            (broadcast ⟨2, ![R, 1]⟩ (Scalar.ofBits (F := Ideal) .f32 0x45000000#32))) 0x00000000#32 hr1 (.inl rfl) rfl) h) hb)))
        (mulf (broadcastTo ⟨2, ![R, 2048]⟩
          (shapeCast ⟨2, ![R, 1]⟩ (multiReduction .add [1] ⟨1, ![R]⟩ (divf (mulf (shapeCast ⟨2, ![R, 1]⟩ (multiReduction .add [1] ⟨1, ![R]⟩ (mulf x w) 0x00000000#32 hr (.inl rfl) rfl) h) s)
            (broadcast ⟨2, ![R, 1]⟩ (Scalar.ofBits (F := Ideal) .f32 0x45000000#32))) 0x00000000#32 hr1 (.inl rfl) rfl) h) hb) x) (ix2 a k)
      = pulled (fun k => x (ix2 a k)) (fun k => w (ix2 a k)) k := by
  have hs := sum_row (mulf x w) hr h a
  generalize shapeCast ⟨2, ![R, 1]⟩ (multiReduction .add [1] ⟨1, ![R]⟩ (mulf x w) 0x00000000#32 hr (.inl rfl) rfl) h = y at hs ⊢
  have he := (spread_column _ hb a k).trans (sum_one (divf (mulf y s) (broadcast ⟨2, ![R, 1]⟩ (Scalar.ofBits (F := Ideal) .f32 0x45000000#32))) hr1 h a)
  have he' := he.trans (congrArg₂ (fun p q : EReal => Ideal.div (p * q) (Ideal.ofBits .f32 0x45000000#32)) hs es)
  exact congrArg₂ (fun p q : EReal => (w (ix2 a k) * p + x (ix2 a k) * q) + q * x (ix2 a k)) ((spread_column r hb a k).trans er) he'

/-- What the rows give to the gains' gradient, as a call's body computes it. -/
theorem gains_of (x r dn : FVec Ideal ⟨2, ![R, 2048]⟩ .f32) (hr : Shape.Reduces ⟨2, ![R, 2048]⟩ [0] ⟨1, ![2048]⟩)
    (h : Shape.ShapeCasts ⟨1, ![2048]⟩ ⟨2, ![1, 2048]⟩) (k : Fin 2048) :
    shapeCast ⟨2, ![1, 2048]⟩ (multiReduction .add [0] ⟨1, ![2048]⟩ (mulf (mulf x r) dn) 0x00000000#32 hr (.inl rfl) rfl) h (ix2 0 k)
      = ∑ a : Fin R, x (ix2 a k) * r (ix2 a k) * dn (ix2 a k) := by
  refine (shapeCast_apply _ h (ix2 0 k) (ix1 k) (by rw [Shape.rowMajor_val_two, Shape.rowMajor_val_one]; simp)).trans
    ((Ideal.multiReduction_add_single (mulf (mulf x r) dn) _ hr (.inl rfl) rfl (ix1 k)).trans ?_)
  refine Finset.sum_congr rfl fun (a : Fin R) _ => congrArg (mulf (mulf x r) dn) (a₂ := ix2 a k) (funext fun y => Fin.ext ?_)
  match y with
  | ⟨0, _⟩ => rfl
  | ⟨1, _⟩ => rfl

end Rows

/-- A value that starts with a first term and gains the next one at every step is the sum of the terms so far. -/
theorem carried_sum {N : ℕ} (f : (n : ℕ) → n < N → EReal) (g : Fin N → EReal) (first : ∀ h : 0 < N, f 0 h = g ⟨0, h⟩)
    (next : ∀ (n : ℕ) (h : n + 1 < N), f (n + 1) h = f n (Nat.lt_of_succ_lt h) + g ⟨n + 1, h⟩) :
    ∀ (n : ℕ) (h : n < N), f n h = ∑ u : Fin (n + 1), g ⟨u.val, lt_of_le_of_lt (Nat.lt_succ_iff.mp u.isLt) h⟩
  | 0, h => (first h).trans (Fin.sum_univ_one (M := EReal) (fun u : Fin 1 => g ⟨u.val, lt_of_le_of_lt (Nat.lt_succ_iff.mp u.isLt) h⟩)).symm
  | n + 1, h => by
    refine (next n h).trans (Eq.trans ?_ (Fin.sum_univ_castSucc (M := EReal) _).symm)
    exact congrArg (fun z : EReal => z + g ⟨n + 1, h⟩) (carried_sum f g first next n (Nat.lt_of_succ_lt h))

end Cert.Norm

end
-- ==== Proof.NormGrad.lean ====
/-
  THE NORM BEFORE THE MIXERS GOING BACKWARD. Each of the thirty-two points of the launch takes 256 rows, takes their
  gradient back through the norm and adds the gradient that goes past it. The gains' gradient is summed over the points.
-/
module

public import proofs.«01_k».proof.Proof.RowGrad
public import proofs.«01_k».proof.Proof.Gen.Kernel13Ideal.Value
public import proofs.«01_k».proof.Proof.Gen.Reference13Ideal.Read
public import Idealize.ShloMosaic.Lib.Pipeline.ValueKit.Acc
public import Idealize.ShloMosaic.Lib.Pipeline.ReadBack

@[expose] public section

set_option maxRecDepth 16384

noncomputable section

namespace Cert.Kernel13Ideal.Gradient

open Cert.Kernel13Ideal Cert.Kernel13Ideal.Gen Idealize.ShloMosaic Idealize.ShloMosaic.TcCoe Idealize.ShloMosaic.ValueIdx
open Idealize.SL.Sem
open Cert.Norm (scale spread slope portion pulled spread_column spread_gain scale_of spread_of slope_of pulled_of gains_of carried_sum)
open Idealize.ShloMosaic.Pipeline (Dat)

variable (m : (ℓ : Loc nD τ sig) → Buf (Elt Ideal) ℓ) (c : Dev nD)

/-! ## The body's values -/

section Values

variable (x : Vec Ideal S256x2048 .f32) (a : Fin 256) (k : Fin 2048)

theorem pay2_apply : k0_pay2 x (ix2 a 0) = spread fun k => x (ix2 a k) := by
  unfold k0_pay2
  exact spread_of x reduces_S256x2048_S256 shapeCasts_S256_S256x1 a

theorem pay3_apply : k0_pay3 x (ix2 a 0) = scale fun k => x (ix2 a k) := by
  unfold k0_pay3 k0_pay2
  exact scale_of x reduces_S256x2048_S256 shapeCasts_S256_S256x1 a

theorem pay4_apply (dn : Vec Ideal S256x2048 .f32) :
    k0_pay4 x dn (ix2 0 k) = ∑ a : Fin 256, x (ix2 a k) * (scale fun k => x (ix2 a k)) * dn (ix2 a k) := by
  unfold k0_pay4
  refine (gains_of x (broadcastTo S256x2048 (k0_pay3 x) broadcasts_S256x1_S256x2048) dn reduces_S256x2048_S2048 shapeCasts_S2048_S1x2048 k).trans ?_
  exact Finset.sum_congr rfl fun a _ => congrArg (fun z : EReal => x (ix2 a k) * z * dn (ix2 a k))
    ((spread_column (k0_pay3 x) broadcasts_S256x1_S256x2048 a k).trans (pay3_apply x a))

theorem pay5_apply (g : FVec Ideal S1x2048 .f32) (dn ct : FVec Ideal S256x2048 .f32) :
    k0_pay5 x g dn ct (ix2 a k) = ct (ix2 a k) + pulled (fun k => x (ix2 a k)) (fun k => dn (ix2 a k) * g (ix2 0 k)) k := by
  have hw : ∀ k : Fin 2048, mulf dn (broadcastTo S256x2048 g broadcasts_S1x2048_S256x2048) (ix2 a k) = dn (ix2 a k) * g (ix2 0 k) :=
    fun k => congrArg (fun z : EReal => dn (ix2 a k) * z) (spread_gain g broadcasts_S1x2048_S256x2048 a k)
  unfold k0_pay5
  dsimp only
  rw [shapeCast_self]
  refine congrArg (fun z : EReal => ct (ix2 a k) + z) ?_
  refine (pulled_of x _ (k0_pay3 x) _ reduces_S256x2048_S256 reduces_S256x1_S256 shapeCasts_S256_S256x1 broadcasts_S256x1_S256x2048 a k
    (pay3_apply x a) (slope_of x (k0_pay3 x) (k0_pay2 x) a (pay3_apply x a) (pay2_apply x a))).trans ?_
  exact congrArg (fun w => pulled (fun k => x (ix2 a k)) w k) (funext hw)

end Values

/-! ## What the body leaves -/

section Points

variable (t : Fin cfg0.N)

/-- The gains' gradient so far. -/
def buffer (n : ℕ) (hn : n < cfg0.N) : FVec Ideal S1x2048 .f32 := (outsAt0 m c n hn).2

theorem cases_at : (t.val % 32 = 0 ∧ ¬1 ≤ t.val) ∨ (¬t.val % 32 = 0 ∧ 1 ≤ t.val) := by
  have : t.val < 32 := lt_of_lt_of_eq t.isLt N_0
  omega

theorem outs_4 : (outsAt0 m c t.val t.isLt).1 = k0_pay5 (iblk m c 0 t) (iblk m c 1 t) (iblk m c 2 t) (iblk m c 3 t) := by
  rcases cases_at t with ⟨h0, h1⟩ | ⟨h0, h1⟩
  · rw [outsAt0_A m c t h0 h1]
    dsimp only
    frame_out
  · rw [outsAt0_B m c t h0 h1]
    dsimp only
    frame_out

theorem outs_5_A (h0 : t.val % 32 = 0) (h1 : ¬1 ≤ t.val) : buffer m c t.val t.isLt = k0_pay4 (iblk m c 0 t) (iblk m c 2 t) := by
  unfold buffer
  rw [outsAt0_A m c t h0 h1]
  dsimp only
  frame_out

theorem outs_5_B (h0 : ¬t.val % 32 = 0) (h1 : 1 ≤ t.val) : buffer m c t.val t.isLt
    = addf (buffer m c (t.val - 1) (Nat.lt_of_le_of_lt (Nat.sub_le _ _) t.isLt)) (k0_pay4 (iblk m c 0 t) (iblk m c 2 t)) := by
  unfold buffer
  rw [outsAt0_B m c t h0 h1]
  dsimp only
  frame_out
  unfold k0_pay1
  dsimp only
  rw [shapeCast_self]

end Points

/-- After a point the buffer holds the sum of what the points so far added. -/
theorem buffer_sum (k : Fin 2048) (n : ℕ) (hn : n < cfg0.N) : buffer m c n hn (ix2 0 k)
    = ∑ u : Fin (n + 1), k0_pay4 (iblk m c 0 ⟨u.val, lt_of_le_of_lt (Nat.lt_succ_iff.mp u.isLt) hn⟩)
      (iblk m c 2 ⟨u.val, lt_of_le_of_lt (Nat.lt_succ_iff.mp u.isLt) hn⟩) (ix2 0 k) :=
  carried_sum (fun n hn => buffer m c n hn (ix2 0 k)) (fun u : Fin cfg0.N => k0_pay4 (iblk m c 0 u) (iblk m c 2 u) (ix2 0 k))
    (fun h => congrFun (outs_5_A m c ⟨0, h⟩ rfl (Nat.not_succ_le_zero 0)) (ix2 0 k))
    (fun n h => congrFun (outs_5_B m c ⟨n + 1, h⟩ (by
      have hN : n + 1 < 32 := lt_of_lt_of_eq h N_0
      show ¬(n + 1) % 32 = 0
      omega) (Nat.succ_le_succ (Nat.zero_le n))) (ix2 0 k)) n hn

/-! ## The arrays the kernel reads -/

/-- The stream, the gains, the gradient by the norm and the one that goes past it in the initial memory. -/
abbrev argH : FVec Ideal S8192x2048 .f32 := m ((c.tc : Thread nD τ).loc main_arg0)
abbrev argG : FVec Ideal S2048 .f32 := m ((c.tc : Thread nD τ).loc main_arg1)
abbrev argN : FVec Ideal S8192x2048 .f32 := m ((c.tc : Thread nD τ).loc main_arg2)
abbrev argCt : FVec Ideal S8192x2048 .f32 := m ((c.tc : Thread nD τ).loc main_arg3)

def at0 : FVec Ideal S8192x2048 .f32 := V m c main_arg0
def at1 : FVec Ideal S1x2048 .f32 := V m c main_v0
def at2 : FVec Ideal S8192x2048 .f32 := V m c main_arg2
def at3 : FVec Ideal S8192x2048 .f32 := V m c main_arg3

theorem at0_eq : at0 m c = argH m c := by
  unfold at0 V
  after_results_simp <;> rfl

theorem at1_eq : at1 m c = broadcastInDim S1x2048 ![1] bcast_S2048_S1x2048_1 (argG m c) := by
  unfold at1 V
  after_results_simp <;> rfl

theorem at2_eq : at2 m c = argN m c := by
  unfold at2 V
  after_results_simp <;> rfl

theorem at3_eq : at3 m c = argCt m c := by
  unfold at3 V
  after_results_simp <;> rfl

theorem at1_apply (k : Fin 2048) : at1 m c (ix2 0 k) = argG m c (ix1 k) :=
  (congrFun (at1_eq m c) (ix2 0 k)).trans (broadcastInDim_apply _ bcast_S2048_S1x2048_1 (argG m c) (ix2 0 k) (ix1 k) (fun a => match a with
    | ⟨0, _⟩ => by show k.val = if (2048 : Nat) = 1 then 0 else k.val; rw [if_neg (by decide)]))

/-! ## The blocks -/

/-- Where the windows over rows and over the gains are at a point. -/
theorem places (t : Fin cfg0.N) : ((win0_0.index t 0 = t.val ∧ win0_0.index t 1 = 0) ∧ (win0_1.index t 0 = 0 ∧ win0_1.index t 1 = 0))
    ∧ ((win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = 0 ∧ win0_5.index t 1 = 0)) := by
  have h : ∀ t : Fin grid0.N, ((win0_0.index t 0 = t.val ∧ win0_0.index t 1 = 0) ∧ (win0_1.index t 0 = 0 ∧ win0_1.index t 1 = 0))
    ∧ ((win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = 0 ∧ win0_5.index t 1 = 0)) := by decide +kernel
  exact h t

/-- The row of the arrays a point's block holds at a place. -/
def rowOf (t : Fin cfg0.N) (a : Fin 256) : Fin 8192 := ⟨256 * t.val + a.val, by
  have : t.val < 32 := lt_of_lt_of_eq t.isLt N_0
  omega⟩

section Reads

variable (t : Fin cfg0.N)

theorem block_0 (G : Vec Ideal S8192x2048 .f32) (a : Fin 256) (j : Fin 2048) :
    ((cfg0.win 0).blk t).view.read (Elt Ideal) G (ix2 a j) = G (ix2 (rowOf t a) j) := by
  rw [View.read_apply]
  refine congrArg G (funext fun x => Fin.ext ?_)
  obtain ⟨e0, e1⟩ := (places t).1.1
  match x with
  | ⟨0, _⟩ => show win0_0.index t 0 * 256 + 1 * a.val = 256 * t.val + a.val; rw [e0]; omega
  | ⟨1, _⟩ => show win0_0.index t 1 * 2048 + 1 * j.val = j.val; rw [e1]; omega

theorem block_1 (G : Vec Ideal S1x2048 .f32) (a : Fin 1) (j : Fin 2048) :
    ((cfg0.win 1).blk t).view.read (Elt Ideal) G (ix2 a j) = G (ix2 a j) := by
  rw [View.read_apply]
  refine congrArg G (funext fun x => Fin.ext ?_)
  obtain ⟨e0, e1⟩ := (places t).1.2
  match x with
  | ⟨0, _⟩ => show win0_1.index t 0 * 1 + 1 * a.val = a.val; rw [e0]; omega
  | ⟨1, _⟩ => show win0_1.index t 1 * 2048 + 1 * j.val = j.val; rw [e1]; omega

theorem block_2 (G : Vec Ideal S8192x2048 .f32) (a : Fin 256) (j : Fin 2048) :
    ((cfg0.win 2).blk t).view.read (Elt Ideal) G (ix2 a j) = G (ix2 (rowOf t a) j) := by
  rw [View.read_apply]
  refine congrArg G (funext fun x => Fin.ext ?_)
  obtain ⟨e0, e1⟩ := (places t).2.1.1
  match x with
  | ⟨0, _⟩ => show win0_2.index t 0 * 256 + 1 * a.val = 256 * t.val + a.val; rw [e0]; omega
  | ⟨1, _⟩ => show win0_2.index t 1 * 2048 + 1 * j.val = j.val; rw [e1]; omega

theorem block_3 (G : Vec Ideal S8192x2048 .f32) (a : Fin 256) (j : Fin 2048) :
    ((cfg0.win 3).blk t).view.read (Elt Ideal) G (ix2 a j) = G (ix2 (rowOf t a) j) := by
  rw [View.read_apply]
  refine congrArg G (funext fun x => Fin.ext ?_)
  obtain ⟨e0, e1⟩ := (places t).2.1.2
  match x with
  | ⟨0, _⟩ => show win0_3.index t 0 * 256 + 1 * a.val = 256 * t.val + a.val; rw [e0]; omega
  | ⟨1, _⟩ => show win0_3.index t 1 * 2048 + 1 * j.val = j.val; rw [e1]; omega

theorem block_4 (G : Vec Ideal S8192x2048 .f32) (a : Fin 256) (j : Fin 2048) :
    ((cfg0.win 4).blk t).view.read (Elt Ideal) G (ix2 a j) = G (ix2 (rowOf t a) j) := by
  rw [View.read_apply]
  refine congrArg G (funext fun x => Fin.ext ?_)
  obtain ⟨e0, e1⟩ := (places t).2.2.1
  match x with
  | ⟨0, _⟩ => show win0_4.index t 0 * 256 + 1 * a.val = 256 * t.val + a.val; rw [e0]; omega
  | ⟨1, _⟩ => show win0_4.index t 1 * 2048 + 1 * j.val = j.val; rw [e1]; omega

theorem block_5 (G : Vec Ideal S1x2048 .f32) (a : Fin 1) (j : Fin 2048) :
    ((cfg0.win 5).blk t).view.read (Elt Ideal) G (ix2 a j) = G (ix2 a j) := by
  rw [View.read_apply]
  refine congrArg G (funext fun x => Fin.ext ?_)
  obtain ⟨e0, e1⟩ := (places t).2.2.2
  match x with
  | ⟨0, _⟩ => show win0_5.index t 0 * 1 + 1 * a.val = a.val; rw [e0]; omega
  | ⟨1, _⟩ => show win0_5.index t 1 * 2048 + 1 * j.val = j.val; rw [e1]; omega

end Reads

theorem iblk_0 (t : Fin cfg0.N) : iblk m c 0 t = ((cfg0.win 0).blk t).view.read (Elt Ideal) (at0 m c) := by unfold iblk at0; rfl
theorem iblk_1 (t : Fin cfg0.N) : iblk m c 1 t = ((cfg0.win 1).blk t).view.read (Elt Ideal) (at1 m c) := by unfold iblk at1; rfl
theorem iblk_2 (t : Fin cfg0.N) : iblk m c 2 t = ((cfg0.win 2).blk t).view.read (Elt Ideal) (at2 m c) := by unfold iblk at2; rfl
theorem iblk_3 (t : Fin cfg0.N) : iblk m c 3 t = ((cfg0.win 3).blk t).view.read (Elt Ideal) (at3 m c) := by unfold iblk at3; rfl

theorem rows_0 (t : Fin cfg0.N) (a : Fin 256) (k : Fin 2048) : iblk m c 0 t (ix2 a k) = argH m c (ix2 (rowOf t a) k) :=
  (congrFun (iblk_0 m c t) (ix2 a k)).trans ((block_0 t (at0 m c) a k).trans (congrFun (at0_eq m c) _))
theorem rows_1 (t : Fin cfg0.N) (k : Fin 2048) : iblk m c 1 t (ix2 0 k) = argG m c (ix1 k) :=
  (congrFun (iblk_1 m c t) (ix2 0 k)).trans ((block_1 t (at1 m c) 0 k).trans (at1_apply m c k))
theorem rows_2 (t : Fin cfg0.N) (a : Fin 256) (k : Fin 2048) : iblk m c 2 t (ix2 a k) = argN m c (ix2 (rowOf t a) k) :=
  (congrFun (iblk_2 m c t) (ix2 a k)).trans ((block_2 t (at2 m c) a k).trans (congrFun (at2_eq m c) _))
theorem rows_3 (t : Fin cfg0.N) (a : Fin 256) (k : Fin 2048) : iblk m c 3 t (ix2 a k) = argCt m c (ix2 (rowOf t a) k) :=
  (congrFun (iblk_3 m c t) (ix2 a k)).trans ((block_3 t (at3 m c) a k).trans (congrFun (at3_eq m c) _))

/-! ## The results -/

section Results

variable (h : FVec Ideal S8192x2048 .f32) (g : FVec Ideal S2048 .f32) (dn ct : FVec Ideal S8192x2048 .f32)

/-- The gradient by the stream. -/
def streamGrads : FVec Ideal S8192x2048 .f32 :=
  fun i => ct i + pulled (fun k => h (ix2 (i 0) k)) (fun k => dn (ix2 (i 0) k) * g (ix1 k)) (i 1)

/-- What a row gives to the gains' gradient. -/
def rowGrad (k : Fin 2048) (n : Fin 8192) : EReal := h (ix2 n k) * (scale fun k => h (ix2 n k)) * dn (ix2 n k)

/-- The gradient by the gains. -/
def gainGrads : FVec Ideal S1x2048 .f32 := fun i => ∑ n : Fin 8192, rowGrad h dn (i 1) n

end Results

section Places

variable (t : Fin cfg0.N) (a : Fin 256) (b : Fin 2048)

theorem stream_at : k0_pay5 (iblk m c 0 t) (iblk m c 1 t) (iblk m c 2 t) (iblk m c 3 t) (ix2 a b)
    = streamGrads (argH m c) (argG m c) (argN m c) (argCt m c) (ix2 (rowOf t a) b) := by
  refine (pay5_apply (iblk m c 0 t) a b (iblk m c 1 t) (iblk m c 2 t) (iblk m c 3 t)).trans ?_
  refine congrArg₂ (fun u v : EReal => u + v) (rows_3 m c t a b) (congrArg₂ (fun x w => pulled x w b) (funext fun k => rows_0 m c t a k) (funext fun k => ?_))
  exact congrArg₂ (fun u v : EReal => u * v) (rows_2 m c t a k) (rows_1 m c t k)

theorem added_at (k : Fin 2048) : k0_pay4 (iblk m c 0 t) (iblk m c 2 t) (ix2 0 k)
    = ∑ a : Fin 256, rowGrad (argH m c) (argN m c) k (rowOf t a) := by
  refine (pay4_apply (iblk m c 0 t) k (iblk m c 2 t)).trans (Finset.sum_congr rfl fun a _ => ?_)
  exact congrArg₂ (fun u v : EReal => u * v) (congrArg₂ (fun u v : EReal => u * v) (rows_0 m c t a k)
    (congrArg scale (funext fun k => rows_0 m c t a k))) (rows_2 m c t a k)

end Places

/-- After the last point the buffer holds the gains' gradient. -/
theorem buffer_last (hn : 31 < cfg0.N) (k : Fin 2048) : buffer m c 31 hn (ix2 0 k) = ∑ n : Fin 8192, rowGrad (argH m c) (argN m c) k n := by
  refine (buffer_sum m c k 31 hn).trans ?_
  refine (Finset.sum_congr rfl fun u _ => added_at m c _ k).trans ?_
  generalize rowGrad (argH m c) (argN m c) k = f
  refine Eq.trans ?_ (Equiv.sum_comp (finProdFinEquiv (m := 32) (n := 256)) f)
  rw [Fintype.sum_prod_type]
  refine Finset.sum_congr rfl fun u _ => Finset.sum_congr rfl fun a _ => congrArg f (Fin.ext ?_)
  show 256 * u.val + a.val = a.val + 256 * u.val
  omega

theorem flushed_4 (t : Fin cfg0.N) :
    (dats m 0 c).flushed 4 t = ((cfg0.win 4).blk t).view.read (Elt Ideal) (streamGrads (argH m c) (argG m c) (argN m c) (argCt m c)) := by
  rw [Value.flushed4, outs_4]
  refine funext fun (y : S256x2048.Idx) => ?_
  obtain ⟨a, b, rfl⟩ : ∃ a b, y = ix2 a b := ⟨y 0, y 1, funext fun x => Fin.ext (match x with
    | ⟨0, _⟩ => rfl
    | ⟨1, _⟩ => rfl)⟩
  exact (stream_at m c t a b).trans (block_4 t (streamGrads (argH m c) (argG m c) (argN m c) (argCt m c)) a b).symm

theorem final_4 : (dats m 0 c).arrAt 4 cfg0.N = streamGrads (argH m c) (argG m c) (argN m c) (argCt m c) :=
  (dats m 0 c).arrAt_eq_of_cover 4 (streamGrads (argH m c) (argG m c) (argN m c) (argCt m c)) (fun t _ => flushed_4 m c t) fun i => by
    have h0 : (i 0 : Nat) < 8192 := (i 0).isLt
    have h1 : (i 1 : Nat) < 2048 := (i 1).isLt
    let t : Fin cfg0.N := ⟨(i 0 : Nat) / 256, lt_of_lt_of_eq (by omega : _ < 32) N_0.symm⟩
    refine ⟨t, flush0_4 t, ?_⟩
    show i ∈ ((View.whole main_v1_0).slice (win0_4.rect t)).set
    rw [View.set_slice_whole, Rect.mem_set_unit]
    obtain ⟨e0, e1⟩ := (places t).2.2.1
    have ht : t.val = (i 0 : Nat) / 256 := rfl
    intro a
    match a with
    | ⟨0, _⟩ => show win0_4.index t 0 * 256 ≤ (i 0 : Nat) ∧ (i 0 : Nat) < win0_4.index t 0 * 256 + 256; rw [e0]; omega
    | ⟨1, _⟩ => show win0_4.index t 1 * 2048 ≤ (i 1 : Nat) ∧ (i 1 : Nat) < win0_4.index t 1 * 2048 + 2048; rw [e1]; omega

theorem flushed_5 (t : Fin cfg0.N) (ht : t.val % 32 = 31) :
    (dats m 0 c).flushed 5 t = ((cfg0.win 5).blk t).view.read (Elt Ideal) (gainGrads (argH m c) (argN m c)) := by
  have hN : t.val < 32 := lt_of_lt_of_eq t.isLt N_0
  obtain ⟨n, hn⟩ := t
  obtain rfl : n = 31 := by dsimp only at ht hN; omega
  rw [Value.flushed5]
  refine funext fun (y : S1x2048.Idx) => ?_
  obtain ⟨b, rfl⟩ : ∃ b, y = ix2 0 b := ⟨y 1, funext fun x => Fin.ext (match x with
    | ⟨0, _⟩ => Nat.lt_one_iff.mp (y 0).isLt
    | ⟨1, _⟩ => rfl)⟩
  exact (buffer_last m c hn b).trans (block_5 ⟨31, hn⟩ (gainGrads (argH m c) (argN m c)) 0 b).symm

theorem final_5 : (dats m 0 c).arrAt 5 cfg0.N = gainGrads (argH m c) (argN m c) :=
  (dats m 0 c).arrAt_eq_of_cover 5 (gainGrads (argH m c) (argN m c)) (fun t ht => flushed_5 m c t ((flush0_5 t).mp ht)) fun i => by
    have h0 : (i 0 : Nat) < 1 := (i 0).isLt
    have h1 : (i 1 : Nat) < 2048 := (i 1).isLt
    let t : Fin cfg0.N := ⟨31, lt_of_lt_of_eq (by omega : _ < 32) N_0.symm⟩
    refine ⟨t, (flush0_5 t).mpr rfl, ?_⟩
    show i ∈ ((View.whole main_v1_1).slice (win0_5.rect t)).set
    rw [View.set_slice_whole, Rect.mem_set_unit]
    obtain ⟨e0, e1⟩ := (places t).2.2.2
    intro a
    match a with
    | ⟨0, _⟩ => show win0_5.index t 0 * 1 ≤ (i 0 : Nat) ∧ (i 0 : Nat) < win0_5.index t 0 * 1 + 1; rw [e0]; omega
    | ⟨1, _⟩ => show win0_5.index t 1 * 2048 ≤ (i 1 : Nat) ∧ (i 1 : Nat) < win0_5.index t 1 * 2048 + 2048; rw [e1]; omega

/-! ## The reference's results -/

section Reference

open Cert.Reference13Ideal.Read
open Cert.Reference13Ideal (S8192 S8192x1)

variable (h : FVec Ideal S8192x2048 .f32) (g : FVec Ideal S2048 .f32) (dn ct : FVec Ideal S8192x2048 .f32)

/-- The word of zero. -/
theorem zero_word : Ideal.ofBits .f32 0x00000000#32 = (0 : EReal) := Ideal.ofBits_zero_f32

theorem ref_spread (j : S8192x1.Idx) : val_main_v6 (F := Ideal) h j = spread fun k => h (ix2 (j 0) k) := by
  have hs : val_main_v1 (F := Ideal) h (idx_main_v2 j) = ∑ k : Fin 2048, h (ix2 (j 0) k) * h (ix2 (j 0) k) := by
    rw [val_main_v1_apply]
    refine (congrArg (fun z : EReal => z + _) (show val_main_cst (F := Ideal) (Shape.Idx.first Cert.Reference13Ideal.Gen.h_S_) = (0 : EReal) from zero_word)).trans ?_
    rw [zero_add]
    refine Finset.sum_congr rfl fun k _ => ?_
    have e : idx_main_v1 (idx_main_v2 j) k = ix2 (j 0) k := funext fun a => Fin.ext (match a with
      | ⟨0, _⟩ => rfl
      | ⟨1, _⟩ => rfl)
    exact (congrArg (val_main_v0 (F := Ideal) h) e).trans (val_main_v0_apply (F := Ideal) h _)
  rw [val_main_v6_apply, val_main_v4_apply, val_main_v2_apply, hs, val_main_v3_apply, val_main_v5_apply]
  rfl

theorem ref_scale (j : S8192x1.Idx) : val_main_v7 (F := Ideal) h j = scale fun k => h (ix2 (j 0) k) := by
  rw [val_main_v7_apply, ref_spread]
  rfl

theorem ref_slope (j : S8192x1.Idx) : val_main_v10 (F := Ideal) h j = slope fun k => h (ix2 (j 0) k) := by
  rw [val_main_v10_apply, val_main_v8_apply, ref_scale, ref_spread, val_main_v9_apply]
  rfl

theorem ref_row (i : S8192x2048.Idx) : val_main_v20 (F := Ideal) g dn i = dn i * g (ix1 (i 1)) := by
  rw [val_main_v20_apply, val_main_v19_apply, val_main_v13_apply]
  exact congrArg (fun z : EReal => dn i * z) (congrArg g (funext fun a => Fin.ext (match a with | ⟨0, _⟩ => rfl)))

theorem ref_share (i : S8192x2048.Idx) : val_main_v22 (F := Ideal) h g dn i = h i * (dn i * g (ix1 (i 1))) := by
  rw [val_main_v22_apply, ref_row]
  rfl

theorem ref_sum (j : S8192.Idx) : val_main_v23 (F := Ideal) h g dn j
    = ∑ k : Fin 2048, h (ix2 (j 0) k) * (dn (ix2 (j 0) k) * g (ix1 k)) := by
  rw [val_main_v23_apply]
  refine (congrArg (fun z : EReal => z + _) (show val_main_cst_5 (F := Ideal) (Shape.Idx.first Cert.Reference13Ideal.Gen.h_S_) = (0 : EReal) from zero_word)).trans ?_
  rw [zero_add]
  refine Finset.sum_congr rfl fun k _ => ?_
  have e : idx_main_v23 j k = ix2 (j 0) k := funext fun a => Fin.ext (match a with
    | ⟨0, _⟩ => rfl
    | ⟨1, _⟩ => rfl)
  exact (congrArg (val_main_v22 (F := Ideal) h g dn) e).trans (ref_share h g dn (ix2 (j 0) k))

theorem ref_portion (j : S8192.Idx) : val_main_v30 (F := Ideal) h g dn j
    = portion (fun k => h (ix2 (j 0) k)) (fun k => dn (ix2 (j 0) k) * g (ix1 k)) := by
  rw [val_main_v30_apply]
  refine (congrArg (fun z : EReal => z + _) (show val_main_cst_7 (F := Ideal) (Shape.Idx.first Cert.Reference13Ideal.Gen.h_S_) = (0 : EReal) from zero_word)).trans ?_
  rw [zero_add, Fin.sum_univ_one, val_main_v29_apply, val_main_v27_apply, val_main_v24_apply, ref_sum, ref_slope, val_main_v28_apply]
  have e : (idx_main_v24 (idx_main_v30 j 0)) 0 = j 0 := Fin.ext (by show (j 0 : Nat) * 1 + 0 = (j 0 : Nat); omega)
  rw [e]
  rfl

theorem ref_pulled (i : S8192x2048.Idx) : val_main_v35 (F := Ideal) h g dn i
    = pulled (fun k => h (ix2 (i 0) k)) (fun k => dn (ix2 (i 0) k) * g (ix1 k)) (i 1) := by
  have e : i = ix2 (i 0) (i 1) := funext fun a => Fin.ext (match a with
    | ⟨0, _⟩ => rfl
    | ⟨1, _⟩ => rfl)
  rw [val_main_v35_apply, val_main_v33_apply, val_main_v34_apply, val_main_v26_apply, val_main_v32_apply, ref_row, val_main_v25_apply, ref_scale,
    val_main_v31_apply, ref_portion]
  unfold pulled
  refine congrArg₂ (fun u v : EReal => (u * (scale fun k => h (ix2 (i 0) k)) + v * portion (fun k => h (ix2 (i 0) k)) (fun k => dn (ix2 (i 0) k) * g (ix1 k)))
    + portion (fun k => h (ix2 (i 0) k)) (fun k => dn (ix2 (i 0) k) * g (ix1 k)) * v) ?_ (congrArg h e)
  exact congrArg (fun z => dn z * g (ix1 (i 1))) e

theorem ref_rowGrad (n : Fin 8192) (k : Fin 2048) : val_main_v16 (F := Ideal) h dn (ix2 n k) = rowGrad h dn k n := by
  rw [val_main_v16_apply, val_main_v12_apply, val_main_v11_apply, ref_scale]
  rfl

theorem ref_gainGrads (j : S1x2048.Idx) : val_main_v18 (F := Ideal) h dn j = gainGrads h dn j := by
  have h0 : (j 0 : Nat) < 1 := (j 0).isLt
  rw [val_main_v18_apply, val_main_v17_apply]
  refine (congrArg (fun z : EReal => z + _) (show val_main_cst_3 (F := Ideal) (Shape.Idx.first Cert.Reference13Ideal.Gen.h_S_) = (0 : EReal) from zero_word)).trans ?_
  rw [zero_add]
  refine Finset.sum_congr rfl fun n _ => ?_
  have e : idx_main_v17 (idx_main_v18 j) n = ix2 n (j 1) := funext fun a => Fin.ext (match a with
    | ⟨0, _⟩ => rfl
    | ⟨1, _⟩ => by show (j 0 : Nat) * 2048 + (j 1 : Nat) = (j 1 : Nat); omega)
  exact (congrArg (val_main_v16 (F := Ideal) h dn) e).trans (ref_rowGrad h dn n (j 1))

theorem reference_4 : val_main_v36 (F := Ideal) h g dn ct = streamGrads h g dn ct := funext fun i => by
  rw [val_main_v36_apply, ref_pulled]
  rfl

theorem reference_5 : val_main_v37 (F := Ideal) h dn = gainGrads h dn := funext fun i => by
  rw [val_main_v37_apply, val_main_v21_apply]
  refine (congrArg (fun z : EReal => z + _) (show val_main_cst_4 (F := Ideal) (Shape.Idx.first Cert.Reference13Ideal.Gen.h_S_) = (0 : EReal) from zero_word)).trans ?_
  rw [zero_add, Fin.sum_univ_one, ref_gainGrads]
  rfl

end Reference

end Cert.Kernel13Ideal.Gradient

end
-- ==== Proof.EmbeddingGrad.lean ====
/-
  THE PER-LAYER EMBEDDING GOING BACKWARD. Each of the sixteen points of the launch takes 512 rows: from the stream's gradient
  and the saved gate and projection it computes their gradients, takes the gate's one back through its weight and through
  the rows' norm, and adds it to the stream's gradient. The gains' gradient is summed over the points.
-/
module

public import proofs.«01_k».proof.Proof.Embedding
public import proofs.«01_k».proof.Proof.NormGrad
public import proofs.«01_k».proof.Proof.Gen.Kernel12Ideal.Value
public import proofs.«01_k».proof.Proof.Gen.Reference12Ideal.Read

@[expose] public section

set_option maxRecDepth 16384

noncomputable section

namespace Cert.Kernel12Ideal.Gradient

open Cert.Kernel12Ideal Cert.Kernel12Ideal.Gen Idealize.ShloMosaic Idealize.ShloMosaic.TcCoe Idealize.ShloMosaic.ValueIdx
open Idealize.SL.Sem
open Cert.KernelIdeal.Attention (mm_nt)
open Cert.Norm (scale spread slope pulled spread_column spread_gain scale_of spread_of slope_of pulled_of gains_of carried_sum)
open Cert.Kernel11Ideal.Embedding (gates projections)
open Idealize.ShloMosaic.Pipeline (Dat)

variable (m : (ℓ : Loc nD τ sig) → Buf (Elt Ideal) ℓ) (c : Dev nD)

/-! ## The body's values -/

section Values

variable (x : Vec Ideal S512x2048 .f32) (a : Fin 512) (k : Fin 2048)

theorem pay9_apply : k0_pay9 x (ix2 a 0) = spread fun k => x (ix2 a k) := by
  unfold k0_pay9
  exact spread_of x reduces_S512x2048_S512 shapeCasts_S512_S512x1 a

theorem pay10_apply : k0_pay10 x (ix2 a 0) = scale fun k => x (ix2 a k) := by
  unfold k0_pay10 k0_pay9
  exact scale_of x reduces_S512x2048_S512 shapeCasts_S512_S512x1 a

theorem pay11_apply : k0_pay11 x (ix2 a 0) = slope fun k => x (ix2 a k) := by
  unfold k0_pay11
  exact slope_of x (k0_pay10 x) (k0_pay9 x) a (pay10_apply x a) (pay9_apply x a)

theorem pay12_apply : k0_pay12 x (ix2 a k) = scale fun k => x (ix2 a k) := by
  unfold k0_pay12
  exact (spread_column (k0_pay10 x) broadcasts_S512x1_S512x2048 a k).trans (pay10_apply x a)

theorem pay5_apply (g p : Vec Ideal S512x2048 .bf16) (i : S512x2048.Idx) :
    k0_pay5 x g p i = x i * p i * g i * (Ideal.ofBits .f32 0x3F800000#32 - g i) := by
  unfold k0_pay5 k0_pay4
  simp only [shapeCast_self]
  rfl

theorem pay6_apply (g : Vec Ideal S512x2048 .bf16) (i : S512x2048.Idx) : k0_pay6 x g i = x i * g i := by
  unfold k0_pay6 k0_pay4
  simp only [shapeCast_self]
  rfl

theorem pay7_apply (g p : Vec Ideal S512x2048 .bf16) (w : Vec Ideal S2048x2048 .bf16) :
    k0_pay7 x g p w (ix2 a k) = ∑ j : Fin 2048, k0_pay5 x g p (ix2 a j) * w (ix2 k j) := by
  unfold k0_pay7
  simp only [shapeCast_self]
  exact mm_nt (φ₁ := .bf16) (φ₂ := .bf16) (k0_pay5 x g p) w a k

theorem pay1_apply (dn r : FVec Ideal S512x2048 .f32) :
    k0_pay1 dn x r (ix2 0 k) = ∑ a : Fin 512, x (ix2 a k) * r (ix2 a k) * dn (ix2 a k) := by
  unfold k0_pay1
  exact gains_of x r dn reduces_S512x2048_S2048 shapeCasts_S2048_S1x2048 k

theorem pay2_apply (ct dn : FVec Ideal S512x2048 .f32) (g : FVec Ideal S1x2048 .f32) :
    k0_pay2 ct dn x g (k0_pay10 x) (k0_pay11 x) (ix2 a k)
      = ct (ix2 a k) + pulled (fun k => x (ix2 a k)) (fun k => dn (ix2 a k) * g (ix2 0 k)) k := by
  have hw : ∀ k : Fin 2048, mulf dn (broadcastTo S512x2048 g broadcasts_S1x2048_S512x2048) (ix2 a k) = dn (ix2 a k) * g (ix2 0 k) :=
    fun k => congrArg (fun z : EReal => dn (ix2 a k) * z) (spread_gain g broadcasts_S1x2048_S512x2048 a k)
  unfold k0_pay2
  refine congrArg (fun z : EReal => ct (ix2 a k) + z) ?_
  refine (pulled_of x _ (k0_pay10 x) (k0_pay11 x) reduces_S512x2048_S512 reduces_S512x1_S512 shapeCasts_S512_S512x1 broadcasts_S512x1_S512x2048 a k
    (pay10_apply x a) (pay11_apply x a)).trans ?_
  exact congrArg (fun w => pulled (fun k => x (ix2 a k)) w k) (funext hw)

end Values

/-! ## What the body leaves -/

section Points

variable (t : Fin cfg0.N)

/-- The gradient by the norm's rows, at a point. -/
def inner : FVec Ideal S512x2048 .f32 := k0_pay7 (iblk m c 0 t) (iblk m c 1 t) (iblk m c 2 t) (iblk m c 3 t)

/-- What a point adds to the gains' gradient. -/
def added : FVec Ideal S1x2048 .f32 := k0_pay1 (inner m c t) (iblk m c 4 t) (k0_pay12 (iblk m c 4 t))

/-- The gains' gradient so far. -/
def buffer (n : ℕ) (hn : n < cfg0.N) : FVec Ideal S1x2048 .f32 := (outsAt0 m c n hn).2.1

theorem cases_at : (t.val % 16 = 0 ∧ ¬1 ≤ t.val) ∨ (¬t.val % 16 = 0 ∧ 1 ≤ t.val) := by
  have : t.val < 16 := lt_of_lt_of_eq t.isLt N_0
  omega

theorem outs_6 : (outsAt0 m c t.val t.isLt).1
    = k0_pay2 (iblk m c 0 t) (inner m c t) (iblk m c 4 t) (k0_pay8 (iblk m c 5 t)) (k0_pay10 (iblk m c 4 t)) (k0_pay11 (iblk m c 4 t)) := by
  rcases cases_at t with ⟨h0, h1⟩ | ⟨h0, h1⟩
  · rw [outsAt0_A m c t h0 h1]
    dsimp only
    unfold inner
    frame_out
  · rw [outsAt0_B m c t h0 h1]
    dsimp only
    unfold inner
    frame_out

theorem outs_8 : (outsAt0 m c t.val t.isLt).2.2.1 = k0_pay5 (iblk m c 0 t) (iblk m c 1 t) (iblk m c 2 t) := by
  rcases cases_at t with ⟨h0, h1⟩ | ⟨h0, h1⟩
  · rw [outsAt0_A m c t h0 h1]
    dsimp only
    frame_out
  · rw [outsAt0_B m c t h0 h1]
    dsimp only
    frame_out

theorem outs_9 : (outsAt0 m c t.val t.isLt).2.2.2 = k0_pay6 (iblk m c 0 t) (iblk m c 1 t) := by
  rcases cases_at t with ⟨h0, h1⟩ | ⟨h0, h1⟩
  · rw [outsAt0_A m c t h0 h1]
    dsimp only
    frame_out
  · rw [outsAt0_B m c t h0 h1]
    dsimp only
    frame_out

theorem outs_7_A (h0 : t.val % 16 = 0) (h1 : ¬1 ≤ t.val) : buffer m c t.val t.isLt = added m c t := by
  unfold buffer added inner
  rw [outsAt0_A m c t h0 h1]
  dsimp only
  frame_out

theorem outs_7_B (h0 : ¬t.val % 16 = 0) (h1 : 1 ≤ t.val) :
    buffer m c t.val t.isLt = addf (buffer m c (t.val - 1) (Nat.lt_of_le_of_lt (Nat.sub_le _ _) t.isLt)) (added m c t) := by
  unfold buffer added inner
  rw [outsAt0_B m c t h0 h1]
  dsimp only
  frame_out
  unfold k0_pay3
  dsimp only
  rw [shapeCast_self]

end Points

/-- After a point the buffer holds the sum of what the points so far added. -/
theorem buffer_sum (k : Fin 2048) (n : ℕ) (hn : n < cfg0.N) :
    buffer m c n hn (ix2 0 k) = ∑ u : Fin (n + 1), added m c ⟨u.val, lt_of_le_of_lt (Nat.lt_succ_iff.mp u.isLt) hn⟩ (ix2 0 k) :=
  carried_sum (fun n hn => buffer m c n hn (ix2 0 k)) (fun u : Fin cfg0.N => added m c u (ix2 0 k))
    (fun h => congrFun (outs_7_A m c ⟨0, h⟩ rfl (Nat.not_succ_le_zero 0)) (ix2 0 k))
    (fun n h => congrFun (outs_7_B m c ⟨n + 1, h⟩ (by
      have hN : n + 1 < 16 := lt_of_lt_of_eq h N_0
      show ¬(n + 1) % 16 = 0
      omega) (Nat.succ_le_succ (Nat.zero_le n))) (ix2 0 k)) n hn

/-! ## The arrays the kernel reads -/

/-- The stream, the gains, the embedding, the gate's and the projection's weights and the stream's gradient in the initial memory. -/
abbrev argH : FVec Ideal S8192x2048 .f32 := m ((c.tc : Thread nD τ).loc main_arg0)
abbrev argG : FVec Ideal S2048 .f32 := m ((c.tc : Thread nD τ).loc main_arg1)
abbrev argP : FVec Ideal S8192x256 .f32 := m ((c.tc : Thread nD τ).loc main_arg2)
abbrev argGate : FVec Ideal S2048x2048 .f32 := m ((c.tc : Thread nD τ).loc main_arg3)
abbrev argProj : FVec Ideal S256x2048 .f32 := m ((c.tc : Thread nD τ).loc main_arg4)
abbrev argCt : FVec Ideal S8192x2048 .f32 := m ((c.tc : Thread nD τ).loc main_arg5)

def at0 : FVec Ideal S8192x2048 .f32 := V m c main_arg5
def at1 : FVec Ideal S8192x2048 .bf16 := V m c main_v20
def at2 : FVec Ideal S8192x2048 .bf16 := V m c main_v22
def at3 : FVec Ideal S2048x2048 .bf16 := V m c main_v23
def at4 : FVec Ideal S8192x2048 .f32 := V m c main_arg0
def at5 : FVec Ideal S1x2048 .f32 := V m c main_v24

theorem at0_eq : at0 m c = argCt m c := by
  unfold at0 V
  after_results_simp <;> rfl

theorem at1_eq : at1 m c = Cert.Reference11Ideal.Read.val_main_v24 (F := Ideal) (argH m c) (argG m c) (argGate m c) := by
  unfold at1 V
  after_results_simp <;> rfl

theorem at2_eq : at2 m c = Cert.Reference11Ideal.Read.val_main_v25 (F := Ideal) (argP m c) (argProj m c) := by
  unfold at2 V
  after_results_simp <;> rfl

theorem at3_eq : at3 m c = truncf .bf16 (argGate m c) bitsLt_bf16_f32 := by
  unfold at3 V
  after_results_simp <;> rfl

theorem at4_eq : at4 m c = argH m c := by
  unfold at4 V
  after_results_simp <;> rfl

theorem at5_eq : at5 m c = broadcastInDim S1x2048 ![1] bcast_S2048_S1x2048_1 (argG m c) := by
  unfold at5 V
  after_results_simp <;> rfl

theorem at5_apply (k : Fin 2048) : at5 m c (ix2 0 k) = argG m c (ix1 k) :=
  (congrFun (at5_eq m c) (ix2 0 k)).trans (broadcastInDim_apply _ bcast_S2048_S1x2048_1 (argG m c) (ix2 0 k) (ix1 k) (fun a => match a with
    | ⟨0, _⟩ => by show k.val = if (2048 : Nat) = 1 then 0 else k.val; rw [if_neg (by decide)]))

/-! ## The blocks -/

theorem place_0 (t : Fin cfg0.N) : win0_0.index t 0 = t.val ∧ win0_0.index t 1 = 0 := by
  have h : ∀ t : Fin grid0.N, win0_0.index t 0 = t.val ∧ win0_0.index t 1 = 0 := by decide +kernel
  exact h t
theorem place_1 (t : Fin cfg0.N) : win0_1.index t 0 = t.val ∧ win0_1.index t 1 = 0 := by
  have h : ∀ t : Fin grid0.N, win0_1.index t 0 = t.val ∧ win0_1.index t 1 = 0 := by decide +kernel
  exact h t
theorem place_2 (t : Fin cfg0.N) : win0_2.index t 0 = t.val ∧ win0_2.index t 1 = 0 := by
  have h : ∀ t : Fin grid0.N, win0_2.index t 0 = t.val ∧ win0_2.index t 1 = 0 := by decide +kernel
  exact h t
theorem place_3 (t : Fin cfg0.N) : win0_3.index t 0 = 0 ∧ win0_3.index t 1 = 0 := by
  have h : ∀ t : Fin grid0.N, win0_3.index t 0 = 0 ∧ win0_3.index t 1 = 0 := by decide +kernel
  exact h t
theorem place_4 (t : Fin cfg0.N) : win0_4.index t 0 = t.val ∧ win0_4.index t 1 = 0 := by
  have h : ∀ t : Fin grid0.N, win0_4.index t 0 = t.val ∧ win0_4.index t 1 = 0 := by decide +kernel
  exact h t
theorem place_5 (t : Fin cfg0.N) : win0_5.index t 0 = 0 ∧ win0_5.index t 1 = 0 := by
  have h : ∀ t : Fin grid0.N, win0_5.index t 0 = 0 ∧ win0_5.index t 1 = 0 := by decide +kernel
  exact h t
theorem place_6 (t : Fin cfg0.N) : win0_6.index t 0 = t.val ∧ win0_6.index t 1 = 0 := by
  have h : ∀ t : Fin grid0.N, win0_6.index t 0 = t.val ∧ win0_6.index t 1 = 0 := by decide +kernel
  exact h t
theorem place_7 (t : Fin cfg0.N) : win0_7.index t 0 = 0 ∧ win0_7.index t 1 = 0 := by
  have h : ∀ t : Fin grid0.N, win0_7.index t 0 = 0 ∧ win0_7.index t 1 = 0 := by decide +kernel
  exact h t
theorem place_8 (t : Fin cfg0.N) : win0_8.index t 0 = t.val ∧ win0_8.index t 1 = 0 := by
  have h : ∀ t : Fin grid0.N, win0_8.index t 0 = t.val ∧ win0_8.index t 1 = 0 := by decide +kernel
  exact h t
theorem place_9 (t : Fin cfg0.N) : win0_9.index t 0 = t.val ∧ win0_9.index t 1 = 0 := by
  have h : ∀ t : Fin grid0.N, win0_9.index t 0 = t.val ∧ win0_9.index t 1 = 0 := by decide +kernel
  exact h t

/-- The row of the arrays a point's block holds at a place. -/
def rowOf (t : Fin cfg0.N) (a : Fin 512) : Fin 8192 := ⟨512 * t.val + a.val, by
  have : t.val < 16 := lt_of_lt_of_eq t.isLt N_0
  omega⟩

section Reads

variable (t : Fin cfg0.N)

theorem block_0 (G : Vec Ideal S8192x2048 .f32) (a : Fin 512) (j : Fin 2048) :
    ((cfg0.win 0).blk t).view.read (Elt Ideal) G (ix2 a j) = G (ix2 (rowOf t a) j) := by
  rw [View.read_apply]
  refine congrArg G (funext fun x => Fin.ext ?_)
  obtain ⟨e0, e1⟩ := place_0 t
  match x with
  | ⟨0, _⟩ => show win0_0.index t 0 * 512 + 1 * a.val = 512 * t.val + a.val; rw [e0]; omega
  | ⟨1, _⟩ => show win0_0.index t 1 * 2048 + 1 * j.val = j.val; rw [e1]; omega

theorem block_1 (G : Vec Ideal S8192x2048 .bf16) (a : Fin 512) (j : Fin 2048) :
    ((cfg0.win 1).blk t).view.read (Elt Ideal) G (ix2 a j) = G (ix2 (rowOf t a) j) := by
  rw [View.read_apply]
  refine congrArg G (funext fun x => Fin.ext ?_)
  obtain ⟨e0, e1⟩ := place_1 t
  match x with
  | ⟨0, _⟩ => show win0_1.index t 0 * 512 + 1 * a.val = 512 * t.val + a.val; rw [e0]; omega
  | ⟨1, _⟩ => show win0_1.index t 1 * 2048 + 1 * j.val = j.val; rw [e1]; omega

theorem block_2 (G : Vec Ideal S8192x2048 .bf16) (a : Fin 512) (j : Fin 2048) :
    ((cfg0.win 2).blk t).view.read (Elt Ideal) G (ix2 a j) = G (ix2 (rowOf t a) j) := by
  rw [View.read_apply]
  refine congrArg G (funext fun x => Fin.ext ?_)
  obtain ⟨e0, e1⟩ := place_2 t
  match x with
  | ⟨0, _⟩ => show win0_2.index t 0 * 512 + 1 * a.val = 512 * t.val + a.val; rw [e0]; omega
  | ⟨1, _⟩ => show win0_2.index t 1 * 2048 + 1 * j.val = j.val; rw [e1]; omega

theorem block_3 (G : Vec Ideal S2048x2048 .bf16) (a : Fin 2048) (j : Fin 2048) :
    ((cfg0.win 3).blk t).view.read (Elt Ideal) G (ix2 a j) = G (ix2 a j) := by
  rw [View.read_apply]
  refine congrArg G (funext fun x => Fin.ext ?_)
  obtain ⟨e0, e1⟩ := place_3 t
  match x with
  | ⟨0, _⟩ => show win0_3.index t 0 * 2048 + 1 * a.val = a.val; rw [e0]; omega
  | ⟨1, _⟩ => show win0_3.index t 1 * 2048 + 1 * j.val = j.val; rw [e1]; omega

theorem block_4 (G : Vec Ideal S8192x2048 .f32) (a : Fin 512) (j : Fin 2048) :
    ((cfg0.win 4).blk t).view.read (Elt Ideal) G (ix2 a j) = G (ix2 (rowOf t a) j) := by
  rw [View.read_apply]
  refine congrArg G (funext fun x => Fin.ext ?_)
  obtain ⟨e0, e1⟩ := place_4 t
  match x with
  | ⟨0, _⟩ => show win0_4.index t 0 * 512 + 1 * a.val = 512 * t.val + a.val; rw [e0]; omega
  | ⟨1, _⟩ => show win0_4.index t 1 * 2048 + 1 * j.val = j.val; rw [e1]; omega

theorem block_5 (G : Vec Ideal S1x2048 .f32) (a : Fin 1) (j : Fin 2048) :
    ((cfg0.win 5).blk t).view.read (Elt Ideal) G (ix2 a j) = G (ix2 a j) := by
  rw [View.read_apply]
  refine congrArg G (funext fun x => Fin.ext ?_)
  obtain ⟨e0, e1⟩ := place_5 t
  match x with
  | ⟨0, _⟩ => show win0_5.index t 0 * 1 + 1 * a.val = a.val; rw [e0]; omega
  | ⟨1, _⟩ => show win0_5.index t 1 * 2048 + 1 * j.val = j.val; rw [e1]; omega

theorem block_6 (G : Vec Ideal S8192x2048 .f32) (a : Fin 512) (j : Fin 2048) :
    ((cfg0.win 6).blk t).view.read (Elt Ideal) G (ix2 a j) = G (ix2 (rowOf t a) j) := by
  rw [View.read_apply]
  refine congrArg G (funext fun x => Fin.ext ?_)
  obtain ⟨e0, e1⟩ := place_6 t
  match x with
  | ⟨0, _⟩ => show win0_6.index t 0 * 512 + 1 * a.val = 512 * t.val + a.val; rw [e0]; omega
  | ⟨1, _⟩ => show win0_6.index t 1 * 2048 + 1 * j.val = j.val; rw [e1]; omega

theorem block_7 (G : Vec Ideal S1x2048 .f32) (a : Fin 1) (j : Fin 2048) :
    ((cfg0.win 7).blk t).view.read (Elt Ideal) G (ix2 a j) = G (ix2 a j) := by
  rw [View.read_apply]
  refine congrArg G (funext fun x => Fin.ext ?_)
  obtain ⟨e0, e1⟩ := place_7 t
  match x with
  | ⟨0, _⟩ => show win0_7.index t 0 * 1 + 1 * a.val = a.val; rw [e0]; omega
  | ⟨1, _⟩ => show win0_7.index t 1 * 2048 + 1 * j.val = j.val; rw [e1]; omega

theorem block_8 (G : Vec Ideal S8192x2048 .bf16) (a : Fin 512) (j : Fin 2048) :
    ((cfg0.win 8).blk t).view.read (Elt Ideal) G (ix2 a j) = G (ix2 (rowOf t a) j) := by
  rw [View.read_apply]
  refine congrArg G (funext fun x => Fin.ext ?_)
  obtain ⟨e0, e1⟩ := place_8 t
  match x with
  | ⟨0, _⟩ => show win0_8.index t 0 * 512 + 1 * a.val = 512 * t.val + a.val; rw [e0]; omega
  | ⟨1, _⟩ => show win0_8.index t 1 * 2048 + 1 * j.val = j.val; rw [e1]; omega

theorem block_9 (G : Vec Ideal S8192x2048 .bf16) (a : Fin 512) (j : Fin 2048) :
    ((cfg0.win 9).blk t).view.read (Elt Ideal) G (ix2 a j) = G (ix2 (rowOf t a) j) := by
  rw [View.read_apply]
  refine congrArg G (funext fun x => Fin.ext ?_)
  obtain ⟨e0, e1⟩ := place_9 t
  match x with
  | ⟨0, _⟩ => show win0_9.index t 0 * 512 + 1 * a.val = 512 * t.val + a.val; rw [e0]; omega
  | ⟨1, _⟩ => show win0_9.index t 1 * 2048 + 1 * j.val = j.val; rw [e1]; omega

end Reads

theorem iblk_0 (t : Fin cfg0.N) : iblk m c 0 t = ((cfg0.win 0).blk t).view.read (Elt Ideal) (at0 m c) := by unfold iblk at0; rfl
theorem iblk_1 (t : Fin cfg0.N) : iblk m c 1 t = ((cfg0.win 1).blk t).view.read (Elt Ideal) (at1 m c) := by unfold iblk at1; rfl
theorem iblk_2 (t : Fin cfg0.N) : iblk m c 2 t = ((cfg0.win 2).blk t).view.read (Elt Ideal) (at2 m c) := by unfold iblk at2; rfl
theorem iblk_3 (t : Fin cfg0.N) : iblk m c 3 t = ((cfg0.win 3).blk t).view.read (Elt Ideal) (at3 m c) := by unfold iblk at3; rfl
theorem iblk_4 (t : Fin cfg0.N) : iblk m c 4 t = ((cfg0.win 4).blk t).view.read (Elt Ideal) (at4 m c) := by unfold iblk at4; rfl
theorem iblk_5 (t : Fin cfg0.N) : iblk m c 5 t = ((cfg0.win 5).blk t).view.read (Elt Ideal) (at5 m c) := by unfold iblk at5; rfl

theorem rows_0 (t : Fin cfg0.N) (a : Fin 512) (k : Fin 2048) : iblk m c 0 t (ix2 a k) = argCt m c (ix2 (rowOf t a) k) :=
  (congrFun (iblk_0 m c t) (ix2 a k)).trans ((block_0 t (at0 m c) a k).trans (congrFun (at0_eq m c) _))
theorem rows_1 (t : Fin cfg0.N) (a : Fin 512) (k : Fin 2048) : iblk m c 1 t (ix2 a k) = gates (argH m c) (argG m c) (argGate m c) (ix2 (rowOf t a) k) :=
  (congrFun (iblk_1 m c t) (ix2 a k)).trans ((block_1 t (at1 m c) a k).trans
    ((congrFun (at1_eq m c) _).trans (congrFun (Cert.Kernel11Ideal.Embedding.reference_7 (argH m c) (argG m c) (argGate m c)) _)))
theorem rows_2 (t : Fin cfg0.N) (a : Fin 512) (k : Fin 2048) : iblk m c 2 t (ix2 a k) = projections (argP m c) (argProj m c) (ix2 (rowOf t a) k) :=
  (congrFun (iblk_2 m c t) (ix2 a k)).trans ((block_2 t (at2 m c) a k).trans
    ((congrFun (at2_eq m c) _).trans (congrFun (Cert.Kernel11Ideal.Embedding.reference_8 (argP m c) (argProj m c)) _)))
theorem rows_3 (t : Fin cfg0.N) (k j : Fin 2048) : iblk m c 3 t (ix2 k j) = argGate m c (ix2 k j) :=
  (congrFun (iblk_3 m c t) (ix2 k j)).trans ((block_3 t (at3 m c) k j).trans (congrFun (at3_eq m c) _))
theorem rows_4 (t : Fin cfg0.N) (a : Fin 512) (k : Fin 2048) : iblk m c 4 t (ix2 a k) = argH m c (ix2 (rowOf t a) k) :=
  (congrFun (iblk_4 m c t) (ix2 a k)).trans ((block_4 t (at4 m c) a k).trans (congrFun (at4_eq m c) _))
theorem rows_5 (t : Fin cfg0.N) (k : Fin 2048) : iblk m c 5 t (ix2 0 k) = argG m c (ix1 k) :=
  (congrFun (iblk_5 m c t) (ix2 0 k)).trans ((block_5 t (at5 m c) 0 k).trans (at5_apply m c k))

/-! ## The results -/

section Results

variable (h : FVec Ideal S8192x2048 .f32) (g : FVec Ideal S2048 .f32) (p : FVec Ideal S8192x256 .f32) (wg : FVec Ideal S2048x2048 .f32)
  (wp : FVec Ideal S256x2048 .f32) (ct : FVec Ideal S8192x2048 .f32)

/-- The gradient by the gate's product. -/
def gateGrads : FVec Ideal S8192x2048 .bf16 :=
  fun i => ct i * projections p wp i * (gates h g wg i * (Ideal.ofBits .f32 0x3F800000#32 - gates h g wg i))

/-- The gradient by the embedding's projection. -/
def projGrads : FVec Ideal S8192x2048 .bf16 := fun i => gates h g wg i * ct i

/-- The gradient by the norm. -/
def normGrads : FVec Ideal S8192x2048 .f32 := fun i => ∑ k : Fin 2048, gateGrads h g p wg wp ct (ix2 (i 0) k) * wg (ix2 (i 1) k)

/-- The gradient by the stream. -/
def streamGrads : FVec Ideal S8192x2048 .f32 := Cert.Kernel13Ideal.Gradient.streamGrads h g (normGrads h g p wg wp ct) ct

/-- What a row gives to the gains' gradient. -/
def rowGrad (k : Fin 2048) (n : Fin 8192) : EReal := Cert.Kernel13Ideal.Gradient.rowGrad h (normGrads h g p wg wp ct) k n

/-- The gradient by the gains. -/
def gainGrads : FVec Ideal S1x2048 .f32 := Cert.Kernel13Ideal.Gradient.gainGrads h (normGrads h g p wg wp ct)

end Results

section Places

variable (t : Fin cfg0.N) (a : Fin 512) (b : Fin 2048)

theorem gate_at : k0_pay5 (iblk m c 0 t) (iblk m c 1 t) (iblk m c 2 t) (ix2 a b)
    = gateGrads (argH m c) (argG m c) (argP m c) (argGate m c) (argProj m c) (argCt m c) (ix2 (rowOf t a) b) := by
  refine (pay5_apply (iblk m c 0 t) (iblk m c 1 t) (iblk m c 2 t) (ix2 a b)).trans ?_
  refine (congrArg₂ (fun (u v : EReal) => u * v * iblk m c 1 t (ix2 a b) * (Ideal.ofBits .f32 0x3F800000#32 - iblk m c 1 t (ix2 a b)))
    (rows_0 m c t a b) (rows_2 m c t a b)).trans ?_
  refine (mul_assoc (G := EReal) _ _ _).trans ?_
  exact congrArg (fun (v : EReal) => argCt m c (ix2 (rowOf t a) b) * projections (argP m c) (argProj m c) (ix2 (rowOf t a) b)
    * (v * (Ideal.ofBits .f32 0x3F800000#32 - v))) (rows_1 m c t a b)

theorem proj_at : k0_pay6 (iblk m c 0 t) (iblk m c 1 t) (ix2 a b)
    = projGrads (argH m c) (argG m c) (argGate m c) (argCt m c) (ix2 (rowOf t a) b) :=
  (pay6_apply (iblk m c 0 t) (iblk m c 1 t) (ix2 a b)).trans ((mul_comm (G := EReal) _ _).trans
    (congrArg₂ (fun u v : EReal => u * v) (rows_1 m c t a b) (rows_0 m c t a b)))

theorem norm_at : inner m c t (ix2 a b)
    = normGrads (argH m c) (argG m c) (argP m c) (argGate m c) (argProj m c) (argCt m c) (ix2 (rowOf t a) b) :=
  (pay7_apply (iblk m c 0 t) a b (iblk m c 1 t) (iblk m c 2 t) (iblk m c 3 t)).trans
    (Finset.sum_congr rfl fun k _ => congrArg₂ (fun u v : EReal => u * v) (gate_at m c t a k) (rows_3 m c t b k))

theorem gain_at (k : Fin 2048) : k0_pay8 (iblk m c 5 t) (ix2 0 k) = argG m c (ix1 k) := by
  unfold k0_pay8
  rw [shapeCast_self]
  exact rows_5 m c t k

theorem stream_at : k0_pay2 (iblk m c 0 t) (inner m c t) (iblk m c 4 t) (k0_pay8 (iblk m c 5 t)) (k0_pay10 (iblk m c 4 t)) (k0_pay11 (iblk m c 4 t)) (ix2 a b)
    = streamGrads (argH m c) (argG m c) (argP m c) (argGate m c) (argProj m c) (argCt m c) (ix2 (rowOf t a) b) := by
  refine (pay2_apply (iblk m c 4 t) a b (iblk m c 0 t) (inner m c t) (k0_pay8 (iblk m c 5 t))).trans ?_
  refine congrArg₂ (fun u v : EReal => u + v) (rows_0 m c t a b) (congrArg₂ (fun x w => pulled x w b) (funext fun k => rows_4 m c t a k) (funext fun k => ?_))
  exact congrArg₂ (fun u v : EReal => u * v) (norm_at m c t a k) (gain_at m c t k)

theorem added_at (k : Fin 2048) : added m c t (ix2 0 k)
    = ∑ a : Fin 512, rowGrad (argH m c) (argG m c) (argP m c) (argGate m c) (argProj m c) (argCt m c) k (rowOf t a) := by
  refine (pay1_apply (iblk m c 4 t) k (inner m c t) (k0_pay12 (iblk m c 4 t))).trans (Finset.sum_congr rfl fun a _ => ?_)
  refine congrArg₂ (fun u v : EReal => u * v) (congrArg₂ (fun u v : EReal => u * v) (rows_4 m c t a k) ?_) (norm_at m c t a k)
  exact (pay12_apply (iblk m c 4 t) a k).trans (congrArg scale (funext fun k => rows_4 m c t a k))

end Places

/-- After the last point the buffer holds the gains' gradient. -/
theorem buffer_last (hn : 15 < cfg0.N) (k : Fin 2048) : buffer m c 15 hn (ix2 0 k)
    = ∑ n : Fin 8192, rowGrad (argH m c) (argG m c) (argP m c) (argGate m c) (argProj m c) (argCt m c) k n := by
  refine (buffer_sum m c k 15 hn).trans ?_
  refine (Finset.sum_congr rfl fun u _ => added_at m c _ k).trans ?_
  generalize rowGrad (argH m c) (argG m c) (argP m c) (argGate m c) (argProj m c) (argCt m c) k = f
  refine Eq.trans ?_ (Equiv.sum_comp (finProdFinEquiv (m := 16) (n := 512)) f)
  rw [Fintype.sum_prod_type]
  refine Finset.sum_congr rfl fun u _ => Finset.sum_congr rfl fun a _ => congrArg f (Fin.ext ?_)
  show 512 * u.val + a.val = a.val + 512 * u.val
  omega

theorem flushed_6 (t : Fin cfg0.N) :
    (dats m 0 c).flushed 6 t = ((cfg0.win 6).blk t).view.read (Elt Ideal) (streamGrads (argH m c) (argG m c) (argP m c) (argGate m c) (argProj m c) (argCt m c)) := by
  rw [Value.flushed6, outs_6]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (stream_at m c t a b).trans (block_6 t (streamGrads (argH m c) (argG m c) (argP m c) (argGate m c) (argProj m c) (argCt m c)) a b).symm

theorem final_6 : (dats m 0 c).arrAt 6 cfg0.N = streamGrads (argH m c) (argG m c) (argP m c) (argGate m c) (argProj m c) (argCt m c) :=
  (dats m 0 c).arrAt_eq_of_cover 6 (streamGrads (argH m c) (argG m c) (argP m c) (argGate m c) (argProj m c) (argCt m c)) (fun t _ => flushed_6 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_6 t, ?_⟩
    show i ∈ ((View.whole main_v25_0).slice (win0_6.rect t)).set
    rw [View.set_slice_whole, Rect.mem_set_unit]
    obtain ⟨e0, e1⟩ := place_6 t
    have ht : t.val = (i 0 : Nat) / 512 := rfl
    intro a
    match a with
    | ⟨0, _⟩ => show win0_6.index t 0 * 512 ≤ (i 0 : Nat) ∧ (i 0 : Nat) < win0_6.index t 0 * 512 + 512; rw [e0]; omega
    | ⟨1, _⟩ => show win0_6.index t 1 * 2048 ≤ (i 1 : Nat) ∧ (i 1 : Nat) < win0_6.index t 1 * 2048 + 2048; rw [e1]; omega

theorem flushed_8 (t : Fin cfg0.N) :
    (dats m 0 c).flushed 8 t = ((cfg0.win 8).blk t).view.read (Elt Ideal) (gateGrads (argH m c) (argG m c) (argP m c) (argGate m c) (argProj m c) (argCt m c)) := by
  rw [Value.flushed8, outs_8]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (gate_at m c t a b).trans (block_8 t (gateGrads (argH m c) (argG m c) (argP m c) (argGate m c) (argProj m c) (argCt m c)) a b).symm

theorem final_8 : (dats m 0 c).arrAt 8 cfg0.N = gateGrads (argH m c) (argG m c) (argP m c) (argGate m c) (argProj m c) (argCt m c) :=
  (dats m 0 c).arrAt_eq_of_cover 8 (gateGrads (argH m c) (argG m c) (argP m c) (argGate m c) (argProj m c) (argCt m c)) (fun t _ => flushed_8 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_8 t, ?_⟩
    show i ∈ ((View.whole main_v25_2).slice (win0_8.rect t)).set
    rw [View.set_slice_whole, Rect.mem_set_unit]
    obtain ⟨e0, e1⟩ := place_8 t
    have ht : t.val = (i 0 : Nat) / 512 := rfl
    intro a
    match a with
    | ⟨0, _⟩ => show win0_8.index t 0 * 512 ≤ (i 0 : Nat) ∧ (i 0 : Nat) < win0_8.index t 0 * 512 + 512; rw [e0]; omega
    | ⟨1, _⟩ => show win0_8.index t 1 * 2048 ≤ (i 1 : Nat) ∧ (i 1 : Nat) < win0_8.index t 1 * 2048 + 2048; rw [e1]; omega

theorem flushed_9 (t : Fin cfg0.N) :
    (dats m 0 c).flushed 9 t = ((cfg0.win 9).blk t).view.read (Elt Ideal) (projGrads (argH m c) (argG m c) (argGate m c) (argCt m c)) := by
  rw [Value.flushed9, outs_9]
  refine funext fun (y : S512x2048.Idx) => ?_
  obtain ⟨a, b, rfl⟩ : ∃ a b, y = ix2 a b := ⟨y 0, y 1, funext fun x => Fin.ext (match x with
    | ⟨0, _⟩ => rfl
    | ⟨1, _⟩ => rfl)⟩
  exact (proj_at m c t a b).trans (block_9 t (projGrads (argH m c) (argG m c) (argGate m c) (argCt m c)) a b).symm

theorem final_9 : (dats m 0 c).arrAt 9 cfg0.N = projGrads (argH m c) (argG m c) (argGate m c) (argCt m c) :=
  (dats m 0 c).arrAt_eq_of_cover 9 (projGrads (argH m c) (argG m c) (argGate m c) (argCt m c)) (fun t _ => flushed_9 m c t) fun i => by
    have h0 : (i 0 : Nat) < 8192 := (i 0).isLt
    have h1 : (i 1 : Nat) < 2048 := (i 1).isLt
    let t : Fin cfg0.N := ⟨(i 0 : Nat) / 512, lt_of_lt_of_eq (by omega : _ < 16) N_0.symm⟩
    refine ⟨t, flush0_9 t, ?_⟩
    show i ∈ ((View.whole main_v25_3).slice (win0_9.rect t)).set
    rw [View.set_slice_whole, Rect.mem_set_unit]
    obtain ⟨e0, e1⟩ := place_9 t
    have ht : t.val = (i 0 : Nat) / 512 := rfl
    intro a
    match a with
    | ⟨0, _⟩ => show win0_9.index t 0 * 512 ≤ (i 0 : Nat) ∧ (i 0 : Nat) < win0_9.index t 0 * 512 + 512; rw [e0]; omega
    | ⟨1, _⟩ => show win0_9.index t 1 * 2048 ≤ (i 1 : Nat) ∧ (i 1 : Nat) < win0_9.index t 1 * 2048 + 2048; rw [e1]; omega

theorem flushed_7 (t : Fin cfg0.N) (ht : t.val % 16 = 15) :
    (dats m 0 c).flushed 7 t = ((cfg0.win 7).blk t).view.read (Elt Ideal) (gainGrads (argH m c) (argG m c) (argP m c) (argGate m c) (argProj m c) (argCt m c)) := by
  have hN : t.val < 16 := lt_of_lt_of_eq t.isLt N_0
  obtain ⟨n, hn⟩ := t
  obtain rfl : n = 15 := by dsimp only at ht hN; omega
  rw [Value.flushed7]
  refine funext fun (y : S1x2048.Idx) => ?_
  obtain ⟨b, rfl⟩ : ∃ b, y = ix2 0 b := ⟨y 1, funext fun x => Fin.ext (match x with
    | ⟨0, _⟩ => Nat.lt_one_iff.mp (y 0).isLt
    | ⟨1, _⟩ => rfl)⟩
  exact (buffer_last m c hn b).trans (block_7 ⟨15, hn⟩ (gainGrads (argH m c) (argG m c) (argP m c) (argGate m c) (argProj m c) (argCt m c)) 0 b).symm

theorem final_7 : (dats m 0 c).arrAt 7 cfg0.N = gainGrads (argH m c) (argG m c) (argP m c) (argGate m c) (argProj m c) (argCt m c) :=
  (dats m 0 c).arrAt_eq_of_cover 7 (gainGrads (argH m c) (argG m c) (argP m c) (argGate m c) (argProj m c) (argCt m c)) (fun t ht => flushed_7 m c t ((flush0_7 t).mp ht)) fun i => by
    have h0 : (i 0 : Nat) < 1 := (i 0).isLt
    have h1 : (i 1 : Nat) < 2048 := (i 1).isLt
    let t : Fin cfg0.N := ⟨15, lt_of_lt_of_eq (by omega : _ < 16) N_0.symm⟩
    refine ⟨t, (flush0_7 t).mpr rfl, ?_⟩
    show i ∈ ((View.whole main_v25_1).slice (win0_7.rect t)).set
    rw [View.set_slice_whole, Rect.mem_set_unit]
    obtain ⟨e0, e1⟩ := place_7 t
    intro a
    match a with
    | ⟨0, _⟩ => show win0_7.index t 0 * 1 ≤ (i 0 : Nat) ∧ (i 0 : Nat) < win0_7.index t 0 * 1 + 1; rw [e0]; omega
    | ⟨1, _⟩ => show win0_7.index t 1 * 2048 ≤ (i 1 : Nat) ∧ (i 1 : Nat) < win0_7.index t 1 * 2048 + 2048; rw [e1]; omega

/-! ## The reference's results -/

section Reference

open Cert.Reference12Ideal.Read

variable (h : FVec Ideal S8192x2048 .f32) (g : FVec Ideal S2048 .f32) (p : FVec Ideal S8192x256 .f32) (wg : FVec Ideal S2048x2048 .f32)
  (wp : FVec Ideal S256x2048 .f32) (ct : FVec Ideal S8192x2048 .f32)

theorem ref_gate (i : S8192x2048.Idx) : val_main_v23 (F := Ideal) h g wg i = gates h g wg i :=
  (congrFun (show val_main_v23 (F := Ideal) h g wg = Cert.Reference11Ideal.Read.val_main_v19 (F := Ideal) h g wg from rfl) i).trans
    (Cert.Kernel11Ideal.Embedding.ref_gate h g wg i)

theorem ref_proj (i : S8192x2048.Idx) : val_main_v17 (F := Ideal) p wp i = projections p wp i :=
  (congrFun (show val_main_v17 (F := Ideal) p wp = Cert.Reference11Ideal.Read.val_main_v20 (F := Ideal) p wp from rfl) i).trans
    (Cert.Kernel11Ideal.Embedding.ref_proj p wp i)

theorem ref_ct (i : S8192x2048.Idx) : val_main_v29 (F := Ideal) ct i = ct i := by
  rw [val_main_v29_apply]
  refine congrArg ct (funext fun a => Fin.ext ?_)
  have h1 : (i 1 : Nat) < 2048 := (i 1).isLt
  match a with
  | ⟨0, _⟩ => show ((i 0 : Nat) * 2048 + (i 1 : Nat)) / 2048 = (i 0 : Nat); omega
  | ⟨1, _⟩ => show ((i 0 : Nat) * 2048 + (i 1 : Nat)) % 2048 = (i 1 : Nat); omega

theorem ref_gateGrads (i : S8192x2048.Idx) : val_main_v32 (F := Ideal) h g p wg wp ct i = gateGrads h g p wg wp ct i := by
  rw [val_main_v32_apply, val_main_v31_apply, val_main_v26_apply, val_main_v25_apply, ref_ct, ref_proj, ref_gate, val_main_v24_apply]
  rfl

theorem ref_normGrads (i : S8192x2048.Idx) : val_main_v33 (F := Ideal) h g p wg wp ct i = normGrads h g p wg wp ct i := by
  rw [val_main_v33_apply]
  refine Finset.sum_congr rfl fun k _ => congrArg₂ (fun u v : EReal => u * v) ?_ (congrArg wg (funext fun a => Fin.ext ?_))
  · refine (ref_gateGrads h g p wg wp ct _).trans (congrArg (gateGrads h g p wg wp ct) (funext fun a => Fin.ext ?_))
    match a with
    | ⟨0, _⟩ => rfl
    | ⟨1, _⟩ => rfl
  · match a with
    | ⟨0, _⟩ => rfl
    | ⟨1, _⟩ => rfl

theorem ref_norm : val_main_v33 (F := Ideal) h g p wg wp ct = normGrads h g p wg wp ct := funext (ref_normGrads h g p wg wp ct)

theorem reference_6 : val_main_v54 (F := Ideal) h g p wg wp ct = streamGrads h g p wg wp ct :=
  (show val_main_v54 (F := Ideal) h g p wg wp ct
      = Cert.Reference13Ideal.Read.val_main_v36 (F := Ideal) h g (val_main_v33 (F := Ideal) h g p wg wp ct) ct from rfl).trans
    ((congrArg (fun dn => Cert.Reference13Ideal.Read.val_main_v36 (F := Ideal) h g dn ct) (ref_norm h g p wg wp ct)).trans
      (Cert.Kernel13Ideal.Gradient.reference_4 h g (normGrads h g p wg wp ct) ct))

theorem reference_7 : val_main_v55 (F := Ideal) h g p wg wp ct = gainGrads h g p wg wp ct :=
  (show val_main_v55 (F := Ideal) h g p wg wp ct
      = Cert.Reference13Ideal.Read.val_main_v37 (F := Ideal) h (val_main_v33 (F := Ideal) h g p wg wp ct) from rfl).trans
    ((congrArg (fun dn => Cert.Reference13Ideal.Read.val_main_v37 (F := Ideal) h dn) (ref_norm h g p wg wp ct)).trans
      (Cert.Kernel13Ideal.Gradient.reference_5 h (normGrads h g p wg wp ct)))

theorem reference_8 : val_main_v56 (F := Ideal) h g p wg wp ct = gateGrads h g p wg wp ct := funext fun i =>
  (val_main_v56_apply (F := Ideal) h g p wg wp ct i).trans (ref_gateGrads h g p wg wp ct i)

theorem reference_9 : val_main_v57 (F := Ideal) h g wg ct = projGrads h g wg ct := funext fun i => by
  refine (val_main_v57_apply (F := Ideal) h g wg ct i).trans ?_
  rw [val_main_v30_apply, ref_gate, ref_ct]
  rfl

end Reference

end Cert.Kernel12Ideal.Gradient

end
-- ==== Proof.lean ====
/-
  THE PROOF OF `Cert.Claim`: the frames of the kernel, of its reading over the extended reals and of the reference; that
  the reading keeps the kernel, its one named constant being log 2; and that, where the arguments are finite, kernel
  and reference leave the same three gradients.
-/
module

public import proofs.«01_k».proof.Defs
public import proofs.«01_k».proof.Proof.Gen.Kernel
public import proofs.«01_k».proof.Proof.WordLaunch
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.ProductX
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.ProductW
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.ProductOut
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.ProductBranches
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.ProductGate
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ProductPle
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.ForwardRun
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.NormProduct
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.ProductStream
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Embedding
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.EmbeddingGrad
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.NormGrad
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Attention

/-- The side conditions of the precondition. -/
theorem finite_facts : Cert.Pre_finite.Facts := ⟨by decide, by decide, by decide⟩

theorem top_word : Ideal.ofBits .f32 0x7F800000#32 = ⊤ := by simp [Ideal.ofBits, Ideal.ieee]

/-- A value whose distance from zero is below the greatest is real. -/
theorem real_of_lt {x : EReal} (h : Ideal.cmp .olt (max x (-x)) (Ideal.ofBits .f32 0x7F800000#32) = 1#1) :
    ∃ r : ℝ, x = (r : EReal) := by
  rw [top_word] at h
  have hlt : max x (-x) < ⊤ := by
    by_contra hn
    simp [Ideal.cmp, hn] at h
  induction x using EReal.rec with
  | bot => simp at hlt
  | top => simp at hlt
  | coe r => exact ⟨r, rfl⟩

theorem frame_kernel : Cert.quiescent_Kernel (hKernel := Cert.Kernel.Gen.facts) := fun m ρ _ => Cert.Kernel.Attention.frame_run m ρ

theorem frame_ideal : Cert.quiescent_KernelIdeal (hKernelIdeal := Cert.KernelIdeal.Gen.facts) :=
  fun m ρ _ => Cert.KernelIdeal.Attention.frame_run m ρ

theorem frame_ideal_finite : Cert.quiescent_KernelIdeal_pre_finite (hKernelIdeal := Cert.KernelIdeal.Gen.facts) (hPre_finite := finite_facts) :=
  fun m ρ _ => Cert.KernelIdeal.Attention.frame_run m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference_finite : Cert.quiescent_ReferenceIdeal_pre_finite (hReferenceIdeal := Cert.ReferenceIdeal.Gen.facts) (hPre_finite := finite_facts) :=
  fun m ρ _ => frame_reference m ρ trivial

theorem preserves : Cert.preserves_Kernel_KernelIdeal := IdealRules.named_const.statement Cert.KernelIdeal.κ "ln2" .f32 0x3F317218#32 _ rfl

open Cert.KernelIdeal.Attention Cert.ReferenceIdeal.Attention in
/-- Finite arguments are real functions. -/
theorem holds_of_finite (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    ∃ A : Args, Holds A (argQ m c) (argK m c) (argV m c) (argCt m c) :=
  exists_holds (fun i => real_of_lt (congrFun (h c).1 i)) (fun i => real_of_lt (congrFun (h c).2.1 i))
    (fun i => real_of_lt (congrFun (h c).2.2.1 i)) (fun i => real_of_lt (congrFun (h c).2.2.2 i))

open Cert.KernelIdeal.Attention Cert.ReferenceIdeal.Attention in
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  choose A H using holds_of_finite m hpre
  refine ⟨fun c => resultQ (A c), fun c => resultK (A c), fun c => resultV (A c), ?_, ?_⟩
  · refine (θ_run Cert.KernelIdeal.defs _ _).mono (fun r h c => ?_) (θ_run_and (run_main m g) (unchanged m g))
    exact ⟨((h.1 c).1 7).trans (final_7 (H c)), ((h.1 c).1 8).trans (final_8 (H c)), ((h.1 c).1 9).trans (final_9 (H c)), h.2 c⟩
  · refine (θ_run Cert.ReferenceIdeal.defs _ _).mono (fun r h c => ?_) (Cert.ReferenceIdeal.Value.run (F := Ideal) m' g')
    have H' : Holds (A c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
      obtain ⟨e0, e1, e2, e3⟩ := hargs c
      rw [e0, e1, e2, e3]; exact H c
    refine ⟨(h c).1.trans ((Cert.ReferenceIdeal.Read.val_main_v63_eq m' c).trans (funext fun i => result_q H' i)),
      (h c).2.1.trans ((Cert.ReferenceIdeal.Read.val_main_v64_eq m' c).trans (funext fun i => result_k H' i)),
      (h c).2.2.1.trans ((Cert.ReferenceIdeal.Read.val_main_v65_eq _ _ _).trans (funext fun i => result_v H' i)), (h c).2.2.2⟩

/-! ## The input projection's gradient by its input -/

/-- The kernel and its reading have one table of bodies. -/
theorem table2 : @Cert.Kernel2.defs Bits _ Cert.Kernel2.Gen.facts = @Cert.Kernel2Ideal.defs Bits _ Cert.Kernel2Ideal.Gen.facts :=
  congrArg (Pipeline.defs Cert.Kernel2Ideal.pcfgs) (congrArg Defs.onTc (funext fun ℓ => funext fun a => match ℓ, a with
    | 0, (_, _) => rfl
    | ⟨_ + 1, h⟩, _ => absurd h (Nat.not_lt.2 (Nat.le_add_left _ _))))

theorem frame_kernel2 : Cert.quiescent_Kernel2 (hKernel2 := Cert.Kernel2.Gen.facts) := fun m ρ _ => by
  have h := Cert.Kernel2Ideal.Gen.frame (F := Bits) m ρ
  rw [← table2] at h
  exact h

theorem frame_ideal2 : Cert.quiescent_Kernel2Ideal (hKernel2Ideal := Cert.Kernel2Ideal.Gen.facts) :=
  fun m ρ _ => Cert.Kernel2Ideal.Gen.frame m ρ

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

open Cert.Kernel2Ideal.Product in
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => gradX (argW m c) (argCt m c), ?_, ?_⟩
  · refine (θ_run Cert.Kernel2Ideal.defs _ _).mono (fun r h c => ?_) (Cert.Kernel2Ideal.Value.run_blocks m g)
    exact ⟨(h c).1.trans (final_2 m c), (h c).2⟩
  · refine (θ_run Cert.Reference2Ideal.defs _ _).mono (fun r h c => ?_) (Cert.Reference2Ideal.Value.run (F := Ideal) m' g')
    obtain ⟨-, e1, e2⟩ := hargs c
    refine ⟨(h c).1.trans ((Cert.Reference2Ideal.Read.val_main_v3_eq _ _).trans ((reference_eq _ _).trans ?_)), (h c).2⟩
    rw [e1, e2]

/-! ## The input projection's gradient by its weight -/

/-- The kernel and its reading have one table of bodies. -/
theorem table3 : @Cert.Kernel3.defs Bits _ Cert.Kernel3.Gen.facts = @Cert.Kernel3Ideal.defs Bits _ Cert.Kernel3Ideal.Gen.facts :=
  congrArg (Pipeline.defs Cert.Kernel3Ideal.pcfgs) (congrArg Defs.onTc (funext fun ℓ => funext fun a => match ℓ, a with
    | 0, (_, _) => rfl
    | ⟨_ + 1, h⟩, _ => absurd h (Nat.not_lt.2 (Nat.le_add_left _ _))))

theorem frame_kernel3 : Cert.quiescent_Kernel3 (hKernel3 := Cert.Kernel3.Gen.facts) := fun m ρ _ => by
  have h := Cert.Kernel3Ideal.Gen.frame (F := Bits) m ρ
  rw [← table3] at h
  exact h

theorem frame_ideal3 : Cert.quiescent_Kernel3Ideal (hKernel3Ideal := Cert.Kernel3Ideal.Gen.facts) :=
  fun m ρ _ => Cert.Kernel3Ideal.Gen.frame m ρ

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

open Cert.Kernel3Ideal.Product in
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => gradW (argX m c) (argCt m c), ?_, ?_⟩
  · refine (θ_run Cert.Kernel3Ideal.defs _ _).mono (fun r h c => ?_) (Cert.Kernel3Ideal.Value.run_blocks m g)
    exact ⟨(h c).1.trans (final_2 m c), (h c).2⟩
  · refine (θ_run Cert.Reference3Ideal.defs _ _).mono (fun r h c => ?_) (Cert.Reference3Ideal.Value.run (F := Ideal) m' g')
    obtain ⟨e0, -, e2⟩ := hargs c
    refine ⟨(h c).1.trans ((Cert.Reference3Ideal.Read.val_main_v17_eq _ _).trans ((reference_eq _ _).trans ?_)), (h c).2⟩
    rw [e0, e2]

/-! ## The output projection's gradient by its weight -/

/-- The kernel and its reading have one table of bodies. -/
theorem table4 : @Cert.Kernel4.defs Bits _ Cert.Kernel4.Gen.facts = @Cert.Kernel4Ideal.defs Bits _ Cert.Kernel4Ideal.Gen.facts :=
  congrArg (Pipeline.defs Cert.Kernel4Ideal.pcfgs) (congrArg Defs.onTc (funext fun ℓ => funext fun a => match ℓ, a with
    | 0, (_, _) => rfl
    | ⟨_ + 1, h⟩, _ => absurd h (Nat.not_lt.2 (Nat.le_add_left _ _))))

theorem frame_kernel4 : Cert.quiescent_Kernel4 (hKernel4 := Cert.Kernel4.Gen.facts) := fun m ρ _ => by
  have h := Cert.Kernel4Ideal.Gen.frame (F := Bits) m ρ
  rw [← table4] at h
  exact h

theorem frame_ideal4 : Cert.quiescent_Kernel4Ideal (hKernel4Ideal := Cert.Kernel4Ideal.Gen.facts) :=
  fun m ρ _ => Cert.Kernel4Ideal.Gen.frame m ρ

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal := trivial

open Cert.Kernel4Ideal.Product in
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Sums.gradOf (argX m c) (argCt m c), ?_, ?_⟩
  · refine (θ_run Cert.Kernel4Ideal.defs _ _).mono (fun r h c => ?_) (Cert.Kernel4Ideal.Value.run_blocks m g)
    exact ⟨(h c).1.trans (final_2 m c), (h c).2⟩
  · refine (θ_run Cert.Reference4Ideal.defs _ _).mono (fun r h c => ?_) (Cert.Reference4Ideal.Value.run (F := Ideal) m' g')
    obtain ⟨e0, -, e2⟩ := hargs c
    refine ⟨(h c).1.trans ((Cert.Reference4Ideal.Read.val_main_v4_eq _ _).trans ((reference_eq _ _).trans ?_)), (h c).2⟩
    rw [e0, e2]

/-! ## The output projection's gradient by its input -/

/-- The kernel and its reading have one table of bodies. -/
theorem table5 : @Cert.Kernel5.defs Bits _ Cert.Kernel5.Gen.facts = @Cert.Kernel5Ideal.defs Bits _ Cert.Kernel5Ideal.Gen.facts :=
  congrArg (Pipeline.defs Cert.Kernel5Ideal.pcfgs) (congrArg Defs.onTc (funext fun ℓ => funext fun a => match ℓ, a with
    | 0, (_, _) => rfl
    | ⟨_ + 1, h⟩, _ => absurd h (Nat.not_lt.2 (Nat.le_add_left _ _))))

theorem frame_kernel5 : Cert.quiescent_Kernel5 (hKernel5 := Cert.Kernel5.Gen.facts) := fun m ρ _ => by
  have h := Cert.Kernel5Ideal.Gen.frame (F := Bits) m ρ
  rw [← table5] at h
  exact h

theorem frame_ideal5 : Cert.quiescent_Kernel5Ideal (hKernel5Ideal := Cert.Kernel5Ideal.Gen.facts) :=
  fun m ρ _ => Cert.Kernel5Ideal.Gen.frame m ρ

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

open Cert.Kernel5Ideal.Product in
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => gradX (argW m c) (argCt m c), ?_, ?_⟩
  · refine (θ_run Cert.Kernel5Ideal.defs _ _).mono (fun r h c => ?_) (Cert.Kernel5Ideal.Value.run_blocks m g)
    exact ⟨(h c).1.trans (final_2 m c), (h c).2⟩
  · refine (θ_run Cert.Reference5Ideal.defs _ _).mono (fun r h c => ?_) (Cert.Reference5Ideal.Value.run (F := Ideal) m' g')
    obtain ⟨-, e1, e2⟩ := hargs c
    refine ⟨(h c).1.trans ((Cert.Reference5Ideal.Read.val_main_v3_eq _ _).trans ((reference_eq _ _).trans ?_)), (h c).2⟩
    rw [e1, e2]

/-! ## The gate's gradient by its weight -/

/-- The kernel and its reading have one table of bodies. -/
theorem table6 : @Cert.Kernel6.defs Bits _ Cert.Kernel6.Gen.facts = @Cert.Kernel6Ideal.defs Bits _ Cert.Kernel6Ideal.Gen.facts :=
  congrArg (Pipeline.defs Cert.Kernel6Ideal.pcfgs) (congrArg Defs.onTc (funext fun ℓ => funext fun a => match ℓ, a with
    | 0, (_, _) => rfl
    | ⟨_ + 1, h⟩, _ => absurd h (Nat.not_lt.2 (Nat.le_add_left _ _))))

theorem frame_kernel6 : Cert.quiescent_Kernel6 (hKernel6 := Cert.Kernel6.Gen.facts) := fun m ρ _ => by
  have h := Cert.Kernel6Ideal.Gen.frame (F := Bits) m ρ
  rw [← table6] at h
  exact h

theorem frame_ideal6 : Cert.quiescent_Kernel6Ideal (hKernel6Ideal := Cert.Kernel6Ideal.Gen.facts) :=
  fun m ρ _ => Cert.Kernel6Ideal.Gen.frame m ρ

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves6 : Cert.preserves_Kernel6_Kernel6Ideal := trivial

open Cert.Kernel6Ideal.Product in
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Sums.gradOf (argX m c) (argCt m c), ?_, ?_⟩
  · refine (θ_run Cert.Kernel6Ideal.defs _ _).mono (fun r h c => ?_) (Cert.Kernel6Ideal.Value.run_blocks m g)
    exact ⟨(h c).1.trans (final_2 m c), (h c).2⟩
  · refine (θ_run Cert.Reference6Ideal.defs _ _).mono (fun r h c => ?_) (Cert.Reference6Ideal.Value.run (F := Ideal) m' g')
    obtain ⟨e0, -, e2⟩ := hargs c
    refine ⟨(h c).1.trans ((Cert.Reference6Ideal.Read.val_main_v4_eq _ _).trans ((reference_eq _ _).trans ?_)), (h c).2⟩
    rw [e0, e2]

/-! ## The per-layer embedding's gradient by its projection -/

/-- The kernel and its reading have one table of bodies. -/
theorem table7 : @Cert.Kernel7.defs Bits _ Cert.Kernel7.Gen.facts = @Cert.Kernel7Ideal.defs Bits _ Cert.Kernel7Ideal.Gen.facts :=
  congrArg (Pipeline.defs Cert.Kernel7Ideal.pcfgs) (congrArg Defs.onTc (funext fun ℓ => funext fun a => match ℓ, a with
    | 0, (_, _) => rfl
    | ⟨_ + 1, h⟩, _ => absurd h (Nat.not_lt.2 (Nat.le_add_left _ _))))

theorem frame_kernel7 : Cert.quiescent_Kernel7 (hKernel7 := Cert.Kernel7.Gen.facts) := fun m ρ _ => by
  have h := Cert.Kernel7Ideal.Gen.frame (F := Bits) m ρ
  rw [← table7] at h
  exact h

theorem frame_ideal7 : Cert.quiescent_Kernel7Ideal (hKernel7Ideal := Cert.Kernel7Ideal.Gen.facts) :=
  fun m ρ _ => Cert.Kernel7Ideal.Gen.frame m ρ

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves7 : Cert.preserves_Kernel7_Kernel7Ideal := trivial

open Cert.Kernel7Ideal.Product in
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Sums.gradOf (argX m c) (argCt m c), ?_, ?_⟩
  · refine (θ_run Cert.Kernel7Ideal.defs _ _).mono (fun r h c => ?_) (Cert.Kernel7Ideal.Value.run_blocks m g)
    exact ⟨(h c).1.trans (final_2 m c), (h c).2⟩
  · refine (θ_run Cert.Reference7Ideal.defs _ _).mono (fun r h c => ?_) (Cert.Reference7Ideal.Value.run (F := Ideal) m' g')
    obtain ⟨e0, -, e2⟩ := hargs c
    refine ⟨(h c).1.trans ((Cert.Reference7Ideal.Read.val_main_v4_eq _ _).trans ((reference_eq _ _).trans ?_)), (h c).2⟩
    rw [e0, e2]

/-! ## The attention going forward -/

/-- The side conditions of the precondition. -/
theorem finite_scores_facts : Cert.Pre_finite_scores.Facts := ⟨by decide⟩

theorem frame_kernel8 : Cert.quiescent_Kernel8 (hKernel8 := Cert.Kernel8.Gen.facts) := fun m ρ _ => Cert.Kernel8.Gen.frame m ρ

theorem frame_ideal8 : Cert.quiescent_Kernel8Ideal (hKernel8Ideal := Cert.Kernel8Ideal.Gen.facts) :=
  fun m ρ _ => Cert.Kernel8Ideal.Gen.frame m ρ

theorem frame_ideal8_finite : Cert.quiescent_Kernel8Ideal_pre_finite_scores (hKernel8Ideal := Cert.Kernel8Ideal.Gen.facts)
    (hPre_finite_scores := finite_scores_facts) := fun m ρ _ => frame_ideal8 m ρ trivial

theorem frame_reference8 : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem frame_reference8_finite : Cert.quiescent_Reference8Ideal_pre_finite_scores (hReference8Ideal := Cert.Reference8Ideal.Gen.facts)
    (hPre_finite_scores := finite_scores_facts) := fun m ρ _ => frame_reference8 m ρ trivial

theorem preserves8 : Cert.preserves_Kernel8_Kernel8Ideal := IdealRules.named_const.statement Cert.Kernel8Ideal.κ "per_ln2" .f32 0x3FB8AA3B#32 _ rfl

open Cert.Kernel8Ideal.Attention Cert.Reference8Ideal.Attention in
theorem algebraic8 : Cert.algebraic_Kernel8Ideal_Reference8Ideal_pre_finite_scores (hKernel8Ideal := Cert.Kernel8Ideal.Gen.facts)
    (hReference8Ideal := Cert.Reference8Ideal.Gen.facts) (hPre_finite_scores := finite_scores_facts) := by
  intro m g m' g' hpre hargs
  choose A H using fun c : Dev Cert.Kernel8Ideal.nD => exists_scores (x0 := argQ m c) (x1 := argK m c)
    (fun i => real_of_lt (congrFun (hpre c).1 i)) (fun i => real_of_lt (congrFun (hpre c).2 i))
  refine ⟨fun c => attended (A c) (argV m c), fun c => logSum (A c), ?_, ?_⟩
  · refine (θ_run Cert.Kernel8Ideal.defs _ _).mono (fun r h c => ?_) (Cert.Kernel8Ideal.Value.run_blocks m g)
    exact ⟨(h c).1.trans (final_3 (H c)), (h c).2.1.trans (final_4 (H c)), (h c).2.2⟩
  · refine (θ_run Cert.Reference8Ideal.defs _ _).mono (fun r h c => ?_) (Cert.Reference8Ideal.Value.run (F := Ideal) m' g')
    obtain ⟨e0, e1, e2⟩ := hargs c
    have H' : Scores (A c) (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg1)) := by
      rw [e0, e1]; exact H c
    refine ⟨(h c).1.trans ((Cert.Reference8Ideal.Read.val_main_v31_eq _ _ _).trans ((result_attended H' _).trans ?_)),
      (h c).2.1.trans ((Cert.Reference8Ideal.Read.val_main_v32_eq _ _).trans (result_logSum H')), (h c).2.2⟩
    rw [e2]

/-! ## The norm and the input projections -/

/-- The kernel and its reading have one table of bodies. -/
theorem table9 : @Cert.Kernel9.defs Bits _ Cert.Kernel9.Gen.facts = @Cert.Kernel9Ideal.defs Bits _ Cert.Kernel9Ideal.Gen.facts :=
  congrArg (Pipeline.defs Cert.Kernel9Ideal.pcfgs) (congrArg Defs.onTc (funext fun ℓ => funext fun a => match ℓ, a with
    | 0, (_, _) => rfl
    | ⟨_ + 1, h⟩, _ => absurd h (Nat.not_lt.2 (Nat.le_add_left _ _))))

theorem frame_kernel9 : Cert.quiescent_Kernel9 (hKernel9 := Cert.Kernel9.Gen.facts) := fun m ρ _ => by
  have h := Cert.Kernel9Ideal.Projection.frame_run (F := Bits) m ρ
  rw [← table9] at h
  exact h

theorem frame_ideal9 : Cert.quiescent_Kernel9Ideal (hKernel9Ideal := Cert.Kernel9Ideal.Gen.facts) :=
  fun m ρ _ => Cert.Kernel9Ideal.Projection.frame_run m ρ

theorem frame_reference9 : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem preserves9 : Cert.preserves_Kernel9_Kernel9Ideal := trivial

open Cert.Kernel9Ideal.Projection Cert.Kernel11Ideal.Embedding in
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => projected (Cert.Kernel9Ideal.Projection.argH m c) (Cert.Kernel9Ideal.Projection.argG m c) (argW m c),
    fun c => norms (Cert.Kernel9Ideal.Projection.argH m c) (Cert.Kernel9Ideal.Projection.argG m c), ?_, ?_⟩
  · refine (θ_run Cert.Kernel9Ideal.defs _ _).mono (fun r h c => ?_) (θ_run_and (run_main m g) (frame_run m g))
    exact ⟨((h.1 c).1 3).trans (final_3 m c), ((h.1 c).1 4).trans (final_4 m c), h.2.1 c⟩
  · refine (θ_run Cert.Reference9Ideal.defs _ _).mono (fun r h c => ?_) (Cert.Reference9Ideal.Value.run (F := Ideal) m' g')
    obtain ⟨e0, e1, e2⟩ := hargs c
    obtain ⟨h0, h1, h2⟩ := h c
    refine ⟨h0.trans ((Cert.Reference9Ideal.Read.val_main_v27_eq _ _).trans ((reference_3 _ _ _).trans ?_)),
      h1.trans ((Cert.Reference9Ideal.Read.val_main_v28_eq _ _).trans ((reference_4 _ _).trans ?_)), h2⟩
    · rw [e0, e1, e2]
    · rw [e0, e1]

/-! ## The output projection going forward -/

/-- The kernel and its reading have one table of bodies. -/
theorem table10 : @Cert.Kernel10.defs Bits _ Cert.Kernel10.Gen.facts = @Cert.Kernel10Ideal.defs Bits _ Cert.Kernel10Ideal.Gen.facts :=
  congrArg (Pipeline.defs Cert.Kernel10Ideal.pcfgs) (congrArg Defs.onTc (funext fun ℓ => funext fun a => match ℓ, a with
    | 0, (_, _) => rfl
    | ⟨_ + 1, h⟩, _ => absurd h (Nat.not_lt.2 (Nat.le_add_left _ _))))

theorem frame_kernel10 : Cert.quiescent_Kernel10 (hKernel10 := Cert.Kernel10.Gen.facts) := fun m ρ _ => by
  have h := Cert.Kernel10Ideal.Gen.frame (F := Bits) m ρ
  rw [← table10] at h
  exact h

theorem frame_ideal10 : Cert.quiescent_Kernel10Ideal (hKernel10Ideal := Cert.Kernel10Ideal.Gen.facts) :=
  fun m ρ _ => Cert.Kernel10Ideal.Gen.frame m ρ

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves10 : Cert.preserves_Kernel10_Kernel10Ideal := trivial

open Cert.Kernel10Ideal.Product in
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => projected (argH m c) (argY m c) (argW m c), ?_, ?_⟩
  · refine (θ_run Cert.Kernel10Ideal.defs _ _).mono (fun r h c => ?_) (Cert.Kernel10Ideal.Value.run_blocks m g)
    exact ⟨(h c).1.trans (final_3 m c), (h c).2⟩
  · refine (θ_run Cert.Reference10Ideal.defs _ _).mono (fun r h c => ?_) (Cert.Reference10Ideal.Value.run (F := Ideal) m' g')
    obtain ⟨e0, e1, e2⟩ := hargs c
    refine ⟨(h c).1.trans ((Cert.Reference10Ideal.Read.val_main_v1_eq _ _ _).trans ((reference_eq _ _ _).trans ?_)), (h c).2⟩
    rw [e0, e1, e2]

/-! ## The per-layer embedding going forward -/

/-- The kernel and its reading have one table of bodies. -/
theorem table11 : @Cert.Kernel11.defs Bits _ Cert.Kernel11.Gen.facts = @Cert.Kernel11Ideal.defs Bits _ Cert.Kernel11Ideal.Gen.facts :=
  congrArg (Pipeline.defs Cert.Kernel11Ideal.pcfgs) (congrArg Defs.onTc (funext fun ℓ => funext fun a => match ℓ, a with
    | 0, (_, _) => rfl
    | ⟨_ + 1, h⟩, _ => absurd h (Nat.not_lt.2 (Nat.le_add_left _ _))))

theorem frame_kernel11 : Cert.quiescent_Kernel11 (hKernel11 := Cert.Kernel11.Gen.facts) := fun m ρ _ => by
  have h := Cert.Kernel11Ideal.Gen.frame (F := Bits) m ρ
  rw [← table11] at h
  exact h

theorem frame_ideal11 : Cert.quiescent_Kernel11Ideal (hKernel11Ideal := Cert.Kernel11Ideal.Gen.facts) :=
  fun m ρ _ => Cert.Kernel11Ideal.Gen.frame m ρ

theorem frame_reference11 : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem preserves11 : Cert.preserves_Kernel11_Kernel11Ideal := trivial

open Cert.Kernel11Ideal.Embedding in
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => streamed (argH m c) (argG m c) (argP m c) (argGate m c) (argProj m c), fun c => norms (argH m c) (argG m c),
    fun c => gates (argH m c) (argG m c) (argGate m c), fun c => projections (argP m c) (argProj m c), ?_, ?_⟩
  · refine (θ_run Cert.Kernel11Ideal.defs _ _).mono (fun r h c => ?_) (Cert.Kernel11Ideal.Value.run_blocks m g)
    obtain ⟨h0, h1, h2, h3, h4⟩ := h c
    exact ⟨h0.trans (final_5 m c), h1.trans (final_6 m c), h2.trans (final_7 m c), h3.trans (final_8 m c), h4⟩
  · refine (θ_run Cert.Reference11Ideal.defs _ _).mono (fun r h c => ?_) (Cert.Reference11Ideal.Value.run (F := Ideal) m' g')
    obtain ⟨e0, e1, e2, e3, e4⟩ := hargs c
    obtain ⟨h0, h1, h2, h3, h4⟩ := h c
    refine ⟨h0.trans ((Cert.Reference11Ideal.Read.val_main_v22_eq _ _ _ _ _).trans ((reference_5 _ _ _ _ _).trans ?_)),
      h1.trans ((Cert.Reference11Ideal.Read.val_main_v23_eq _ _).trans ((reference_6 _ _).trans ?_)),
      h2.trans ((Cert.Reference11Ideal.Read.val_main_v24_eq _ _ _).trans ((reference_7 _ _ _).trans ?_)),
      h3.trans ((Cert.Reference11Ideal.Read.val_main_v25_eq _ _).trans ((reference_8 _ _).trans ?_)), h4⟩
    · rw [e0, e1, e2, e3, e4]
    · rw [e0, e1]
    · rw [e0, e1, e3]
    · rw [e2, e4]

/-! ## The per-layer embedding going backward -/

/-- The kernel and its reading have one table of bodies. -/
theorem table12 : @Cert.Kernel12.defs Bits _ Cert.Kernel12.Gen.facts = @Cert.Kernel12Ideal.defs Bits _ Cert.Kernel12Ideal.Gen.facts :=
  congrArg (Pipeline.defs Cert.Kernel12Ideal.pcfgs) (congrArg Defs.onTc (funext fun ℓ => funext fun a => match ℓ, a with
    | 0, (_, _) => rfl
    | ⟨_ + 1, h⟩, _ => absurd h (Nat.not_lt.2 (Nat.le_add_left _ _))))

theorem frame_kernel12 : Cert.quiescent_Kernel12 (hKernel12 := Cert.Kernel12.Gen.facts) := fun m ρ _ => by
  have h := Cert.Kernel12Ideal.Gen.frame (F := Bits) m ρ
  rw [← table12] at h
  exact h

theorem frame_ideal12 : Cert.quiescent_Kernel12Ideal (hKernel12Ideal := Cert.Kernel12Ideal.Gen.facts) :=
  fun m ρ _ => Cert.Kernel12Ideal.Gen.frame m ρ

theorem frame_reference12 : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem preserves12 : Cert.preserves_Kernel12_Kernel12Ideal := trivial

open Cert.Kernel12Ideal.Gradient in
theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => streamGrads (argH m c) (argG m c) (argP m c) (argGate m c) (argProj m c) (argCt m c),
    fun c => gainGrads (argH m c) (argG m c) (argP m c) (argGate m c) (argProj m c) (argCt m c),
    fun c => gateGrads (argH m c) (argG m c) (argP m c) (argGate m c) (argProj m c) (argCt m c),
    fun c => projGrads (argH m c) (argG m c) (argGate m c) (argCt m c), ?_, ?_⟩
  · refine (θ_run Cert.Kernel12Ideal.defs _ _).mono (fun r h c => ?_) (Cert.Kernel12Ideal.Value.run_blocks m g)
    obtain ⟨h0, h1, h2, h3, h4⟩ := h c
    exact ⟨h0.trans (final_6 m c), h1.trans (final_7 m c), h2.trans (final_8 m c), h3.trans (final_9 m c), h4⟩
  · refine (θ_run Cert.Reference12Ideal.defs _ _).mono (fun r h c => ?_) (Cert.Reference12Ideal.Value.run (F := Ideal) m' g')
    obtain ⟨e0, e1, e2, e3, e4, e5⟩ := hargs c
    obtain ⟨h0, h1, h2, h3, h4⟩ := h c
    refine ⟨h0.trans ((Cert.Reference12Ideal.Read.val_main_v54_eq _ _).trans ((reference_6 _ _ _ _ _ _).trans ?_)),
      h1.trans ((Cert.Reference12Ideal.Read.val_main_v55_eq _ _ _ _ _ _).trans ((reference_7 _ _ _ _ _ _).trans ?_)),
      h2.trans ((Cert.Reference12Ideal.Read.val_main_v56_eq _ _ _ _ _ _).trans ((reference_8 _ _ _ _ _ _).trans ?_)),
      h3.trans ((Cert.Reference12Ideal.Read.val_main_v57_eq _ _ _ _).trans ((reference_9 _ _ _ _).trans ?_)), h4⟩
    · rw [e0, e1, e2, e3, e4, e5]
    · rw [e0, e1, e2, e3, e4, e5]
    · rw [e0, e1, e2, e3, e4, e5]
    · rw [e0, e1, e3, e5]
/-! ## The norm before the mixers going backward -/

/-- The kernel and its reading have one table of bodies. -/
theorem table13 : @Cert.Kernel13.defs Bits _ Cert.Kernel13.Gen.facts = @Cert.Kernel13Ideal.defs Bits _ Cert.Kernel13Ideal.Gen.facts :=
  congrArg (Pipeline.defs Cert.Kernel13Ideal.pcfgs) (congrArg Defs.onTc (funext fun ℓ => funext fun a => match ℓ, a with
    | 0, (_, _) => rfl
    | ⟨_ + 1, h⟩, _ => absurd h (Nat.not_lt.2 (Nat.le_add_left _ _))))

theorem frame_kernel13 : Cert.quiescent_Kernel13 (hKernel13 := Cert.Kernel13.Gen.facts) := fun m ρ _ => by
  have h := Cert.Kernel13Ideal.Gen.frame (F := Bits) m ρ
  rw [← table13] at h
  exact h

theorem frame_ideal13 : Cert.quiescent_Kernel13Ideal (hKernel13Ideal := Cert.Kernel13Ideal.Gen.facts) :=
  fun m ρ _ => Cert.Kernel13Ideal.Gen.frame m ρ

theorem frame_reference13 : Cert.quiescent_Reference13Ideal (hReference13Ideal := Cert.Reference13Ideal.Gen.facts) := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem preserves13 : Cert.preserves_Kernel13_Kernel13Ideal := trivial

open Cert.Kernel13Ideal.Gradient in
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => streamGrads (argH m c) (argG m c) (argN m c) (argCt m c), fun c => gainGrads (argH m c) (argN m c), ?_, ?_⟩
  · refine (θ_run Cert.Kernel13Ideal.defs _ _).mono (fun r h c => ?_) (Cert.Kernel13Ideal.Value.run_blocks m g)
    obtain ⟨h0, h1, h2⟩ := h c
    exact ⟨h0.trans (final_4 m c), h1.trans (final_5 m c), h2⟩
  · refine (θ_run Cert.Reference13Ideal.defs _ _).mono (fun r h c => ?_) (Cert.Reference13Ideal.Value.run (F := Ideal) m' g')
    obtain ⟨e0, e1, e2, e3⟩ := hargs c
    obtain ⟨h0, h1, h2⟩ := h c
    refine ⟨h0.trans ((Cert.Reference13Ideal.Read.val_main_v36_eq _ _ _ _).trans ((reference_4 _ _ _ _).trans ?_)),
      h1.trans ((Cert.Reference13Ideal.Read.val_main_v37_eq _ _).trans ((reference_5 _ _).trans ?_)), h2⟩
    · rw [e0, e1, e2, e3]
    · rw [e0, e2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  finite_facts, finite_scores_facts,
  frame_kernel, frame_ideal, frame_ideal_finite, frame_reference, frame_reference_finite,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_ideal8_finite, frame_reference8, frame_reference8_finite,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  preserves, algebraic,
  preserves2, algebraic2,
  preserves3, algebraic3,
  preserves4, algebraic4,
  preserves5, algebraic5,
  preserves6, algebraic6,
  preserves7, algebraic7,
  preserves8, algebraic8,
  preserves9, algebraic9,
  preserves10, algebraic10,
  preserves11, algebraic11,
  preserves12, algebraic12,
  preserves13, algebraic13⟩

end Cert.Proof

end
